-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_masks_one [hPre_masks_one : Cert.Pre_masks_one.Facts] (m : (ℓ : Loc Cert.KernelIdeal.nD Cert.KernelIdeal.τ Cert.KernelIdeal.sig) → Buf (Elt Ideal) ℓ) : Prop :=
  ∀ c : Dev Cert.KernelIdeal.nD,
    (Cert.Pre_masks_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_masks_one [hPre_masks_one : Cert.Pre_masks_one.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_masks_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_masks_one [hKernelIdeal : Cert.KernelIdeal.Facts] [hPre_masks_one : Cert.Pre_masks_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_masks_one m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_masks_one [hReferenceIdeal : Cert.ReferenceIdeal.Facts] [hPre_masks_one : Cert.Pre_masks_one.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_masks_one m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_masks_one [hKernelIdeal : Cert.KernelIdeal.Facts] [hReferenceIdeal : Cert.ReferenceIdeal.Facts] [hPre_masks_one : Cert.Pre_masks_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_masks_one m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_15) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v7_16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_masks_one : Cert.Pre_masks_one.Facts),
    quiescent_Kernel (hKernel := hKernel)
    ∧ quiescent_KernelIdeal (hKernelIdeal := hKernelIdeal)
    ∧ quiescent_KernelIdeal_pre_masks_one (hKernelIdeal := hKernelIdeal) (hPre_masks_one := hPre_masks_one)
    ∧ quiescent_ReferenceIdeal (hReferenceIdeal := hReferenceIdeal)
    ∧ quiescent_ReferenceIdeal_pre_masks_one (hReferenceIdeal := hReferenceIdeal) (hPre_masks_one := hPre_masks_one)
    ∧ preserves_Kernel_KernelIdeal
    ∧ algebraic_KernelIdeal_ReferenceIdeal_pre_masks_one (hKernelIdeal := hKernelIdeal) (hReferenceIdeal := hReferenceIdeal) (hPre_masks_one := hPre_masks_one)
-- ==== Pre_masks_one.lean ====
abbrev S32x32x1024 : Shape := ⟨3, ![32, 32, 1024]⟩
abbrev S1x32x2048 : Shape := ⟨3, ![1, 32, 2048]⟩
abbrev S32x32x2048 : Shape := ⟨3, ![32, 32, 2048]⟩
abbrev S1024x1024 : Shape := ⟨2, ![1024, 1024]⟩
abbrev S1024 : Shape := ⟨1, ![1024]⟩
abbrev S256x64 : Shape := ⟨2, ![256, 64]⟩
abbrev S1024x64 : Shape := ⟨2, ![1024, 64]⟩
abbrev S8x64x768 : Shape := ⟨3, ![8, 64, 768]⟩
abbrev S8x256x768 : Shape := ⟨3, ![8, 256, 768]⟩
abbrev S8x768 : Shape := ⟨2, ![8, 768]⟩
abbrev S256x128 : Shape := ⟨2, ![256, 128]⟩
abbrev S128x256 : Shape := ⟨2, ![128, 256]⟩
abbrev S_ : Shape := ⟨0, ![]⟩

class Facts : Prop where
  bcast_S_S32x32x2048 : S_.BroadcastsInDim S32x32x2048 (![] : Fin 0 → Fin S32x32x2048.rank)

variable [Facts]

def fn {F : FTy → Type} [FloatOps F] (main_arg0 : FVec F S32x32x1024 .f32) (main_arg1 : FVec F S1x32x2048 .f32) (main_arg2 : FVec F S32x32x2048 .f32) (main_arg3 : FVec F S1024x1024 .f32) (main_arg4 : FVec F S1024 .f32) (main_arg5 : FVec F S256x64 .f32) (main_arg6 : FVec F S1024x64 .f32) (main_arg7 : FVec F S1024x64 .f32) (main_arg8 : FVec F S8x64x768 .f32) (main_arg9 : FVec F S8x256x768 .f32) (main_arg10 : FVec F S8x768 .f32) (main_arg11 : FVec F S8x768 .f32) (main_arg12 : FVec F S256x128 .f32) (main_arg13 : FVec F S256x128 .f32) (main_arg14 : FVec F S256x128 .f32) (main_arg15 : FVec F S128x256 .f32) : IVec S32x32x2048 1 :=
  let main_cst : FVec F S_ .f32 := constant S_ .f32 0x3F800000#32
  let main_v0 : FVec F S32x32x2048 .f32 := broadcastInDim S32x32x2048 ![] bcast_S_S32x32x2048 main_cst
  let main_v1 : IVec S32x32x2048 1 := cmpf .oeq main_arg2 main_v0
  main_v1
-- ==== Kernel.lean ====
abbrev S32x32x1024 : Shape := ⟨3, ![32, 32, 1024]⟩
abbrev S1x32x2048 : Shape := ⟨3, ![1, 32, 2048]⟩
abbrev S32x32x2048 : Shape := ⟨3, ![32, 32, 2048]⟩
abbrev S1024x1024 : Shape := ⟨2, ![1024, 1024]⟩
abbrev S1024 : Shape := ⟨1, ![1024]⟩
abbrev S256x64 : Shape := ⟨2, ![256, 64]⟩
abbrev S1024x64 : Shape := ⟨2, ![1024, 64]⟩
abbrev S8x64x768 : Shape := ⟨3, ![8, 64, 768]⟩
abbrev S8x256x768 : Shape := ⟨3, ![8, 256, 768]⟩
abbrev S8x768 : Shape := ⟨2, ![8, 768]⟩
abbrev S256x128 : Shape := ⟨2, ![256, 128]⟩
abbrev S128x256 : Shape := ⟨2, ![128, 256]⟩
abbrev S1024x128 : Shape := ⟨2, ![1024, 128]⟩
abbrev S1x1024 : Shape := ⟨2, ![1, 1024]⟩
abbrev S32x8x256 : Shape := ⟨3, ![32, 8, 256]⟩
abbrev S8x32x256 : Shape := ⟨3, ![8, 32, 256]⟩
abbrev S256x256 : Shape := ⟨2, ![256, 256]⟩
abbrev S8x32x768 : Shape := ⟨3, ![8, 32, 768]⟩
abbrev S256x768 : Shape := ⟨2, ![256, 768]⟩
abbrev S32x256x256 : Shape := ⟨3, ![32, 256, 256]⟩
abbrev S32x8x32 : Shape := ⟨3, ![32, 8, 32]⟩
abbrev S32x128 : Shape := ⟨2, ![32, 128]⟩
abbrev S1x256x256 : Shape := ⟨3, ![1, 256, 256]⟩
abbrev S1x8x32 : Shape := ⟨3, ![1, 8, 32]⟩
abbrev S32x64 : Shape := ⟨2, ![32, 64]⟩
abbrev S64x32 : Shape := ⟨2, ![64, 32]⟩
abbrev S256x32 : Shape := ⟨2, ![256, 32]⟩
abbrev S8x32x32 : Shape := ⟨3, ![8, 32, 32]⟩
abbrev S8x32 : Shape := ⟨2, ![8, 32]⟩
abbrev S8x1x32 : Shape := ⟨3, ![8, 1, 32]⟩
abbrev S8x8x32 : Shape := ⟨3, ![8, 8, 32]⟩
abbrev S8x32x1 : Shape := ⟨3, ![8, 32, 1]⟩
abbrev S64x64 : Shape := ⟨2, ![64, 64]⟩
abbrev S1x64x768 : Shape := ⟨3, ![1, 64, 768]⟩
abbrev S64x768 : Shape := ⟨2, ![64, 768]⟩
abbrev S32x768 : Shape := ⟨2, ![32, 768]⟩
abbrev S32x256 : Shape := ⟨2, ![32, 256]⟩
abbrev S1x256x768 : Shape := ⟨3, ![1, 256, 768]⟩
abbrev S8x1x32x32 : Shape := ⟨4, ![8, 1, 32, 32]⟩
abbrev S1x8x32x32 : Shape := ⟨4, ![1, 8, 32, 32]⟩
abbrev S8x8x32x32 : Shape := ⟨4, ![8, 8, 32, 32]⟩
abbrev S1x32x32 : Shape := ⟨3, ![1, 32, 32]⟩
abbrev S32x32 : Shape := ⟨2, ![32, 32]⟩
abbrev S32x8x32x256 : Shape := ⟨4, ![32, 8, 32, 256]⟩
abbrev S32x32x8x256 : Shape := ⟨4, ![32, 32, 8, 256]⟩
abbrev S32x32x8 : Shape := ⟨3, ![32, 32, 8]⟩

abbrev nBuf : Space → Nat
  | .hbm => 37
  | .vmem => 23
  | .smem => 0
  | _ => 0

abbrev bufTy : (tb : Table) → Fin (tcTables nBuf tb) → BufTy
  | .hbm, ⟨0, _⟩ => ⟨S32x32x1024, .f32⟩
  | .hbm, ⟨1, _⟩ => ⟨S1x32x2048, .f32⟩
  | .hbm, ⟨2, _⟩ => ⟨S32x32x2048, .f32⟩
  | .hbm, ⟨3, _⟩ => ⟨S1024x1024, .f32⟩
  | .hbm, ⟨4, _⟩ => ⟨S1024, .f32⟩
  | .hbm, ⟨5, _⟩ => ⟨S256x64, .f32⟩
  | .hbm, ⟨6, _⟩ => ⟨S1024x64, .f32⟩
  | .hbm, ⟨7, _⟩ => ⟨S1024x64, .f32⟩
  | .hbm, ⟨8, _⟩ => ⟨S8x64x768, .f32⟩
  | .hbm, ⟨9, _⟩ => ⟨S8x256x768, .f32⟩
  | .hbm, ⟨10, _⟩ => ⟨S8x768, .f32⟩
  | .hbm, ⟨11, _⟩ => ⟨S8x768, .f32⟩
  | .hbm, ⟨12, _⟩ => ⟨S256x128, .f32⟩
  | .hbm, ⟨13, _⟩ => ⟨S256x128, .f32⟩
  | .hbm, ⟨14, _⟩ => ⟨S256x128, .f32⟩
  | .hbm, ⟨15, _⟩ => ⟨S128x256, .f32⟩
  | .hbm, ⟨16, _⟩ => ⟨S1024x128, .f32⟩
  | .hbm, ⟨17, _⟩ => ⟨S1024x1024, .f32⟩
  | .hbm, ⟨18, _⟩ => ⟨S1x1024, .f32⟩
  | .hbm, ⟨19, _⟩ => ⟨S1024x128, .f32⟩
  | .hbm, ⟨20, _⟩ => ⟨S32x8x256, .f32⟩
  | .hbm, ⟨21, _⟩ => ⟨S8x32x256, .f32⟩
  | .hbm, ⟨22, _⟩ => ⟨S256x256, .f32⟩
  | .hbm, ⟨23, _⟩ => ⟨S8x32x768, .f32⟩
  | .hbm, ⟨24, _⟩ => ⟨S256x768, .f32⟩
  | .hbm, ⟨25, _⟩ => ⟨S8x32x768, .f32⟩
  | .hbm, ⟨26, _⟩ => ⟨S256x768, .f32⟩
  | .hbm, ⟨27, _⟩ => ⟨S32x256x256, .f32⟩
  | .hbm, ⟨28, _⟩ => ⟨S256x256, .f32⟩
  | .hbm, ⟨29, _⟩ => ⟨S32x8x32, .f32⟩
  | .hbm, ⟨30, _⟩ => ⟨S32x8x32x256, .f32⟩
  | .hbm, ⟨31, _⟩ => ⟨S32x32x8x256, .f32⟩
  | .hbm, ⟨32, _⟩ => ⟨S32x32x2048, .f32⟩
  | .hbm, ⟨33, _⟩ => ⟨S8x32x256, .f32⟩
  | .hbm, ⟨34, _⟩ => ⟨S32x8x256, .f32⟩
  | .hbm, ⟨35, _⟩ => ⟨S1x32x2048, .f32⟩
  | .hbm, ⟨36, _⟩ => ⟨S32x32x8, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x128, .f32⟩
  | .local _ .vmem, ⟨4, _⟩ => ⟨S1024x128, .f32⟩
  | .local _ .vmem, ⟨5, _⟩ => ⟨S32x128, .f32⟩
  | .local _ .vmem, ⟨6, _⟩ => ⟨S32x128, .f32⟩
  | .local _ .vmem, ⟨7, _⟩ => ⟨S256x256, .f32⟩
  | .local _ .vmem, ⟨8, _⟩ => ⟨S256x64, .f32⟩
  | .local _ .vmem, ⟨9, _⟩ => ⟨S8x64x768, .f32⟩
  | .local _ .vmem, ⟨10, _⟩ => ⟨S8x256x768, .f32⟩
  | .local _ .vmem, ⟨11, _⟩ => ⟨S256x768, .f32⟩
  | .local _ .vmem, ⟨12, _⟩ => ⟨S256x768, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S128x256, .f32⟩
  | .local _ .vmem, ⟨17, _⟩ => ⟨S1x256x256, .f32⟩
  | .local _ .vmem, ⟨18, _⟩ => ⟨S1x256x256, .f32⟩
  | .local _ .vmem, ⟨19, _⟩ => ⟨S256x256, .f32⟩
  | .local _ .vmem, ⟨20, _⟩ => ⟨S1x8x32, .f32⟩
  | .local _ .vmem, ⟨21, _⟩ => ⟨S1x8x32, .f32⟩
  | .local _ .vmem, ⟨22, _⟩ => ⟨S256x256, .f32⟩
  | _, _ => ⟨S32x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11_0 : Ref sig .tc := ⟨.hbm, 27, rfl⟩
abbrev main_v11_1 : Ref sig .tc := ⟨.hbm, 28, rfl⟩
abbrev main_v11_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc1_stg10_0 : Ref sig .tc := ⟨.vmem, 16, rfl⟩
abbrev cc1_stg11_0 : Ref sig .tc := ⟨.vmem, 17, rfl⟩
abbrev cc1_stg11_1 : Ref sig .tc := ⟨.vmem, 18, rfl⟩
abbrev cc1_stg12_0 : Ref sig .tc := ⟨.vmem, 19, rfl⟩
abbrev cc1_stg13_0 : Ref sig .tc := ⟨.vmem, 20, rfl⟩
abbrev cc1_stg13_1 : Ref sig .tc := ⟨.vmem, 21, rfl⟩
abbrev cc1_scratch0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem11_0 : DmaSem sig := 17
abbrev cc1_sem11_1 : DmaSem sig := 18
abbrev cc1_sem12_0 : DmaSem sig := 19
abbrev cc1_sem13_0 : DmaSem sig := 20
abbrev cc1_sem13_1 : DmaSem sig := 21

abbrev nD : Nat := 1
abbrev τ : Topo := Topo.v7x

variable {F : FTy → Type} [FloatOps F]

abbrev grid0 : Pipeline.Grid := .none

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![32], ![false]⟩

def k1_cond2 (i : grid1.Coords) : BitVec 1 :=
  let arg0 : BitVec 32 := BitVec.ofNat 32 (i 0).val
  let c31_i32 : BitVec 32 := 31#32
  let v631 : BitVec 1 := Scalar.cmpi .eq arg0 c31_i32
  let v632 : BitVec 32 := Scalar.extui v631
  let c0_i32_115 : BitVec 32 := 0#32
  let v633 : BitVec 1 := Scalar.cmpi .ne v632 c0_i32_115
  v633

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S32x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x64x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x256x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x768 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S1x256x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S256x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S1x8x32 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== ReferenceIdeal.lean ====
abbrev S32x32x1024 : Shape := ⟨3, ![32, 32, 1024]⟩
abbrev S1x32x2048 : Shape := ⟨3, ![1, 32, 2048]⟩
abbrev S32x32x2048 : Shape := ⟨3, ![32, 32, 2048]⟩
abbrev S1024x1024 : Shape := ⟨2, ![1024, 1024]⟩
abbrev S1024 : Shape := ⟨1, ![1024]⟩
abbrev S256x64 : Shape := ⟨2, ![256, 64]⟩
abbrev S1024x64 : Shape := ⟨2, ![1024, 64]⟩
abbrev S8x64x768 : Shape := ⟨3, ![8, 64, 768]⟩
abbrev S8x256x768 : Shape := ⟨3, ![8, 256, 768]⟩
abbrev S8x768 : Shape := ⟨2, ![8, 768]⟩
abbrev S256x128 : Shape := ⟨2, ![256, 128]⟩
abbrev S128x256 : Shape := ⟨2, ![128, 256]⟩
abbrev S1x1x1024 : Shape := ⟨3, ![1, 1, 1024]⟩
abbrev S32x2048 : Shape := ⟨2, ![32, 2048]⟩
abbrev S_ : Shape := ⟨0, ![]⟩
abbrev S32x32x8 : Shape := ⟨3, ![32, 32, 8]⟩
abbrev S1x32x1024 : Shape := ⟨3, ![1, 32, 1024]⟩
abbrev S32x1024 : Shape := ⟨2, ![32, 1024]⟩
abbrev S32x8x256 : Shape := ⟨3, ![32, 8, 256]⟩
abbrev S32x1x1024 : Shape := ⟨3, ![32, 1, 1024]⟩
abbrev S32x2x1024 : Shape := ⟨3, ![32, 2, 1024]⟩
abbrev S32x8x64 : Shape := ⟨3, ![32, 8, 64]⟩
abbrev S32x2x64 : Shape := ⟨3, ![32, 2, 64]⟩
abbrev S32x8x2 : Shape := ⟨3, ![32, 8, 2]⟩
abbrev S32x8 : Shape := ⟨2, ![32, 8]⟩
abbrev S32x8x1 : Shape := ⟨3, ![32, 8, 1]⟩
abbrev S32x4 : Shape := ⟨2, ![32, 4]⟩
abbrev S32 : Shape := ⟨1, ![32]⟩
abbrev S32x1 : Shape := ⟨2, ![32, 1]⟩
abbrev S32x4x1 : Shape := ⟨3, ![32, 4, 1]⟩
abbrev S32x4x2 : Shape := ⟨3, ![32, 4, 2]⟩
abbrev S8x768x32 : Shape := ⟨3, ![8, 768, 32]⟩
abbrev S32x8x768 : Shape := ⟨3, ![32, 8, 768]⟩
abbrev S1x8x768 : Shape := ⟨3, ![1, 8, 768]⟩
abbrev S32x8x128 : Shape := ⟨3, ![32, 8, 128]⟩
abbrev S32x8x4x32 : Shape := ⟨4, ![32, 8, 4, 32]⟩
abbrev S32x4x8x8 : Shape := ⟨4, ![32, 4, 8, 8]⟩
abbrev S32x4x8 : Shape := ⟨3, ![32, 4, 8]⟩
abbrev S32x4x8x1 : Shape := ⟨4, ![32, 4, 8, 1]⟩
abbrev S32x4x32x8 : Shape := ⟨4, ![32, 4, 32, 8]⟩
abbrev S1x32x8 : Shape := ⟨3, ![1, 32, 8]⟩

abbrev nBuf : Space → Nat
  | .hbm => 210
  | .vmem => 0
  | .smem => 0
  | _ => 0

abbrev hbmTy0_0 (i : Nat) : BufTy := match i % 128 with
  | 0 => ⟨S32x32x1024, .f32⟩
  | 1 => ⟨S1x32x2048, .f32⟩
  | 2 => ⟨S32x32x2048, .f32⟩
  | 3 => ⟨S1024x1024, .f32⟩
  | 4 => ⟨S1024, .f32⟩
  | 5 => ⟨S256x64, .f32⟩
  | 6 => ⟨S1024x64, .f32⟩
  | 7 => ⟨S1024x64, .f32⟩
  | 8 => ⟨S8x64x768, .f32⟩
  | 9 => ⟨S8x256x768, .f32⟩
  | 10 => ⟨S8x768, .f32⟩
  | 11 => ⟨S8x768, .f32⟩
  | 12 => ⟨S256x128, .f32⟩
  | 13 => ⟨S256x128, .f32⟩
  | 14 => ⟨S256x128, .f32⟩
  | 15 => ⟨S128x256, .f32⟩
  | 16 => ⟨S32x32x1024, .f32⟩
  | 17 => ⟨S1x1x1024, .f32⟩
  | 18 => ⟨S32x32x1024, .f32⟩
  | 19 => ⟨S32x32x1024, .f32⟩
  | 20 => ⟨S32x2048, .f32⟩
  | 21 => ⟨S_, .f32⟩
  | 22 => ⟨S32x32x2048, .f32⟩
  | 23 => ⟨S_, .f32⟩
  | 24 => ⟨S32x32x8, .f32⟩
  | 25 => ⟨S_, .i32⟩
  | 26 => ⟨S32x32x1024, .f32⟩
  | 27 => ⟨S32x32x2048, .f32⟩
  | 28 => ⟨S256x64, .f32⟩
  | 29 => ⟨S1024x64, .f32⟩
  | 30 => ⟨S1024x64, .f32⟩
  | 31 => ⟨S8x64x768, .f32⟩
  | 32 => ⟨S8x768, .f32⟩
  | 33 => ⟨S8x256x768, .f32⟩
  | 34 => ⟨S8x768, .f32⟩
  | 35 => ⟨S256x128, .f32⟩
  | 36 => ⟨S256x128, .f32⟩
  | 37 => ⟨S256x128, .f32⟩
  | 38 => ⟨S128x256, .f32⟩
  | 39 => ⟨S_, .i32⟩
  | 40 => ⟨S32x2048, .f32⟩
  | 41 => ⟨S32x32x2048, .f32⟩
  | 42 => ⟨S32x32x8, .f32⟩
  | 43 => ⟨S_, .i32⟩
  | 44 => ⟨S_, .i1⟩
  | 45 => ⟨S_, .i32⟩
  | 46 => ⟨S_, .i32⟩
  | 47 => ⟨S1x32x1024, .f32⟩
  | 48 => ⟨S32x1024, .f32⟩
  | 49 => ⟨S_, .i32⟩
  | 50 => ⟨S_, .i32⟩
  | 51 => ⟨S1x32x2048, .f32⟩
  | 52 => ⟨S32x2048, .f32⟩
  | 53 => ⟨S32x8x256, .f32⟩
  | 54 => ⟨S_, .f32⟩
  | 55 => ⟨S32x1024, .f32⟩
  | 56 => ⟨S32x1x1024, .f32⟩
  | 57 => ⟨S32x1x1024, .f32⟩
  | 58 => ⟨S32x2x1024, .f32⟩
  | 59 => ⟨S32x8x64, .f32⟩
  | 60 => ⟨S32x2x64, .f32⟩
  | 61 => ⟨S32x2x64, .f32⟩
  | 62 => ⟨S32x8x2, .f32⟩
  | 63 => ⟨S_, .f32⟩
  | 64 => ⟨S_, .f32⟩
  | 65 => ⟨S32x8x2, .f32⟩
  | 66 => ⟨S32x8x2, .f32⟩
  | 67 => ⟨S_, .f32⟩
  | 68 => ⟨S32x8, .f32⟩
  | 69 => ⟨S_, .f32⟩
  | 70 => ⟨S32x8, .f32⟩
  | 71 => ⟨S32x8, .f32⟩
  | 72 => ⟨S32x8x1, .f32⟩
  | 73 => ⟨S32x8x2, .f32⟩
  | 74 => ⟨S32x8x2, .f32⟩
  | 75 => ⟨S32x8x2, .f32⟩
  | 76 => ⟨S_, .f32⟩
  | 77 => ⟨S32x8, .f32⟩
  | 78 => ⟨S32x8x1, .f32⟩
  | 79 => ⟨S32x8x2, .f32⟩
  | 80 => ⟨S32x8x2, .f32⟩
  | 81 => ⟨S32x8x64, .f32⟩
  | 82 => ⟨S32x8x1, .f32⟩
  | 83 => ⟨S32x8, .f32⟩
  | 84 => ⟨S32x4, .f32⟩
  | 85 => ⟨S32x4, .i32⟩
  | 86 => ⟨S_, .f32⟩
  | 87 => ⟨S32x8, .f32⟩
  | 88 => ⟨S32, .i32⟩
  | 89 => ⟨S32x1, .i32⟩
  | 90 => ⟨S_, .i32⟩
  | 91 => ⟨S32x1, .i32⟩
  | 92 => ⟨S32x1, .i1⟩
  | 93 => ⟨S_, .i32⟩
  | 94 => ⟨S32x1, .i32⟩
  | 95 => ⟨S32x1, .i32⟩
  | 96 => ⟨S32x1, .i32⟩
  | 97 => ⟨S_, .i32⟩
  | 98 => ⟨S32x4, .i32⟩
  | 99 => ⟨S32x4, .i1⟩
  | 100 => ⟨S_, .i32⟩
  | 101 => ⟨S32x4, .i32⟩
  | 102 => ⟨S32x4, .i32⟩
  | 103 => ⟨S32x4, .i32⟩
  | 104 => ⟨S32x4, .i32⟩
  | 105 => ⟨S32x4x1, .i32⟩
  | 106 => ⟨S32x4x1, .i32⟩
  | 107 => ⟨S32x4x2, .i32⟩
  | 108 => ⟨S_, .f32⟩
  | 109 => ⟨S32x4, .f32⟩
  | 110 => ⟨S32x8, .f32⟩
  | 111 => ⟨S8x768x32, .f32⟩
  | 112 => ⟨S32x8x768, .f32⟩
  | 113 => ⟨S1x8x768, .f32⟩
  | 114 => ⟨S32x8x768, .f32⟩
  | 115 => ⟨S32x8x768, .f32⟩
  | 116 => ⟨S8x768x32, .f32⟩
  | 117 => ⟨S32x8x768, .f32⟩
  | 118 => ⟨S1x8x768, .f32⟩
  | 119 => ⟨S32x8x768, .f32⟩
  | 120 => ⟨S32x8x768, .f32⟩
  | 121 => ⟨S32x8x256, .f32⟩
  | 122 => ⟨S32x8x256, .f32⟩
  | 123 => ⟨S32x8x256, .f32⟩
  | 124 => ⟨S32x8x256, .f32⟩
  | 125 => ⟨S32x8x256, .f32⟩
  | 126 => ⟨S_, .f32⟩
  | 127 => ⟨S32x8x256, .f32⟩
  | _ => ⟨S32x32x1024, .f32⟩

abbrev hbmTy0_1 (i : Nat) : BufTy := match i % 128 with
  | 0 => ⟨S32x8x256, .f32⟩
  | 1 => ⟨S_, .f32⟩
  | 2 => ⟨S32x8x256, .f32⟩
  | 3 => ⟨S32x8x256, .f32⟩
  | 4 => ⟨S32x8x256, .f32⟩
  | 5 => ⟨S32x8x256, .f32⟩
  | 6 => ⟨S32x8x256, .f32⟩
  | 7 => ⟨S32x8x256, .f32⟩
  | 8 => ⟨S32x8x256, .f32⟩
  | 9 => ⟨S_, .f32⟩
  | 10 => ⟨S32x8x256, .f32⟩
  | 11 => ⟨S32x8x256, .f32⟩
  | 12 => ⟨S_, .f32⟩
  | 13 => ⟨S32x8x256, .f32⟩
  | 14 => ⟨S32x8x256, .f32⟩
  | 15 => ⟨S32x8x256, .f32⟩
  | 16 => ⟨S32x8x256, .f32⟩
  | 17 => ⟨S32x8x256, .f32⟩
  | 18 => ⟨S32x8x256, .f32⟩
  | 19 => ⟨S32x8x256, .f32⟩
  | 20 => ⟨S_, .f32⟩
  | 21 => ⟨S32x8x256, .f32⟩
  | 22 => ⟨S32x8x256, .f32⟩
  | 23 => ⟨S32x8x256, .f32⟩
  | 24 => ⟨S32x8x256, .f32⟩
  | 25 => ⟨S32x8x256, .f32⟩
  | 26 => ⟨S32x8x1, .f32⟩
  | 27 => ⟨S32x8x256, .f32⟩
  | 28 => ⟨S32x8x256, .f32⟩
  | 29 => ⟨S32x8x1, .f32⟩
  | 30 => ⟨S_, .f32⟩
  | 31 => ⟨S32x8x1, .f32⟩
  | 32 => ⟨S32x8x1, .f32⟩
  | 33 => ⟨S32x8x256, .f32⟩
  | 34 => ⟨S32x8x256, .f32⟩
  | 35 => ⟨S32x8x256, .f32⟩
  | 36 => ⟨S32x8x128, .f32⟩
  | 37 => ⟨S32x8x4x32, .f32⟩
  | 38 => ⟨S32x8x128, .f32⟩
  | 39 => ⟨S32x8x4x32, .f32⟩
  | 40 => ⟨S32x8x128, .f32⟩
  | 41 => ⟨S32x8x4x32, .f32⟩
  | 42 => ⟨S32x4x8x8, .f32⟩
  | 43 => ⟨S_, .f32⟩
  | 44 => ⟨S_, .f32⟩
  | 45 => ⟨S32x4x8x8, .f32⟩
  | 46 => ⟨S32x4x8x8, .f32⟩
  | 47 => ⟨S_, .f32⟩
  | 48 => ⟨S32x4x8, .f32⟩
  | 49 => ⟨S_, .f32⟩
  | 50 => ⟨S32x4x8, .f32⟩
  | 51 => ⟨S32x4x8, .f32⟩
  | 52 => ⟨S32x4x8x1, .f32⟩
  | 53 => ⟨S32x4x8x8, .f32⟩
  | 54 => ⟨S32x4x8x8, .f32⟩
  | 55 => ⟨S32x4x8x8, .f32⟩
  | 56 => ⟨S_, .f32⟩
  | 57 => ⟨S32x4x8, .f32⟩
  | 58 => ⟨S32x4x8x1, .f32⟩
  | 59 => ⟨S32x4x8x8, .f32⟩
  | 60 => ⟨S32x4x8x8, .f32⟩
  | 61 => ⟨S32x4x32x8, .f32⟩
  | 62 => ⟨S32x8x4x32, .f32⟩
  | 63 => ⟨S32x8x128, .f32⟩
  | 64 => ⟨S32x8x1, .f32⟩
  | 65 => ⟨S32x8x256, .f32⟩
  | 66 => ⟨S32x8x256, .f32⟩
  | 67 => ⟨S32x8x256, .f32⟩
  | 68 => ⟨S32x8x256, .f32⟩
  | 69 => ⟨S32x2048, .f32⟩
  | 70 => ⟨S32x2048, .f32⟩
  | 71 => ⟨S1x32x2048, .f32⟩
  | 72 => ⟨S_, .i32⟩
  | 73 => ⟨S_, .i32⟩
  | 74 => ⟨S32x32x2048, .f32⟩
  | 75 => ⟨S1x32x8, .f32⟩
  | 76 => ⟨S_, .i32⟩
  | 77 => ⟨S_, .i32⟩
  | 78 => ⟨S32x32x8, .f32⟩
  | 79 => ⟨S_, .i32⟩
  | 80 => ⟨S_, .i32⟩
  | 81 => ⟨S1x32x2048, .f32⟩
  | _ => ⟨S32x32x1024, .f32⟩

abbrev hbmTy (i : Nat) : BufTy := match i / 128 with
  | 0 => hbmTy0_0 i
  | 1 => hbmTy0_1 i
  | _ => ⟨S32x32x1024, .f32⟩

abbrev bufTy : (tb : Table) → Fin (tcTables nBuf tb) → BufTy
  | .hbm, ⟨i, _⟩ => hbmTy i
  | _, _ => ⟨S32x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_c : Ref sig .tc := ⟨.hbm, 25, rfl⟩
abbrev main_v7_0 : Ref sig .tc := ⟨.hbm, 26, rfl⟩
abbrev main_v7_1 : Ref sig .tc := ⟨.hbm, 27, rfl⟩
abbrev main_v7_2 : Ref sig .tc := ⟨.hbm, 28, rfl⟩
abbrev main_v7_3 : Ref sig .tc := ⟨.hbm, 29, rfl⟩
abbrev main_v7_4 : Ref sig .tc := ⟨.hbm, 30, rfl⟩
abbrev main_v7_5 : Ref sig .tc := ⟨.hbm, 31, rfl⟩
abbrev main_v7_6 : Ref sig .tc := ⟨.hbm, 32, rfl⟩
abbrev main_v7_7 : Ref sig .tc := ⟨.hbm, 33, rfl⟩
abbrev main_v7_8 : Ref sig .tc := ⟨.hbm, 34, rfl⟩
abbrev main_v7_9 : Ref sig .tc := ⟨.hbm, 35, rfl⟩
abbrev main_v7_10 : Ref sig .tc := ⟨.hbm, 36, rfl⟩
abbrev main_v7_11 : Ref sig .tc := ⟨.hbm, 37, rfl⟩
abbrev main_v7_12 : Ref sig .tc := ⟨.hbm, 38, rfl⟩
abbrev main_v7_13 : Ref sig .tc := ⟨.hbm, 39, rfl⟩
abbrev main_v7_14 : Ref sig .tc := ⟨.hbm, 40, rfl⟩
abbrev main_v7_15 : Ref sig .tc := ⟨.hbm, 41, rfl⟩
abbrev main_v7_16 : Ref sig .tc := ⟨.hbm, 42, rfl⟩
abbrev main_while0c_c_17 : Ref sig .tc := ⟨.hbm, 43, rfl⟩
abbrev main_while0c_v9 : Ref sig .tc := ⟨.hbm, 44, rfl⟩
abbrev main_while0b_call0_c : Ref sig .tc := ⟨.hbm, 45, rfl⟩
abbrev main_while0b_call0_c_0 : Ref sig .tc := ⟨.hbm, 46, rfl⟩
abbrev main_while0b_call0_v0 : Ref sig .tc := ⟨.hbm, 47, rfl⟩
abbrev main_while0b_v9 : Ref sig .tc := ⟨.hbm, 48, rfl⟩
abbrev main_while0b_call1_c : Ref sig .tc := ⟨.hbm, 49, rfl⟩
abbrev main_while0b_call1_c_0 : Ref sig .tc := ⟨.hbm, 50, rfl⟩
abbrev main_while0b_call1_v0 : Ref sig .tc := ⟨.hbm, 51, rfl⟩
abbrev main_while0b_v10 : Ref sig .tc := ⟨.hbm, 52, rfl⟩
abbrev main_while0b_v11 : Ref sig .tc := ⟨.hbm, 53, rfl⟩
abbrev main_while0b_cst_17 : Ref sig .tc := ⟨.hbm, 54, rfl⟩
abbrev main_while0b_v12 : Ref sig .tc := ⟨.hbm, 55, rfl⟩
abbrev main_while0b_v13 : Ref sig .tc := ⟨.hbm, 56, rfl⟩
abbrev main_while0b_v14 : Ref sig .tc := ⟨.hbm, 57, rfl⟩
abbrev main_while0b_v15 : Ref sig .tc := ⟨.hbm, 58, rfl⟩
abbrev main_while0b_v16 : Ref sig .tc := ⟨.hbm, 59, rfl⟩
abbrev main_while0b_v17 : Ref sig .tc := ⟨.hbm, 60, rfl⟩
abbrev main_while0b_v18 : Ref sig .tc := ⟨.hbm, 61, rfl⟩
abbrev main_while0b_v19 : Ref sig .tc := ⟨.hbm, 62, rfl⟩
abbrev main_while0b_cst_18 : Ref sig .tc := ⟨.hbm, 63, rfl⟩
abbrev main_while0b_v20 : Ref sig .tc := ⟨.hbm, 64, rfl⟩
abbrev main_while0b_v21 : Ref sig .tc := ⟨.hbm, 65, rfl⟩
abbrev main_while0b_v22 : Ref sig .tc := ⟨.hbm, 66, rfl⟩
abbrev main_while0b_cst_19 : Ref sig .tc := ⟨.hbm, 67, rfl⟩
abbrev main_while0b_v23 : Ref sig .tc := ⟨.hbm, 68, rfl⟩
abbrev main_while0b_cst_20 : Ref sig .tc := ⟨.hbm, 69, rfl⟩
abbrev main_while0b_v24 : Ref sig .tc := ⟨.hbm, 70, rfl⟩
abbrev main_while0b_v25 : Ref sig .tc := ⟨.hbm, 71, rfl⟩
abbrev main_while0b_v26 : Ref sig .tc := ⟨.hbm, 72, rfl⟩
abbrev main_while0b_v27 : Ref sig .tc := ⟨.hbm, 73, rfl⟩
abbrev main_while0b_v28 : Ref sig .tc := ⟨.hbm, 74, rfl⟩
abbrev main_while0b_v29 : Ref sig .tc := ⟨.hbm, 75, rfl⟩
abbrev main_while0b_cst_21 : Ref sig .tc := ⟨.hbm, 76, rfl⟩
abbrev main_while0b_v30 : Ref sig .tc := ⟨.hbm, 77, rfl⟩
abbrev main_while0b_v31 : Ref sig .tc := ⟨.hbm, 78, rfl⟩
abbrev main_while0b_v32 : Ref sig .tc := ⟨.hbm, 79, rfl⟩
abbrev main_while0b_v33 : Ref sig .tc := ⟨.hbm, 80, rfl⟩
abbrev main_while0b_v34 : Ref sig .tc := ⟨.hbm, 81, rfl⟩
abbrev main_while0b_v35 : Ref sig .tc := ⟨.hbm, 82, rfl⟩
abbrev main_while0b_v36 : Ref sig .tc := ⟨.hbm, 83, rfl⟩
abbrev main_while0b_values : Ref sig .tc := ⟨.hbm, 84, rfl⟩
abbrev main_while0b_indices : Ref sig .tc := ⟨.hbm, 85, rfl⟩
abbrev main_while0b_cst_22 : Ref sig .tc := ⟨.hbm, 86, rfl⟩
abbrev main_while0b_v37 : Ref sig .tc := ⟨.hbm, 87, rfl⟩
abbrev main_while0b_v38 : Ref sig .tc := ⟨.hbm, 88, rfl⟩
abbrev main_while0b_v39 : Ref sig .tc := ⟨.hbm, 89, rfl⟩
abbrev main_while0b_c_23 : Ref sig .tc := ⟨.hbm, 90, rfl⟩
abbrev main_while0b_v40 : Ref sig .tc := ⟨.hbm, 91, rfl⟩
abbrev main_while0b_v41 : Ref sig .tc := ⟨.hbm, 92, rfl⟩
abbrev main_while0b_c_24 : Ref sig .tc := ⟨.hbm, 93, rfl⟩
abbrev main_while0b_v42 : Ref sig .tc := ⟨.hbm, 94, rfl⟩
abbrev main_while0b_v43 : Ref sig .tc := ⟨.hbm, 95, rfl⟩
abbrev main_while0b_v44 : Ref sig .tc := ⟨.hbm, 96, rfl⟩
abbrev main_while0b_c_25 : Ref sig .tc := ⟨.hbm, 97, rfl⟩
abbrev main_while0b_v45 : Ref sig .tc := ⟨.hbm, 98, rfl⟩
abbrev main_while0b_v46 : Ref sig .tc := ⟨.hbm, 99, rfl⟩
abbrev main_while0b_c_26 : Ref sig .tc := ⟨.hbm, 100, rfl⟩
abbrev main_while0b_v47 : Ref sig .tc := ⟨.hbm, 101, rfl⟩
abbrev main_while0b_v48 : Ref sig .tc := ⟨.hbm, 102, rfl⟩
abbrev main_while0b_v49 : Ref sig .tc := ⟨.hbm, 103, rfl⟩
abbrev main_while0b_v50 : Ref sig .tc := ⟨.hbm, 104, rfl⟩
abbrev main_while0b_v51 : Ref sig .tc := ⟨.hbm, 105, rfl⟩
abbrev main_while0b_v52 : Ref sig .tc := ⟨.hbm, 106, rfl⟩
abbrev main_while0b_v53 : Ref sig .tc := ⟨.hbm, 107, rfl⟩
abbrev main_while0b_cst_27 : Ref sig .tc := ⟨.hbm, 108, rfl⟩
abbrev main_while0b_v54 : Ref sig .tc := ⟨.hbm, 109, rfl⟩
abbrev main_while0b_v55 : Ref sig .tc := ⟨.hbm, 110, rfl⟩
abbrev main_while0b_v56 : Ref sig .tc := ⟨.hbm, 111, rfl⟩
abbrev main_while0b_v57 : Ref sig .tc := ⟨.hbm, 112, rfl⟩
abbrev main_while0b_v58 : Ref sig .tc := ⟨.hbm, 113, rfl⟩
abbrev main_while0b_v59 : Ref sig .tc := ⟨.hbm, 114, rfl⟩
abbrev main_while0b_v60 : Ref sig .tc := ⟨.hbm, 115, rfl⟩
abbrev main_while0b_v61 : Ref sig .tc := ⟨.hbm, 116, rfl⟩
abbrev main_while0b_v62 : Ref sig .tc := ⟨.hbm, 117, rfl⟩
abbrev main_while0b_v63 : Ref sig .tc := ⟨.hbm, 118, rfl⟩
abbrev main_while0b_v64 : Ref sig .tc := ⟨.hbm, 119, rfl⟩
abbrev main_while0b_v65 : Ref sig .tc := ⟨.hbm, 120, rfl⟩
abbrev main_while0b_v66 : Ref sig .tc := ⟨.hbm, 121, rfl⟩
abbrev main_while0b_v67 : Ref sig .tc := ⟨.hbm, 122, rfl⟩
abbrev main_while0b_v68 : Ref sig .tc := ⟨.hbm, 123, rfl⟩
abbrev main_while0b_v69 : Ref sig .tc := ⟨.hbm, 124, rfl⟩
abbrev main_while0b_v70 : Ref sig .tc := ⟨.hbm, 125, rfl⟩
abbrev main_while0b_cst_28 : Ref sig .tc := ⟨.hbm, 126, rfl⟩
abbrev main_while0b_v71 : Ref sig .tc := ⟨.hbm, 127, rfl⟩
abbrev main_while0b_v72 : Ref sig .tc := ⟨.hbm, 128, rfl⟩
abbrev main_while0b_cst_29 : Ref sig .tc := ⟨.hbm, 129, rfl⟩
abbrev main_while0b_v73 : Ref sig .tc := ⟨.hbm, 130, rfl⟩
abbrev main_while0b_v74 : Ref sig .tc := ⟨.hbm, 131, rfl⟩
abbrev main_while0b_v75 : Ref sig .tc := ⟨.hbm, 132, rfl⟩
abbrev main_while0b_v76 : Ref sig .tc := ⟨.hbm, 133, rfl⟩
abbrev main_while0b_v77 : Ref sig .tc := ⟨.hbm, 134, rfl⟩
abbrev main_while0b_v78 : Ref sig .tc := ⟨.hbm, 135, rfl⟩
abbrev main_while0b_v79 : Ref sig .tc := ⟨.hbm, 136, rfl⟩
abbrev main_while0b_cst_30 : Ref sig .tc := ⟨.hbm, 137, rfl⟩
abbrev main_while0b_v80 : Ref sig .tc := ⟨.hbm, 138, rfl⟩
abbrev main_while0b_v81 : Ref sig .tc := ⟨.hbm, 139, rfl⟩
abbrev main_while0b_cst_31 : Ref sig .tc := ⟨.hbm, 140, rfl⟩
abbrev main_while0b_v82 : Ref sig .tc := ⟨.hbm, 141, rfl⟩
abbrev main_while0b_v83 : Ref sig .tc := ⟨.hbm, 142, rfl⟩
abbrev main_while0b_v84 : Ref sig .tc := ⟨.hbm, 143, rfl⟩
abbrev main_while0b_v85 : Ref sig .tc := ⟨.hbm, 144, rfl⟩
abbrev main_while0b_v86 : Ref sig .tc := ⟨.hbm, 145, rfl⟩
abbrev main_while0b_v87 : Ref sig .tc := ⟨.hbm, 146, rfl⟩
abbrev main_while0b_v88 : Ref sig .tc := ⟨.hbm, 147, rfl⟩
abbrev main_while0b_cst_32 : Ref sig .tc := ⟨.hbm, 148, rfl⟩
abbrev main_while0b_v89 : Ref sig .tc := ⟨.hbm, 149, rfl⟩
abbrev main_while0b_v90 : Ref sig .tc := ⟨.hbm, 150, rfl⟩
abbrev main_while0b_v91 : Ref sig .tc := ⟨.hbm, 151, rfl⟩
abbrev main_while0b_v92 : Ref sig .tc := ⟨.hbm, 152, rfl⟩
abbrev main_while0b_v93 : Ref sig .tc := ⟨.hbm, 153, rfl⟩
abbrev main_while0b_v94 : Ref sig .tc := ⟨.hbm, 154, rfl⟩
abbrev main_while0b_v95 : Ref sig .tc := ⟨.hbm, 155, rfl⟩
abbrev main_while0b_v96 : Ref sig .tc := ⟨.hbm, 156, rfl⟩
abbrev main_while0b_v97 : Ref sig .tc := ⟨.hbm, 157, rfl⟩
abbrev main_while0b_cst_33 : Ref sig .tc := ⟨.hbm, 158, rfl⟩
abbrev main_while0b_v98 : Ref sig .tc := ⟨.hbm, 159, rfl⟩
abbrev main_while0b_v99 : Ref sig .tc := ⟨.hbm, 160, rfl⟩
abbrev main_while0b_v100 : Ref sig .tc := ⟨.hbm, 161, rfl⟩
abbrev main_while0b_v101 : Ref sig .tc := ⟨.hbm, 162, rfl⟩
abbrev main_while0b_v102 : Ref sig .tc := ⟨.hbm, 163, rfl⟩
abbrev main_while0b_v103 : Ref sig .tc := ⟨.hbm, 164, rfl⟩
abbrev main_while0b_v104 : Ref sig .tc := ⟨.hbm, 165, rfl⟩
abbrev main_while0b_v105 : Ref sig .tc := ⟨.hbm, 166, rfl⟩
abbrev main_while0b_v106 : Ref sig .tc := ⟨.hbm, 167, rfl⟩
abbrev main_while0b_v107 : Ref sig .tc := ⟨.hbm, 168, rfl⟩
abbrev main_while0b_v108 : Ref sig .tc := ⟨.hbm, 169, rfl⟩
abbrev main_while0b_v109 : Ref sig .tc := ⟨.hbm, 170, rfl⟩
abbrev main_while0b_cst_34 : Ref sig .tc := ⟨.hbm, 171, rfl⟩
abbrev main_while0b_v110 : Ref sig .tc := ⟨.hbm, 172, rfl⟩
abbrev main_while0b_v111 : Ref sig .tc := ⟨.hbm, 173, rfl⟩
abbrev main_while0b_v112 : Ref sig .tc := ⟨.hbm, 174, rfl⟩
abbrev main_while0b_cst_35 : Ref sig .tc := ⟨.hbm, 175, rfl⟩
abbrev main_while0b_v113 : Ref sig .tc := ⟨.hbm, 176, rfl⟩
abbrev main_while0b_cst_36 : Ref sig .tc := ⟨.hbm, 177, rfl⟩
abbrev main_while0b_v114 : Ref sig .tc := ⟨.hbm, 178, rfl⟩
abbrev main_while0b_v115 : Ref sig .tc := ⟨.hbm, 179, rfl⟩
abbrev main_while0b_v116 : Ref sig .tc := ⟨.hbm, 180, rfl⟩
abbrev main_while0b_v117 : Ref sig .tc := ⟨.hbm, 181, rfl⟩
abbrev main_while0b_v118 : Ref sig .tc := ⟨.hbm, 182, rfl⟩
abbrev main_while0b_v119 : Ref sig .tc := ⟨.hbm, 183, rfl⟩
abbrev main_while0b_cst_37 : Ref sig .tc := ⟨.hbm, 184, rfl⟩
abbrev main_while0b_v120 : Ref sig .tc := ⟨.hbm, 185, rfl⟩
abbrev main_while0b_v121 : Ref sig .tc := ⟨.hbm, 186, rfl⟩
abbrev main_while0b_v122 : Ref sig .tc := ⟨.hbm, 187, rfl⟩
abbrev main_while0b_v123 : Ref sig .tc := ⟨.hbm, 188, rfl⟩
abbrev main_while0b_v124 : Ref sig .tc := ⟨.hbm, 189, rfl⟩
abbrev main_while0b_v125 : Ref sig .tc := ⟨.hbm, 190, rfl⟩
abbrev main_while0b_v126 : Ref sig .tc := ⟨.hbm, 191, rfl⟩
abbrev main_while0b_v127 : Ref sig .tc := ⟨.hbm, 192, rfl⟩
abbrev main_while0b_v128 : Ref sig .tc := ⟨.hbm, 193, rfl⟩
abbrev main_while0b_v129 : Ref sig .tc := ⟨.hbm, 194, rfl⟩
abbrev main_while0b_v130 : Ref sig .tc := ⟨.hbm, 195, rfl⟩
abbrev main_while0b_v131 : Ref sig .tc := ⟨.hbm, 196, rfl⟩
abbrev main_while0b_v132 : Ref sig .tc := ⟨.hbm, 197, rfl⟩
abbrev main_while0b_v133 : Ref sig .tc := ⟨.hbm, 198, rfl⟩
abbrev main_while0b_call2_v0 : Ref sig .tc := ⟨.hbm, 199, rfl⟩
abbrev main_while0b_call2_c : Ref sig .tc := ⟨.hbm, 200, rfl⟩
abbrev main_while0b_call2_c_0 : Ref sig .tc := ⟨.hbm, 201, rfl⟩
abbrev main_while0b_v134 : Ref sig .tc := ⟨.hbm, 202, rfl⟩
abbrev main_while0b_call3_v0 : Ref sig .tc := ⟨.hbm, 203, rfl⟩
abbrev main_while0b_call3_c : Ref sig .tc := ⟨.hbm, 204, rfl⟩
abbrev main_while0b_call3_c_0 : Ref sig .tc := ⟨.hbm, 205, rfl⟩
abbrev main_while0b_v135 : Ref sig .tc := ⟨.hbm, 206, rfl⟩
abbrev main_while0b_c_38 : Ref sig .tc := ⟨.hbm, 207, rfl⟩
abbrev main_while0b_v136 : Ref sig .tc := ⟨.hbm, 208, rfl⟩
abbrev main_v8 : Ref sig .tc := ⟨.hbm, 209, rfl⟩

abbrev nD : Nat := 1
abbrev τ : Topo := Topo.v7x

variable {F : FTy → Type} [FloatOps F]

abbrev main_while0_count : Scf.Loop 32 := ⟨0#32, 32#32, 1#32⟩
-- ==== Proof.SameProgram.lean ====
module

public import proofs.«01_k».proof.Defs
public import proofs.«01_k».proof.Proof.Gen.Kernel
public import proofs.«01_k».proof.Proof.Gen.KernelIdeal

@[expose] public section

set_option maxRecDepth 65536

noncomputable section

/-! # The word-level program and its idealization are one program text

No operation is rewritten between the two, so their bodies and their main functions are equal at any float values. -/

namespace Cert.SameProgram

open Idealize.ShloMosaic

variable {F : FTy → Type} [FloatOps F]

/-- The recurrent call's kernel function is the same in both. -/
theorem rim_kernel_eq : @Cert.Kernel.cc1__rim_kernel F _ Cert.Kernel.Gen.facts = @Cert.KernelIdeal.cc1__rim_kernel F _ Cert.KernelIdeal.Gen.facts := rfl

set_option maxHeartbeats 4000000 in
/-- So the table of kernel bodies is the same. -/
theorem bodies_eq : @Cert.Kernel.defs₀ F _ Cert.Kernel.Gen.facts = @Cert.KernelIdeal.defs₀ F _ Cert.KernelIdeal.Gen.facts := by
  unfold Cert.Kernel.defs₀ Cert.KernelIdeal.defs₀
  congr 1
  funext l a
  match l, a with
  | 0, (t, s) => exact rfl
  | 1, (t, s) =>
    dsimp only
    rw [rim_kernel_eq]
    rfl

/-- The table with the calls' regions is the same. -/
theorem defs_eq : @Cert.Kernel.defs F _ Cert.Kernel.Gen.facts = @Cert.KernelIdeal.defs F _ Cert.KernelIdeal.Gen.facts :=
  congrArg (fun D => Pipeline.defs (@Cert.KernelIdeal.pcfgs F Cert.KernelIdeal.Gen.facts) D) bodies_eq

/-- The main functions are the same. -/
theorem main_eq : Cert.Kernel.main (F := F) = Cert.KernelIdeal.main (F := F) := rfl

end Cert.SameProgram

end
-- ==== Proof.Rim.Runs.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Rim

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk V c 8 t) (t : Fin cfg1.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk V c 9 t) (t : Fin cfg1.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_10_of {c : Dev nD} (dat : Dat τ (Elt F) Unit ℕ (UR sig nD τ) ℕ cfg1 c) (hA : dat.A 10 = V c (Pipeline.arrRef spec1 10))
    (hafter : ∀ t, dat.after 10 t = iblk V c 10 t) (t : Fin cfg1.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 0).val) 0#32)) 0#32) = 1#1
/-- It holds at the first point only — by arithmetic of the point. -/
theorem hcond1_0 : ∀ t : Fin cfg1.N, cond1_0 (grid1.coords t) ↔ t.val % 32 = 0 :=
  (fun t => by
    have ht : t.val < 32 := Nat.lt_of_lt_of_eq t.isLt N_1
    have e0 : (grid1.coords t 0).val = t.val / 1 % 32 := Pipeline.Grid.coords_val t 0 (by decide) rfl
    simp only [cond1_0, e0]
    word_cmp
   : ∀ t : Fin grid1.N, cond1_0 (grid1.coords t) ↔ t.val % 32 = 0)

/-- The condition of the body's `scf.if` 1 (`k1_h2`), from the grid coordinates (the skeleton's scalar
    chain substituted). -/
abbrev cond1_1 (i : grid1.Coords) : Prop := k1_cond2 i = 1#1
/-- It holds at the last point only — by arithmetic of the point. -/
theorem hcond1_1 : ∀ t : Fin cfg1.N, cond1_1 (grid1.coords t) ↔ t.val % 32 = 31 :=
  (fun t => by
    have ht : t.val < 32 := Nat.lt_of_lt_of_eq t.isLt N_1
    have e0 : (grid1.coords t 0).val = t.val / 1 % 32 := Pipeline.Grid.coords_val t 0 (by decide) rfl
    simp only [cond1_1, k1_cond2, e0]
    word_cmp
   : ∀ t : Fin grid1.N, cond1_1 (grid1.coords t) ↔ t.val % 32 = 31)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Window 5 is never idle (an input). -/
theorem liveAt1_5 : ∀ t : Fin cfg1.N, cfg1.idle 5 (grid1.coords t) = false := fun _ => rfl
/-- Window 6 is never idle (an input). -/
theorem liveAt1_6 : ∀ t : Fin cfg1.N, cfg1.idle 6 (grid1.coords t) = false := fun _ => rfl
/-- Window 7 is never idle (an input). -/
theorem liveAt1_7 : ∀ t : Fin cfg1.N, cfg1.idle 7 (grid1.coords t) = false := fun _ => rfl
/-- Window 8 is never idle (an input). -/
theorem liveAt1_8 : ∀ t : Fin cfg1.N, cfg1.idle 8 (grid1.coords t) = false := fun _ => rfl
/-- Window 9 is never idle (an input). -/
theorem liveAt1_9 : ∀ t : Fin cfg1.N, cfg1.idle 9 (grid1.coords t) = false := fun _ => rfl
/-- Window 10 is never idle (an input). -/
theorem liveAt1_10 : ∀ t : Fin cfg1.N, cfg1.idle 10 (grid1.coords t) = false := fun _ => rfl
/-- Window 11 is never idle (an output stored at every point, under no condition). -/
theorem liveAt1_11 : ∀ t : Fin cfg1.N, cfg1.idle 11 (grid1.coords t) = false := fun _ => rfl
/-- Window 13 is never idle (an output stored at every point, under no condition). -/
theorem liveAt1_13 : ∀ t : Fin cfg1.N, cfg1.idle 13 (grid1.coords t) = false := fun _ => rfl
/-- At the points of case A the printed configuration (`Cfg.idle`) calls output 12 idle: the case stores nothing into it. -/
theorem idleAt1_12_A : ∀ t : Fin cfg1.N, cond1_0 (grid1.coords t) → ¬cond1_1 (grid1.coords t) → cfg1.idle 12 (grid1.coords t) = true := by decide +kernel
/-- At the points of case A the pipeline does not write output 12's block back. -/
theorem noFlush1_12_A : ∀ t : Fin cfg1.N, cond1_0 (grid1.coords t) → ¬cond1_1 (grid1.coords t) → (cfg1.win 12).flush t = false := by decide +kernel
/-- At the points of case B the printed configuration (`Cfg.idle`) calls output 12 idle: the case stores nothing into it. -/
theorem idleAt1_12_B : ∀ t : Fin cfg1.N, ¬cond1_0 (grid1.coords t) → ¬cond1_1 (grid1.coords t) → cfg1.idle 12 (grid1.coords t) = true := by decide +kernel
/-- At the points of case B the pipeline does not write output 12's block back. -/
theorem noFlush1_12_B : ∀ t : Fin cfg1.N, ¬cond1_0 (grid1.coords t) → ¬cond1_1 (grid1.coords t) → (cfg1.win 12).flush t = false := by decide +kernel
/-- At the points of case C the printed configuration (`Cfg.idle`) calls output 12 live: the case stores into it. -/
theorem liveAt1_12_C : ∀ t : Fin cfg1.N, ¬cond1_0 (grid1.coords t) → cond1_1 (grid1.coords t) → cfg1.idle 12 (grid1.coords t) = false := by decide +kernel

/-! ## The kernel body on any staging memrefs: a subtype the run finds -/

/-- One staging buffer of output window 11, through which its contents are stated (`View.read_writes_of_cover`: the
    choice does not matter). -/
abbrev VO1_11 : View sig .tc .vmem S1x256x256 .f32 := (Memref.whole cc1_stg11_0 : Memref sig .tc .vmem S1x256x256 .f32).view
/-- One staging buffer of output window 12, through which its contents are stated (`View.read_writes_of_cover`: the
    choice does not matter). -/
abbrev VO1_12 : View sig .tc .vmem S256x256 .f32 := (Memref.whole cc1_stg12_0 : Memref sig .tc .vmem S256x256 .f32).view
/-- One staging buffer of output window 13, through which its contents are stated (`View.read_writes_of_cover`: the
    choice does not matter). -/
abbrev VO1_13 : View sig .tc .vmem S1x8x32 .f32 := (Memref.whole cc1_stg13_0 : Memref sig .tc .vmem S1x8x32 .f32).view
/-- Each window's current staging memref at point `t`, spelled as the pipeline passes it (`bodyAt1`), and its wholeness. -/
abbrev ms1_0 (t : Fin cfg1.N) : Memref sig .tc .vmem S32x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x64x768 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8x256x768 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x768 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x768 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S256x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S256x128 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S128x256 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x256x256 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S256x256 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1x8x32 .f32 := win1_13.stage (cfg1.slots t 13)
abbrev hs1_13 (t : Fin cfg1.N) : (ms1_13 t).IsWhole := hstage1_13 ((cfg1.slots t 13).cast nbuf1_13)
/-- The scratch operands: whole scoped buffers of the kernel's own, passed beside the windows. -/
abbrev scM1_0 : Memref sig .tc .vmem S256x256 .f32 := Memref.whole cc1_scratch0
/-- The scratch `arg15` the kernel carries between points, as a view: what it holds is stated through it. -/
abbrev VS1_0 : View sig .tc .vmem S256x256 .f32 := scM1_0.view

/-- What the invariant carries besides the scratch: the other call's staging buffers at anything and the generator
    register at some state. -/
def Rst (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ ∃ r, prngReg c r)

/-- The class's invariant with the scratch as a memref owned at some contents. -/
theorem PhiA1_eq (c : Dev nD) :
    (Pipeline.ΦA spec1 c : sProp 𝕄)
      = iprop(iprop((∃ d, owns (c : Thread nD τ) scM1_0 fullShare d)) ∗ Rst c) := by
  unfold Pipeline.ΦA Rst; rw [scopedRest1_eq]; simp only [scM1_0, owns_whole]
  apply Idealize.SL.BI.Entails.antisymm
  · show (_ : sProp 𝕄) ⊢ _
    iintro ⟨⟨H0, H1, H2, H3, H4, HS⟩, Hg⟩
    isplitl [HS]; · iexact HS
    isplitl [H0]; · iexact H0
    isplitl [H1]; · iexact H1
    isplitl [H2]; · iexact H2
    isplitl [H3]; · iexact H3
    isplitl [H4]; · iexact H4
    iexact Hg
  · show (_ : sProp 𝕄) ⊢ _
    iintro ⟨HS, H0, H1, H2, H3, H4, Hg⟩
    isplitr [Hg]
    · isplitl [H0]; · iexact H0
      isplitl [H1]; · iexact H1
      isplitl [H2]; · iexact H2
      isplitl [H3]; · iexact H3
      isplitl [H4]; · iexact H4
      iexact HS
    iexact Hg

end Cert.KernelIdeal.Rim

end
-- ==== Proof.Rim.RunA.lean ====
module

public import proofs.«01_k».proof.Proof.Rim.Runs

@[expose] public section

-- membership in a rectangle of production extents (`View.cover_of_tiled`): the elaborator's structural look
-- recurses once per coordinate of the long axes
set_option maxRecDepth 16384

noncomputable section

namespace Cert.KernelIdeal.Rim

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (12: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg1 : Memref sig .tc .vmem S32x128 .f32) (harg1 : arg1.IsWhole) (arg2 : Memref sig .tc .vmem S256x256 .f32) (harg2 : arg2.IsWhole) (arg3 : Memref sig .tc .vmem S256x64 .f32) (harg3 : arg3.IsWhole) (arg4 : Memref sig .tc .vmem S8x64x768 .f32) (harg4 : arg4.IsWhole) (arg5 : Memref sig .tc .vmem S8x256x768 .f32) (harg5 : arg5.IsWhole) (arg6 : Memref sig .tc .vmem S256x768 .f32) (harg6 : arg6.IsWhole) (arg7 : Memref sig .tc .vmem S256x768 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S128x256 .f32) (harg11 : arg11.IsWhole) (arg12 : Memref sig .tc .vmem S1x256x256 .f32) (harg12 : arg12.IsWhole) (arg13 : Memref sig .tc .vmem S256x256 .f32) (harg13 : arg13.IsWhole) (arg14 : Memref sig .tc .vmem S1x8x32 .f32) (harg14 : arg14.IsWhole) (arg15 : Memref sig .tc .vmem S256x256 .f32) (harg15 : arg15.IsWhole) (hc0 : cond1_0 i) (hc1 : ¬cond1_1 i)
    (x0 : Vec F S32x128 .f32) (x1 : Vec F S256x256 .f32) (x2 : Vec F S256x64 .f32) (x3 : Vec F S8x64x768 .f32) (x4 : Vec F S8x256x768 .f32) (x5 : Vec F S256x768 .f32) (x6 : Vec F S256x768 .f32) (x7 : Vec F S256x128 .f32) (x8 : Vec F S256x128 .f32) (x9 : Vec F S256x128 .f32) (x10 : Vec F S128x256 .f32) :
    Σ' (L11 : List (View.Piece (Elt F) S1x256x256 .f32)), Σ' (L12 : List (View.Piece (Elt F) S256x256 .f32)), Σ' (L13 : List (View.Piece (Elt F) S1x8x32 .f32)), { LS0 : List (View.Piece (Elt F) S256x256 .f32) //
      ∀ (xi12 : Vec F S256x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare xi12 ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ owns (c : Thread nD τ) arg13 fullShare xi12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f LS0)) -∗ K ⟨⟩))
          ⊢ wp frame (wpE (defs₀ (F := F)) Variants.none c none) E (cc1__rim_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, [], ?_, ?_, fun xi12 E K => ?run⟩
  case run =>
    simp only [cc1__rim_kernel_eq_skeleton]; unfold cc1__rim_kernel_skel; simp only [k1_part13_eq_skeleton]; unfold k1_part13_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%d13, %f13, -, H13⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg13.eq_unread hf12
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]
    · iexists _; isplitr; · ipureintro; exact harg13.read_unread _
      iexact H12
    isplitl [H13]; · iexists _; iexact H13
    iexists _; iexact HS0

end Cert.KernelIdeal.Rim

end
-- ==== Proof.Rim.RunB.lean ====
module

public import proofs.«01_k».proof.Proof.Rim.RunA

@[expose] public section

-- membership in a rectangle of production extents (`View.cover_of_tiled`): the elaborator's structural look
-- recurses once per coordinate of the long axes
set_option maxRecDepth 16384

noncomputable section

namespace Cert.KernelIdeal.Rim

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 30: 30 of 32), WITH the
    proof that on whole staging memrefs — the inputs' at their contents, the outputs it leaves idle (12: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg1 : Memref sig .tc .vmem S32x128 .f32) (harg1 : arg1.IsWhole) (arg2 : Memref sig .tc .vmem S256x256 .f32) (harg2 : arg2.IsWhole) (arg3 : Memref sig .tc .vmem S256x64 .f32) (harg3 : arg3.IsWhole) (arg4 : Memref sig .tc .vmem S8x64x768 .f32) (harg4 : arg4.IsWhole) (arg5 : Memref sig .tc .vmem S8x256x768 .f32) (harg5 : arg5.IsWhole) (arg6 : Memref sig .tc .vmem S256x768 .f32) (harg6 : arg6.IsWhole) (arg7 : Memref sig .tc .vmem S256x768 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S128x256 .f32) (harg11 : arg11.IsWhole) (arg12 : Memref sig .tc .vmem S1x256x256 .f32) (harg12 : arg12.IsWhole) (arg13 : Memref sig .tc .vmem S256x256 .f32) (harg13 : arg13.IsWhole) (arg14 : Memref sig .tc .vmem S1x8x32 .f32) (harg14 : arg14.IsWhole) (arg15 : Memref sig .tc .vmem S256x256 .f32) (harg15 : arg15.IsWhole) (hc0 : ¬cond1_0 i) (hc1 : ¬cond1_1 i)
    (x0 : Vec F S32x128 .f32) (x1 : Vec F S256x256 .f32) (x2 : Vec F S256x64 .f32) (x3 : Vec F S8x64x768 .f32) (x4 : Vec F S8x256x768 .f32) (x5 : Vec F S256x768 .f32) (x6 : Vec F S256x768 .f32) (x7 : Vec F S256x128 .f32) (x8 : Vec F S256x128 .f32) (x9 : Vec F S256x128 .f32) (x10 : Vec F S128x256 .f32) (xs0 : Vec F S256x256 .f32) :
    Σ' (L11 : List (View.Piece (Elt F) S1x256x256 .f32)), Σ' (L12 : List (View.Piece (Elt F) S256x256 .f32)), Σ' (L13 : List (View.Piece (Elt F) S1x8x32 .f32)), { LS0 : List (View.Piece (Elt F) S256x256 .f32) //
      ∀ (xi12 : Vec F S256x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare xi12 ∗ (∃ d, owns (c : Thread nD τ) arg14 fullShare d) ∗ owns (c : Thread nD τ) arg15 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ owns (c : Thread nD τ) arg13 fullShare xi12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f LS0)) -∗ K ⟨⟩))
          ⊢ wp frame (wpE (defs₀ (F := F)) Variants.none c none) E (cc1__rim_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, [], ?_, ?_, fun xi12 E K => ?run⟩
  case run =>
    simp only [cc1__rim_kernel_eq_skeleton]; unfold cc1__rim_kernel_skel; simp only [k1_part13_eq_skeleton]; unfold k1_part13_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%d13, %f13, -, H13⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg13.eq_unread hf12; obtain rfl := harg15.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]
    · iexists _; isplitr; · ipureintro; exact harg13.read_unread _
      iexact H12
    isplitl [H13]; · iexists _; iexact H13
    iexists _; iexact HS0

end Cert.KernelIdeal.Rim

end
-- ==== Proof.Rim.RunC.lean ====
module

public import proofs.«01_k».proof.Proof.Rim.RunB

@[expose] public section

-- membership in a rectangle of production extents (`View.cover_of_tiled`): the elaborator's structural look
-- recurses once per coordinate of the long axes
set_option maxRecDepth 16384

noncomputable section

namespace Cert.KernelIdeal.Rim

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE C (`scf.if` 0 not taken, `scf.if` 1 taken: points 31), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg1 : Memref sig .tc .vmem S32x128 .f32) (harg1 : arg1.IsWhole) (arg2 : Memref sig .tc .vmem S256x256 .f32) (harg2 : arg2.IsWhole) (arg3 : Memref sig .tc .vmem S256x64 .f32) (harg3 : arg3.IsWhole) (arg4 : Memref sig .tc .vmem S8x64x768 .f32) (harg4 : arg4.IsWhole) (arg5 : Memref sig .tc .vmem S8x256x768 .f32) (harg5 : arg5.IsWhole) (arg6 : Memref sig .tc .vmem S256x768 .f32) (harg6 : arg6.IsWhole) (arg7 : Memref sig .tc .vmem S256x768 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S128x256 .f32) (harg11 : arg11.IsWhole) (arg12 : Memref sig .tc .vmem S1x256x256 .f32) (harg12 : arg12.IsWhole) (arg13 : Memref sig .tc .vmem S256x256 .f32) (harg13 : arg13.IsWhole) (arg14 : Memref sig .tc .vmem S1x8x32 .f32) (harg14 : arg14.IsWhole) (arg15 : Memref sig .tc .vmem S256x256 .f32) (harg15 : arg15.IsWhole) (hc0 : ¬cond1_0 i) (hc1 : cond1_1 i)
    (x0 : Vec F S32x128 .f32) (x1 : Vec F S256x256 .f32) (x2 : Vec F S256x64 .f32) (x3 : Vec F S8x64x768 .f32) (x4 : Vec F S8x256x768 .f32) (x5 : Vec F S256x768 .f32) (x6 : Vec F S256x768 .f32) (x7 : Vec F S256x128 .f32) (x8 : Vec F S256x128 .f32) (x9 : Vec F S256x128 .f32) (x10 : Vec F S128x256 .f32) (xs0 : Vec F S256x256 .f32) :
    Σ' (L11 : List (View.Piece (Elt F) S1x256x256 .f32)), Σ' (L12 : List (View.Piece (Elt F) S256x256 .f32)), Σ' (L13 : List (View.Piece (Elt F) S1x8x32 .f32)), { LS0 : List (View.Piece (Elt F) S256x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f LS0)) -∗ K ⟨⟩))
          ⊢ wp frame (wpE (defs₀ (F := F)) Variants.none c none) E (cc1__rim_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc1__rim_kernel_eq_skeleton]; unfold cc1__rim_kernel_skel; simp only [k1_part13_eq_skeleton]; unfold k1_part13_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg15.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]; · iexists _; iexact H13
    iexists _; iexact HS0

end Cert.KernelIdeal.Rim

end
-- ==== Proof.Rim.Frame.lean ====
module

public import proofs.«01_k».proof.Proof.Rim.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Rim

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- Case A's pieces for output 11 tile its block (1 store of `S1x256x256`), so they cover it. -/
theorem cover1_A_11 (c : Dev nD) (i : grid1.Coords) (arg1 : Memref sig .tc .vmem S32x128 .f32) (harg1 : arg1.IsWhole) (arg2 : Memref sig .tc .vmem S256x256 .f32) (harg2 : arg2.IsWhole) (arg3 : Memref sig .tc .vmem S256x64 .f32) (harg3 : arg3.IsWhole) (arg4 : Memref sig .tc .vmem S8x64x768 .f32) (harg4 : arg4.IsWhole) (arg5 : Memref sig .tc .vmem S8x256x768 .f32) (harg5 : arg5.IsWhole) (arg6 : Memref sig .tc .vmem S256x768 .f32) (harg6 : arg6.IsWhole) (arg7 : Memref sig .tc .vmem S256x768 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S128x256 .f32) (harg11 : arg11.IsWhole) (arg12 : Memref sig .tc .vmem S1x256x256 .f32) (harg12 : arg12.IsWhole) (arg13 : Memref sig .tc .vmem S256x256 .f32) (harg13 : arg13.IsWhole) (arg14 : Memref sig .tc .vmem S1x8x32 .f32) (harg14 : arg14.IsWhole) (arg15 : Memref sig .tc .vmem S256x256 .f32) (harg15 : arg15.IsWhole) (hc0 : cond1_0 i) (hc1 : ¬cond1_1 i)
    (x0 : Vec F S32x128 .f32) (x1 : Vec F S256x256 .f32) (x2 : Vec F S256x64 .f32) (x3 : Vec F S8x64x768 .f32) (x4 : Vec F S8x256x768 .f32) (x5 : Vec F S256x768 .f32) (x6 : Vec F S256x768 .f32) (x7 : Vec F S256x128 .f32) (x8 : Vec F S256x128 .f32) (x9 : Vec F S256x128 .f32) (x10 : Vec F S128x256 .f32) (y : S1x256x256.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1 S1x256x256.size (by sl_kernel_rfl) y

/-- What case A leaves in output 11's staging buffer: its pieces read back over junk. -/
def out1_A_11 (c : Dev nD) (i : grid1.Coords) (arg1 : Memref sig .tc .vmem S32x128 .f32) (harg1 : arg1.IsWhole) (arg2 : Memref sig .tc .vmem S256x256 .f32) (harg2 : arg2.IsWhole) (arg3 : Memref sig .tc .vmem S256x64 .f32) (harg3 : arg3.IsWhole) (arg4 : Memref sig .tc .vmem S8x64x768 .f32) (harg4 : arg4.IsWhole) (arg5 : Memref sig .tc .vmem S8x256x768 .f32) (harg5 : arg5.IsWhole) (arg6 : Memref sig .tc .vmem S256x768 .f32) (harg6 : arg6.IsWhole) (arg7 : Memref sig .tc .vmem S256x768 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S128x256 .f32) (harg11 : arg11.IsWhole) (arg12 : Memref sig .tc .vmem S1x256x256 .f32) (harg12 : arg12.IsWhole) (arg13 : Memref sig .tc .vmem S256x256 .f32) (harg13 : arg13.IsWhole) (arg14 : Memref sig .tc .vmem S1x8x32 .f32) (harg14 : arg14.IsWhole) (arg15 : Memref sig .tc .vmem S256x256 .f32) (harg15 : arg15.IsWhole) (hc0 : cond1_0 i) (hc1 : ¬cond1_1 i)
    (x0 : Vec F S32x128 .f32) (x1 : Vec F S256x256 .f32) (x2 : Vec F S256x64 .f32) (x3 : Vec F S8x64x768 .f32) (x4 : Vec F S8x256x768 .f32) (x5 : Vec F S256x768 .f32) (x6 : Vec F S256x768 .f32) (x7 : Vec F S256x128 .f32) (x8 : Vec F S256x128 .f32) (x9 : Vec F S256x128 .f32) (x10 : Vec F S128x256 .f32) : Vec F S1x256x256 .f32 :=
  VO1_11.read (Elt F) (VO1_11.writes (Elt F) VO1_11.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1)

/-- Case A stores nothing into output 12 (the window is idle at its points and not written back there):
    no pieces — a placeholder (junk read back) that nothing consults, since at these points the window is neither
    written back nor read at the next point. -/
def out1_A_12 (c : Dev nD) (i : grid1.Coords) (arg1 : Memref sig .tc .vmem S32x128 .f32) (harg1 : arg1.IsWhole) (arg2 : Memref sig .tc .vmem S256x256 .f32) (harg2 : arg2.IsWhole) (arg3 : Memref sig .tc .vmem S256x64 .f32) (harg3 : arg3.IsWhole) (arg4 : Memref sig .tc .vmem S8x64x768 .f32) (harg4 : arg4.IsWhole) (arg5 : Memref sig .tc .vmem S8x256x768 .f32) (harg5 : arg5.IsWhole) (arg6 : Memref sig .tc .vmem S256x768 .f32) (harg6 : arg6.IsWhole) (arg7 : Memref sig .tc .vmem S256x768 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S128x256 .f32) (harg11 : arg11.IsWhole) (arg12 : Memref sig .tc .vmem S1x256x256 .f32) (harg12 : arg12.IsWhole) (arg13 : Memref sig .tc .vmem S256x256 .f32) (harg13 : arg13.IsWhole) (arg14 : Memref sig .tc .vmem S1x8x32 .f32) (harg14 : arg14.IsWhole) (arg15 : Memref sig .tc .vmem S256x256 .f32) (harg15 : arg15.IsWhole) (hc0 : cond1_0 i) (hc1 : ¬cond1_1 i)
    (x0 : Vec F S32x128 .f32) (x1 : Vec F S256x256 .f32) (x2 : Vec F S256x64 .f32) (x3 : Vec F S8x64x768 .f32) (x4 : Vec F S8x256x768 .f32) (x5 : Vec F S256x768 .f32) (x6 : Vec F S256x768 .f32) (x7 : Vec F S256x128 .f32) (x8 : Vec F S256x128 .f32) (x9 : Vec F S256x128 .f32) (x10 : Vec F S128x256 .f32) : Vec F S256x256 .f32 :=
  VO1_12.read (Elt F) (VO1_12.writes (Elt F) VO1_12.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.1)

/-- Case A's pieces for output 13 tile its block (1 store of `S1x8x32`), so they cover it. -/
theorem cover1_A_13 (c : Dev nD) (i : grid1.Coords) (arg1 : Memref sig .tc .vmem S32x128 .f32) (harg1 : arg1.IsWhole) (arg2 : Memref sig .tc .vmem S256x256 .f32) (harg2 : arg2.IsWhole) (arg3 : Memref sig .tc .vmem S256x64 .f32) (harg3 : arg3.IsWhole) (arg4 : Memref sig .tc .vmem S8x64x768 .f32) (harg4 : arg4.IsWhole) (arg5 : Memref sig .tc .vmem S8x256x768 .f32) (harg5 : arg5.IsWhole) (arg6 : Memref sig .tc .vmem S256x768 .f32) (harg6 : arg6.IsWhole) (arg7 : Memref sig .tc .vmem S256x768 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S128x256 .f32) (harg11 : arg11.IsWhole) (arg12 : Memref sig .tc .vmem S1x256x256 .f32) (harg12 : arg12.IsWhole) (arg13 : Memref sig .tc .vmem S256x256 .f32) (harg13 : arg13.IsWhole) (arg14 : Memref sig .tc .vmem S1x8x32 .f32) (harg14 : arg14.IsWhole) (arg15 : Memref sig .tc .vmem S256x256 .f32) (harg15 : arg15.IsWhole) (hc0 : cond1_0 i) (hc1 : ¬cond1_1 i)
    (x0 : Vec F S32x128 .f32) (x1 : Vec F S256x256 .f32) (x2 : Vec F S256x64 .f32) (x3 : Vec F S8x64x768 .f32) (x4 : Vec F S8x256x768 .f32) (x5 : Vec F S256x768 .f32) (x6 : Vec F S256x768 .f32) (x7 : Vec F S256x128 .f32) (x8 : Vec F S256x128 .f32) (x9 : Vec F S256x128 .f32) (x10 : Vec F S128x256 .f32) (y : S1x8x32.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.2.1 S1x8x32.size (by sl_kernel_rfl) y

/-- What case A leaves in output 13's staging buffer: its pieces read back over junk. -/
def out1_A_13 (c : Dev nD) (i : grid1.Coords) (arg1 : Memref sig .tc .vmem S32x128 .f32) (harg1 : arg1.IsWhole) (arg2 : Memref sig .tc .vmem S256x256 .f32) (harg2 : arg2.IsWhole) (arg3 : Memref sig .tc .vmem S256x64 .f32) (harg3 : arg3.IsWhole) (arg4 : Memref sig .tc .vmem S8x64x768 .f32) (harg4 : arg4.IsWhole) (arg5 : Memref sig .tc .vmem S8x256x768 .f32) (harg5 : arg5.IsWhole) (arg6 : Memref sig .tc .vmem S256x768 .f32) (harg6 : arg6.IsWhole) (arg7 : Memref sig .tc .vmem S256x768 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S128x256 .f32) (harg11 : arg11.IsWhole) (arg12 : Memref sig .tc .vmem S1x256x256 .f32) (harg12 : arg12.IsWhole) (arg13 : Memref sig .tc .vmem S256x256 .f32) (harg13 : arg13.IsWhole) (arg14 : Memref sig .tc .vmem S1x8x32 .f32) (harg14 : arg14.IsWhole) (arg15 : Memref sig .tc .vmem S256x256 .f32) (harg15 : arg15.IsWhole) (hc0 : cond1_0 i) (hc1 : ¬cond1_1 i)
    (x0 : Vec F S32x128 .f32) (x1 : Vec F S256x256 .f32) (x2 : Vec F S256x64 .f32) (x3 : Vec F S8x64x768 .f32) (x4 : Vec F S8x256x768 .f32) (x5 : Vec F S256x768 .f32) (x6 : Vec F S256x768 .f32) (x7 : Vec F S256x128 .f32) (x8 : Vec F S256x128 .f32) (x9 : Vec F S256x128 .f32) (x10 : Vec F S128x256 .f32) : Vec F S1x8x32 .f32 :=
  VO1_13.read (Elt F) (VO1_13.writes (Elt F) VO1_13.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.2.1)

/-- Case A's pieces for scratch `arg15`, which the kernel carries between points, cover it: 2 pieces of `S256x256` tiling it. -/
theorem scover1_A_0 (c : Dev nD) (i : grid1.Coords) (arg1 : Memref sig .tc .vmem S32x128 .f32) (harg1 : arg1.IsWhole) (arg2 : Memref sig .tc .vmem S256x256 .f32) (harg2 : arg2.IsWhole) (arg3 : Memref sig .tc .vmem S256x64 .f32) (harg3 : arg3.IsWhole) (arg4 : Memref sig .tc .vmem S8x64x768 .f32) (harg4 : arg4.IsWhole) (arg5 : Memref sig .tc .vmem S8x256x768 .f32) (harg5 : arg5.IsWhole) (arg6 : Memref sig .tc .vmem S256x768 .f32) (harg6 : arg6.IsWhole) (arg7 : Memref sig .tc .vmem S256x768 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S128x256 .f32) (harg11 : arg11.IsWhole) (arg12 : Memref sig .tc .vmem S1x256x256 .f32) (harg12 : arg12.IsWhole) (arg13 : Memref sig .tc .vmem S256x256 .f32) (harg13 : arg13.IsWhole) (arg14 : Memref sig .tc .vmem S1x8x32 .f32) (harg14 : arg14.IsWhole) (arg15 : Memref sig .tc .vmem S256x256 .f32) (harg15 : arg15.IsWhole) (hc0 : cond1_0 i) (hc1 : ¬cond1_1 i)
    (x0 : Vec F S32x128 .f32) (x1 : Vec F S256x256 .f32) (x2 : Vec F S256x64 .f32) (x3 : Vec F S8x64x768 .f32) (x4 : Vec F S8x256x768 .f32) (x5 : Vec F S256x768 .f32) (x6 : Vec F S256x768 .f32) (x7 : Vec F S256x128 .f32) (x8 : Vec F S256x128 .f32) (x9 : Vec F S256x128 .f32) (x10 : Vec F S128x256 .f32) (y : S256x256.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.2.2.1 S256x256.size (by sl_kernel_rfl) y

/-- What case A leaves in scratch `arg15`: its pieces read back over junk. -/
def sout1_A_0 (c : Dev nD) (i : grid1.Coords) (arg1 : Memref sig .tc .vmem S32x128 .f32) (harg1 : arg1.IsWhole) (arg2 : Memref sig .tc .vmem S256x256 .f32) (harg2 : arg2.IsWhole) (arg3 : Memref sig .tc .vmem S256x64 .f32) (harg3 : arg3.IsWhole) (arg4 : Memref sig .tc .vmem S8x64x768 .f32) (harg4 : arg4.IsWhole) (arg5 : Memref sig .tc .vmem S8x256x768 .f32) (harg5 : arg5.IsWhole) (arg6 : Memref sig .tc .vmem S256x768 .f32) (harg6 : arg6.IsWhole) (arg7 : Memref sig .tc .vmem S256x768 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S128x256 .f32) (harg11 : arg11.IsWhole) (arg12 : Memref sig .tc .vmem S1x256x256 .f32) (harg12 : arg12.IsWhole) (arg13 : Memref sig .tc .vmem S256x256 .f32) (harg13 : arg13.IsWhole) (arg14 : Memref sig .tc .vmem S1x8x32 .f32) (harg14 : arg14.IsWhole) (arg15 : Memref sig .tc .vmem S256x256 .f32) (harg15 : arg15.IsWhole) (hc0 : cond1_0 i) (hc1 : ¬cond1_1 i)
    (x0 : Vec F S32x128 .f32) (x1 : Vec F S256x256 .f32) (x2 : Vec F S256x64 .f32) (x3 : Vec F S8x64x768 .f32) (x4 : Vec F S8x256x768 .f32) (x5 : Vec F S256x768 .f32) (x6 : Vec F S256x768 .f32) (x7 : Vec F S256x128 .f32) (x8 : Vec F S256x128 .f32) (x9 : Vec F S256x128 .f32) (x10 : Vec F S128x256 .f32) : Vec F S256x256 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.2.2.1)

/-- Case B's pieces for output 11 tile its block (1 store of `S1x256x256`), so they cover it. -/
theorem cover1_B_11 (c : Dev nD) (i : grid1.Coords) (arg1 : Memref sig .tc .vmem S32x128 .f32) (harg1 : arg1.IsWhole) (arg2 : Memref sig .tc .vmem S256x256 .f32) (harg2 : arg2.IsWhole) (arg3 : Memref sig .tc .vmem S256x64 .f32) (harg3 : arg3.IsWhole) (arg4 : Memref sig .tc .vmem S8x64x768 .f32) (harg4 : arg4.IsWhole) (arg5 : Memref sig .tc .vmem S8x256x768 .f32) (harg5 : arg5.IsWhole) (arg6 : Memref sig .tc .vmem S256x768 .f32) (harg6 : arg6.IsWhole) (arg7 : Memref sig .tc .vmem S256x768 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S128x256 .f32) (harg11 : arg11.IsWhole) (arg12 : Memref sig .tc .vmem S1x256x256 .f32) (harg12 : arg12.IsWhole) (arg13 : Memref sig .tc .vmem S256x256 .f32) (harg13 : arg13.IsWhole) (arg14 : Memref sig .tc .vmem S1x8x32 .f32) (harg14 : arg14.IsWhole) (arg15 : Memref sig .tc .vmem S256x256 .f32) (harg15 : arg15.IsWhole) (hc0 : ¬cond1_0 i) (hc1 : ¬cond1_1 i)
    (x0 : Vec F S32x128 .f32) (x1 : Vec F S256x256 .f32) (x2 : Vec F S256x64 .f32) (x3 : Vec F S8x64x768 .f32) (x4 : Vec F S8x256x768 .f32) (x5 : Vec F S256x768 .f32) (x6 : Vec F S256x768 .f32) (x7 : Vec F S256x128 .f32) (x8 : Vec F S256x128 .f32) (x9 : Vec F S256x128 .f32) (x10 : Vec F S128x256 .f32) (xs0 : Vec F S256x256 .f32) (y : S1x256x256.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0).1 S1x256x256.size (by sl_kernel_rfl) y

/-- What case B leaves in output 11's staging buffer: its pieces read back over junk. -/
def out1_B_11 (c : Dev nD) (i : grid1.Coords) (arg1 : Memref sig .tc .vmem S32x128 .f32) (harg1 : arg1.IsWhole) (arg2 : Memref sig .tc .vmem S256x256 .f32) (harg2 : arg2.IsWhole) (arg3 : Memref sig .tc .vmem S256x64 .f32) (harg3 : arg3.IsWhole) (arg4 : Memref sig .tc .vmem S8x64x768 .f32) (harg4 : arg4.IsWhole) (arg5 : Memref sig .tc .vmem S8x256x768 .f32) (harg5 : arg5.IsWhole) (arg6 : Memref sig .tc .vmem S256x768 .f32) (harg6 : arg6.IsWhole) (arg7 : Memref sig .tc .vmem S256x768 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S128x256 .f32) (harg11 : arg11.IsWhole) (arg12 : Memref sig .tc .vmem S1x256x256 .f32) (harg12 : arg12.IsWhole) (arg13 : Memref sig .tc .vmem S256x256 .f32) (harg13 : arg13.IsWhole) (arg14 : Memref sig .tc .vmem S1x8x32 .f32) (harg14 : arg14.IsWhole) (arg15 : Memref sig .tc .vmem S256x256 .f32) (harg15 : arg15.IsWhole) (hc0 : ¬cond1_0 i) (hc1 : ¬cond1_1 i)
    (x0 : Vec F S32x128 .f32) (x1 : Vec F S256x256 .f32) (x2 : Vec F S256x64 .f32) (x3 : Vec F S8x64x768 .f32) (x4 : Vec F S8x256x768 .f32) (x5 : Vec F S256x768 .f32) (x6 : Vec F S256x768 .f32) (x7 : Vec F S256x128 .f32) (x8 : Vec F S256x128 .f32) (x9 : Vec F S256x128 .f32) (x10 : Vec F S128x256 .f32) (xs0 : Vec F S256x256 .f32) : Vec F S1x256x256 .f32 :=
  VO1_11.read (Elt F) (VO1_11.writes (Elt F) VO1_11.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0).1)

/-- Case B stores nothing into output 12 (the window is idle at its points and not written back there):
    no pieces — a placeholder (junk read back) that nothing consults, since at these points the window is neither
    written back nor read at the next point. -/
def out1_B_12 (c : Dev nD) (i : grid1.Coords) (arg1 : Memref sig .tc .vmem S32x128 .f32) (harg1 : arg1.IsWhole) (arg2 : Memref sig .tc .vmem S256x256 .f32) (harg2 : arg2.IsWhole) (arg3 : Memref sig .tc .vmem S256x64 .f32) (harg3 : arg3.IsWhole) (arg4 : Memref sig .tc .vmem S8x64x768 .f32) (harg4 : arg4.IsWhole) (arg5 : Memref sig .tc .vmem S8x256x768 .f32) (harg5 : arg5.IsWhole) (arg6 : Memref sig .tc .vmem S256x768 .f32) (harg6 : arg6.IsWhole) (arg7 : Memref sig .tc .vmem S256x768 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S128x256 .f32) (harg11 : arg11.IsWhole) (arg12 : Memref sig .tc .vmem S1x256x256 .f32) (harg12 : arg12.IsWhole) (arg13 : Memref sig .tc .vmem S256x256 .f32) (harg13 : arg13.IsWhole) (arg14 : Memref sig .tc .vmem S1x8x32 .f32) (harg14 : arg14.IsWhole) (arg15 : Memref sig .tc .vmem S256x256 .f32) (harg15 : arg15.IsWhole) (hc0 : ¬cond1_0 i) (hc1 : ¬cond1_1 i)
    (x0 : Vec F S32x128 .f32) (x1 : Vec F S256x256 .f32) (x2 : Vec F S256x64 .f32) (x3 : Vec F S8x64x768 .f32) (x4 : Vec F S8x256x768 .f32) (x5 : Vec F S256x768 .f32) (x6 : Vec F S256x768 .f32) (x7 : Vec F S256x128 .f32) (x8 : Vec F S256x128 .f32) (x9 : Vec F S256x128 .f32) (x10 : Vec F S128x256 .f32) (xs0 : Vec F S256x256 .f32) : Vec F S256x256 .f32 :=
  VO1_12.read (Elt F) (VO1_12.writes (Elt F) VO1_12.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0).2.1)

/-- Case B's pieces for output 13 tile its block (1 store of `S1x8x32`), so they cover it. -/
theorem cover1_B_13 (c : Dev nD) (i : grid1.Coords) (arg1 : Memref sig .tc .vmem S32x128 .f32) (harg1 : arg1.IsWhole) (arg2 : Memref sig .tc .vmem S256x256 .f32) (harg2 : arg2.IsWhole) (arg3 : Memref sig .tc .vmem S256x64 .f32) (harg3 : arg3.IsWhole) (arg4 : Memref sig .tc .vmem S8x64x768 .f32) (harg4 : arg4.IsWhole) (arg5 : Memref sig .tc .vmem S8x256x768 .f32) (harg5 : arg5.IsWhole) (arg6 : Memref sig .tc .vmem S256x768 .f32) (harg6 : arg6.IsWhole) (arg7 : Memref sig .tc .vmem S256x768 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S128x256 .f32) (harg11 : arg11.IsWhole) (arg12 : Memref sig .tc .vmem S1x256x256 .f32) (harg12 : arg12.IsWhole) (arg13 : Memref sig .tc .vmem S256x256 .f32) (harg13 : arg13.IsWhole) (arg14 : Memref sig .tc .vmem S1x8x32 .f32) (harg14 : arg14.IsWhole) (arg15 : Memref sig .tc .vmem S256x256 .f32) (harg15 : arg15.IsWhole) (hc0 : ¬cond1_0 i) (hc1 : ¬cond1_1 i)
    (x0 : Vec F S32x128 .f32) (x1 : Vec F S256x256 .f32) (x2 : Vec F S256x64 .f32) (x3 : Vec F S8x64x768 .f32) (x4 : Vec F S8x256x768 .f32) (x5 : Vec F S256x768 .f32) (x6 : Vec F S256x768 .f32) (x7 : Vec F S256x128 .f32) (x8 : Vec F S256x128 .f32) (x9 : Vec F S256x128 .f32) (x10 : Vec F S128x256 .f32) (xs0 : Vec F S256x256 .f32) (y : S1x8x32.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0).2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0).2.2.1 S1x8x32.size (by sl_kernel_rfl) y

/-- What case B leaves in output 13's staging buffer: its pieces read back over junk. -/
def out1_B_13 (c : Dev nD) (i : grid1.Coords) (arg1 : Memref sig .tc .vmem S32x128 .f32) (harg1 : arg1.IsWhole) (arg2 : Memref sig .tc .vmem S256x256 .f32) (harg2 : arg2.IsWhole) (arg3 : Memref sig .tc .vmem S256x64 .f32) (harg3 : arg3.IsWhole) (arg4 : Memref sig .tc .vmem S8x64x768 .f32) (harg4 : arg4.IsWhole) (arg5 : Memref sig .tc .vmem S8x256x768 .f32) (harg5 : arg5.IsWhole) (arg6 : Memref sig .tc .vmem S256x768 .f32) (harg6 : arg6.IsWhole) (arg7 : Memref sig .tc .vmem S256x768 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S128x256 .f32) (harg11 : arg11.IsWhole) (arg12 : Memref sig .tc .vmem S1x256x256 .f32) (harg12 : arg12.IsWhole) (arg13 : Memref sig .tc .vmem S256x256 .f32) (harg13 : arg13.IsWhole) (arg14 : Memref sig .tc .vmem S1x8x32 .f32) (harg14 : arg14.IsWhole) (arg15 : Memref sig .tc .vmem S256x256 .f32) (harg15 : arg15.IsWhole) (hc0 : ¬cond1_0 i) (hc1 : ¬cond1_1 i)
    (x0 : Vec F S32x128 .f32) (x1 : Vec F S256x256 .f32) (x2 : Vec F S256x64 .f32) (x3 : Vec F S8x64x768 .f32) (x4 : Vec F S8x256x768 .f32) (x5 : Vec F S256x768 .f32) (x6 : Vec F S256x768 .f32) (x7 : Vec F S256x128 .f32) (x8 : Vec F S256x128 .f32) (x9 : Vec F S256x128 .f32) (x10 : Vec F S128x256 .f32) (xs0 : Vec F S256x256 .f32) : Vec F S1x8x32 .f32 :=
  VO1_13.read (Elt F) (VO1_13.writes (Elt F) VO1_13.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0).2.2.1)

/-- Case B's pieces for scratch `arg15`, which the kernel carries between points, cover it: 1 piece of `S256x256` tiling it. -/
theorem scover1_B_0 (c : Dev nD) (i : grid1.Coords) (arg1 : Memref sig .tc .vmem S32x128 .f32) (harg1 : arg1.IsWhole) (arg2 : Memref sig .tc .vmem S256x256 .f32) (harg2 : arg2.IsWhole) (arg3 : Memref sig .tc .vmem S256x64 .f32) (harg3 : arg3.IsWhole) (arg4 : Memref sig .tc .vmem S8x64x768 .f32) (harg4 : arg4.IsWhole) (arg5 : Memref sig .tc .vmem S8x256x768 .f32) (harg5 : arg5.IsWhole) (arg6 : Memref sig .tc .vmem S256x768 .f32) (harg6 : arg6.IsWhole) (arg7 : Memref sig .tc .vmem S256x768 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S128x256 .f32) (harg11 : arg11.IsWhole) (arg12 : Memref sig .tc .vmem S1x256x256 .f32) (harg12 : arg12.IsWhole) (arg13 : Memref sig .tc .vmem S256x256 .f32) (harg13 : arg13.IsWhole) (arg14 : Memref sig .tc .vmem S1x8x32 .f32) (harg14 : arg14.IsWhole) (arg15 : Memref sig .tc .vmem S256x256 .f32) (harg15 : arg15.IsWhole) (hc0 : ¬cond1_0 i) (hc1 : ¬cond1_1 i)
    (x0 : Vec F S32x128 .f32) (x1 : Vec F S256x256 .f32) (x2 : Vec F S256x64 .f32) (x3 : Vec F S8x64x768 .f32) (x4 : Vec F S8x256x768 .f32) (x5 : Vec F S256x768 .f32) (x6 : Vec F S256x768 .f32) (x7 : Vec F S256x128 .f32) (x8 : Vec F S256x128 .f32) (x9 : Vec F S256x128 .f32) (x10 : Vec F S128x256 .f32) (xs0 : Vec F S256x256 .f32) (y : S256x256.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0).2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0).2.2.2.1 S256x256.size (by sl_kernel_rfl) y

/-- What case B leaves in scratch `arg15`: its pieces read back over junk. -/
def sout1_B_0 (c : Dev nD) (i : grid1.Coords) (arg1 : Memref sig .tc .vmem S32x128 .f32) (harg1 : arg1.IsWhole) (arg2 : Memref sig .tc .vmem S256x256 .f32) (harg2 : arg2.IsWhole) (arg3 : Memref sig .tc .vmem S256x64 .f32) (harg3 : arg3.IsWhole) (arg4 : Memref sig .tc .vmem S8x64x768 .f32) (harg4 : arg4.IsWhole) (arg5 : Memref sig .tc .vmem S8x256x768 .f32) (harg5 : arg5.IsWhole) (arg6 : Memref sig .tc .vmem S256x768 .f32) (harg6 : arg6.IsWhole) (arg7 : Memref sig .tc .vmem S256x768 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S128x256 .f32) (harg11 : arg11.IsWhole) (arg12 : Memref sig .tc .vmem S1x256x256 .f32) (harg12 : arg12.IsWhole) (arg13 : Memref sig .tc .vmem S256x256 .f32) (harg13 : arg13.IsWhole) (arg14 : Memref sig .tc .vmem S1x8x32 .f32) (harg14 : arg14.IsWhole) (arg15 : Memref sig .tc .vmem S256x256 .f32) (harg15 : arg15.IsWhole) (hc0 : ¬cond1_0 i) (hc1 : ¬cond1_1 i)
    (x0 : Vec F S32x128 .f32) (x1 : Vec F S256x256 .f32) (x2 : Vec F S256x64 .f32) (x3 : Vec F S8x64x768 .f32) (x4 : Vec F S8x256x768 .f32) (x5 : Vec F S256x768 .f32) (x6 : Vec F S256x768 .f32) (x7 : Vec F S256x128 .f32) (x8 : Vec F S256x128 .f32) (x9 : Vec F S256x128 .f32) (x10 : Vec F S128x256 .f32) (xs0 : Vec F S256x256 .f32) : Vec F S256x256 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0).2.2.2.1)

/-- Case C's pieces for output 11 tile its block (1 store of `S1x256x256`), so they cover it. -/
theorem cover1_C_11 (c : Dev nD) (i : grid1.Coords) (arg1 : Memref sig .tc .vmem S32x128 .f32) (harg1 : arg1.IsWhole) (arg2 : Memref sig .tc .vmem S256x256 .f32) (harg2 : arg2.IsWhole) (arg3 : Memref sig .tc .vmem S256x64 .f32) (harg3 : arg3.IsWhole) (arg4 : Memref sig .tc .vmem S8x64x768 .f32) (harg4 : arg4.IsWhole) (arg5 : Memref sig .tc .vmem S8x256x768 .f32) (harg5 : arg5.IsWhole) (arg6 : Memref sig .tc .vmem S256x768 .f32) (harg6 : arg6.IsWhole) (arg7 : Memref sig .tc .vmem S256x768 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S128x256 .f32) (harg11 : arg11.IsWhole) (arg12 : Memref sig .tc .vmem S1x256x256 .f32) (harg12 : arg12.IsWhole) (arg13 : Memref sig .tc .vmem S256x256 .f32) (harg13 : arg13.IsWhole) (arg14 : Memref sig .tc .vmem S1x8x32 .f32) (harg14 : arg14.IsWhole) (arg15 : Memref sig .tc .vmem S256x256 .f32) (harg15 : arg15.IsWhole) (hc0 : ¬cond1_0 i) (hc1 : cond1_1 i)
    (x0 : Vec F S32x128 .f32) (x1 : Vec F S256x256 .f32) (x2 : Vec F S256x64 .f32) (x3 : Vec F S8x64x768 .f32) (x4 : Vec F S8x256x768 .f32) (x5 : Vec F S256x768 .f32) (x6 : Vec F S256x768 .f32) (x7 : Vec F S256x128 .f32) (x8 : Vec F S256x128 .f32) (x9 : Vec F S256x128 .f32) (x10 : Vec F S128x256 .f32) (xs0 : Vec F S256x256 .f32) (y : S1x256x256.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0).1 S1x256x256.size (by sl_kernel_rfl) y

/-- What case C leaves in output 11's staging buffer: its pieces read back over junk. -/
def out1_C_11 (c : Dev nD) (i : grid1.Coords) (arg1 : Memref sig .tc .vmem S32x128 .f32) (harg1 : arg1.IsWhole) (arg2 : Memref sig .tc .vmem S256x256 .f32) (harg2 : arg2.IsWhole) (arg3 : Memref sig .tc .vmem S256x64 .f32) (harg3 : arg3.IsWhole) (arg4 : Memref sig .tc .vmem S8x64x768 .f32) (harg4 : arg4.IsWhole) (arg5 : Memref sig .tc .vmem S8x256x768 .f32) (harg5 : arg5.IsWhole) (arg6 : Memref sig .tc .vmem S256x768 .f32) (harg6 : arg6.IsWhole) (arg7 : Memref sig .tc .vmem S256x768 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S128x256 .f32) (harg11 : arg11.IsWhole) (arg12 : Memref sig .tc .vmem S1x256x256 .f32) (harg12 : arg12.IsWhole) (arg13 : Memref sig .tc .vmem S256x256 .f32) (harg13 : arg13.IsWhole) (arg14 : Memref sig .tc .vmem S1x8x32 .f32) (harg14 : arg14.IsWhole) (arg15 : Memref sig .tc .vmem S256x256 .f32) (harg15 : arg15.IsWhole) (hc0 : ¬cond1_0 i) (hc1 : cond1_1 i)
    (x0 : Vec F S32x128 .f32) (x1 : Vec F S256x256 .f32) (x2 : Vec F S256x64 .f32) (x3 : Vec F S8x64x768 .f32) (x4 : Vec F S8x256x768 .f32) (x5 : Vec F S256x768 .f32) (x6 : Vec F S256x768 .f32) (x7 : Vec F S256x128 .f32) (x8 : Vec F S256x128 .f32) (x9 : Vec F S256x128 .f32) (x10 : Vec F S128x256 .f32) (xs0 : Vec F S256x256 .f32) : Vec F S1x256x256 .f32 :=
  VO1_11.read (Elt F) (VO1_11.writes (Elt F) VO1_11.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0).1)

/-- Case C's pieces for output 12 tile its block (1 store of `S256x256`), so they cover it. -/
theorem cover1_C_12 (c : Dev nD) (i : grid1.Coords) (arg1 : Memref sig .tc .vmem S32x128 .f32) (harg1 : arg1.IsWhole) (arg2 : Memref sig .tc .vmem S256x256 .f32) (harg2 : arg2.IsWhole) (arg3 : Memref sig .tc .vmem S256x64 .f32) (harg3 : arg3.IsWhole) (arg4 : Memref sig .tc .vmem S8x64x768 .f32) (harg4 : arg4.IsWhole) (arg5 : Memref sig .tc .vmem S8x256x768 .f32) (harg5 : arg5.IsWhole) (arg6 : Memref sig .tc .vmem S256x768 .f32) (harg6 : arg6.IsWhole) (arg7 : Memref sig .tc .vmem S256x768 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S128x256 .f32) (harg11 : arg11.IsWhole) (arg12 : Memref sig .tc .vmem S1x256x256 .f32) (harg12 : arg12.IsWhole) (arg13 : Memref sig .tc .vmem S256x256 .f32) (harg13 : arg13.IsWhole) (arg14 : Memref sig .tc .vmem S1x8x32 .f32) (harg14 : arg14.IsWhole) (arg15 : Memref sig .tc .vmem S256x256 .f32) (harg15 : arg15.IsWhole) (hc0 : ¬cond1_0 i) (hc1 : cond1_1 i)
    (x0 : Vec F S32x128 .f32) (x1 : Vec F S256x256 .f32) (x2 : Vec F S256x64 .f32) (x3 : Vec F S8x64x768 .f32) (x4 : Vec F S8x256x768 .f32) (x5 : Vec F S256x768 .f32) (x6 : Vec F S256x768 .f32) (x7 : Vec F S256x128 .f32) (x8 : Vec F S256x128 .f32) (x9 : Vec F S256x128 .f32) (x10 : Vec F S128x256 .f32) (xs0 : Vec F S256x256 .f32) (y : S256x256.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0).2.1 S256x256.size (by sl_kernel_rfl) y

/-- What case C leaves in output 12's staging buffer: its pieces read back over junk. -/
def out1_C_12 (c : Dev nD) (i : grid1.Coords) (arg1 : Memref sig .tc .vmem S32x128 .f32) (harg1 : arg1.IsWhole) (arg2 : Memref sig .tc .vmem S256x256 .f32) (harg2 : arg2.IsWhole) (arg3 : Memref sig .tc .vmem S256x64 .f32) (harg3 : arg3.IsWhole) (arg4 : Memref sig .tc .vmem S8x64x768 .f32) (harg4 : arg4.IsWhole) (arg5 : Memref sig .tc .vmem S8x256x768 .f32) (harg5 : arg5.IsWhole) (arg6 : Memref sig .tc .vmem S256x768 .f32) (harg6 : arg6.IsWhole) (arg7 : Memref sig .tc .vmem S256x768 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S128x256 .f32) (harg11 : arg11.IsWhole) (arg12 : Memref sig .tc .vmem S1x256x256 .f32) (harg12 : arg12.IsWhole) (arg13 : Memref sig .tc .vmem S256x256 .f32) (harg13 : arg13.IsWhole) (arg14 : Memref sig .tc .vmem S1x8x32 .f32) (harg14 : arg14.IsWhole) (arg15 : Memref sig .tc .vmem S256x256 .f32) (harg15 : arg15.IsWhole) (hc0 : ¬cond1_0 i) (hc1 : cond1_1 i)
    (x0 : Vec F S32x128 .f32) (x1 : Vec F S256x256 .f32) (x2 : Vec F S256x64 .f32) (x3 : Vec F S8x64x768 .f32) (x4 : Vec F S8x256x768 .f32) (x5 : Vec F S256x768 .f32) (x6 : Vec F S256x768 .f32) (x7 : Vec F S256x128 .f32) (x8 : Vec F S256x128 .f32) (x9 : Vec F S256x128 .f32) (x10 : Vec F S128x256 .f32) (xs0 : Vec F S256x256 .f32) : Vec F S256x256 .f32 :=
  VO1_12.read (Elt F) (VO1_12.writes (Elt F) VO1_12.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0).2.1)

/-- Case C's pieces for output 13 tile its block (1 store of `S1x8x32`), so they cover it. -/
theorem cover1_C_13 (c : Dev nD) (i : grid1.Coords) (arg1 : Memref sig .tc .vmem S32x128 .f32) (harg1 : arg1.IsWhole) (arg2 : Memref sig .tc .vmem S256x256 .f32) (harg2 : arg2.IsWhole) (arg3 : Memref sig .tc .vmem S256x64 .f32) (harg3 : arg3.IsWhole) (arg4 : Memref sig .tc .vmem S8x64x768 .f32) (harg4 : arg4.IsWhole) (arg5 : Memref sig .tc .vmem S8x256x768 .f32) (harg5 : arg5.IsWhole) (arg6 : Memref sig .tc .vmem S256x768 .f32) (harg6 : arg6.IsWhole) (arg7 : Memref sig .tc .vmem S256x768 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S128x256 .f32) (harg11 : arg11.IsWhole) (arg12 : Memref sig .tc .vmem S1x256x256 .f32) (harg12 : arg12.IsWhole) (arg13 : Memref sig .tc .vmem S256x256 .f32) (harg13 : arg13.IsWhole) (arg14 : Memref sig .tc .vmem S1x8x32 .f32) (harg14 : arg14.IsWhole) (arg15 : Memref sig .tc .vmem S256x256 .f32) (harg15 : arg15.IsWhole) (hc0 : ¬cond1_0 i) (hc1 : cond1_1 i)
    (x0 : Vec F S32x128 .f32) (x1 : Vec F S256x256 .f32) (x2 : Vec F S256x64 .f32) (x3 : Vec F S8x64x768 .f32) (x4 : Vec F S8x256x768 .f32) (x5 : Vec F S256x768 .f32) (x6 : Vec F S256x768 .f32) (x7 : Vec F S256x128 .f32) (x8 : Vec F S256x128 .f32) (x9 : Vec F S256x128 .f32) (x10 : Vec F S128x256 .f32) (xs0 : Vec F S256x256 .f32) (y : S1x8x32.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0).2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0).2.2.1 S1x8x32.size (by sl_kernel_rfl) y

/-- What case C leaves in output 13's staging buffer: its pieces read back over junk. -/
def out1_C_13 (c : Dev nD) (i : grid1.Coords) (arg1 : Memref sig .tc .vmem S32x128 .f32) (harg1 : arg1.IsWhole) (arg2 : Memref sig .tc .vmem S256x256 .f32) (harg2 : arg2.IsWhole) (arg3 : Memref sig .tc .vmem S256x64 .f32) (harg3 : arg3.IsWhole) (arg4 : Memref sig .tc .vmem S8x64x768 .f32) (harg4 : arg4.IsWhole) (arg5 : Memref sig .tc .vmem S8x256x768 .f32) (harg5 : arg5.IsWhole) (arg6 : Memref sig .tc .vmem S256x768 .f32) (harg6 : arg6.IsWhole) (arg7 : Memref sig .tc .vmem S256x768 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S128x256 .f32) (harg11 : arg11.IsWhole) (arg12 : Memref sig .tc .vmem S1x256x256 .f32) (harg12 : arg12.IsWhole) (arg13 : Memref sig .tc .vmem S256x256 .f32) (harg13 : arg13.IsWhole) (arg14 : Memref sig .tc .vmem S1x8x32 .f32) (harg14 : arg14.IsWhole) (arg15 : Memref sig .tc .vmem S256x256 .f32) (harg15 : arg15.IsWhole) (hc0 : ¬cond1_0 i) (hc1 : cond1_1 i)
    (x0 : Vec F S32x128 .f32) (x1 : Vec F S256x256 .f32) (x2 : Vec F S256x64 .f32) (x3 : Vec F S8x64x768 .f32) (x4 : Vec F S8x256x768 .f32) (x5 : Vec F S256x768 .f32) (x6 : Vec F S256x768 .f32) (x7 : Vec F S256x128 .f32) (x8 : Vec F S256x128 .f32) (x9 : Vec F S256x128 .f32) (x10 : Vec F S128x256 .f32) (xs0 : Vec F S256x256 .f32) : Vec F S1x8x32 .f32 :=
  VO1_13.read (Elt F) (VO1_13.writes (Elt F) VO1_13.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0).2.2.1)

/-- Case C's pieces for scratch `arg15`, which the kernel carries between points, cover it: 1 piece of `S256x256` tiling it. -/
theorem scover1_C_0 (c : Dev nD) (i : grid1.Coords) (arg1 : Memref sig .tc .vmem S32x128 .f32) (harg1 : arg1.IsWhole) (arg2 : Memref sig .tc .vmem S256x256 .f32) (harg2 : arg2.IsWhole) (arg3 : Memref sig .tc .vmem S256x64 .f32) (harg3 : arg3.IsWhole) (arg4 : Memref sig .tc .vmem S8x64x768 .f32) (harg4 : arg4.IsWhole) (arg5 : Memref sig .tc .vmem S8x256x768 .f32) (harg5 : arg5.IsWhole) (arg6 : Memref sig .tc .vmem S256x768 .f32) (harg6 : arg6.IsWhole) (arg7 : Memref sig .tc .vmem S256x768 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S128x256 .f32) (harg11 : arg11.IsWhole) (arg12 : Memref sig .tc .vmem S1x256x256 .f32) (harg12 : arg12.IsWhole) (arg13 : Memref sig .tc .vmem S256x256 .f32) (harg13 : arg13.IsWhole) (arg14 : Memref sig .tc .vmem S1x8x32 .f32) (harg14 : arg14.IsWhole) (arg15 : Memref sig .tc .vmem S256x256 .f32) (harg15 : arg15.IsWhole) (hc0 : ¬cond1_0 i) (hc1 : cond1_1 i)
    (x0 : Vec F S32x128 .f32) (x1 : Vec F S256x256 .f32) (x2 : Vec F S256x64 .f32) (x3 : Vec F S8x64x768 .f32) (x4 : Vec F S8x256x768 .f32) (x5 : Vec F S256x768 .f32) (x6 : Vec F S256x768 .f32) (x7 : Vec F S256x128 .f32) (x8 : Vec F S256x128 .f32) (x9 : Vec F S256x128 .f32) (x10 : Vec F S128x256 .f32) (xs0 : Vec F S256x256 .f32) (y : S256x256.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0).2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0).2.2.2.1 S256x256.size (by sl_kernel_rfl) y

/-- What case C leaves in scratch `arg15`: its pieces read back over junk. -/
def sout1_C_0 (c : Dev nD) (i : grid1.Coords) (arg1 : Memref sig .tc .vmem S32x128 .f32) (harg1 : arg1.IsWhole) (arg2 : Memref sig .tc .vmem S256x256 .f32) (harg2 : arg2.IsWhole) (arg3 : Memref sig .tc .vmem S256x64 .f32) (harg3 : arg3.IsWhole) (arg4 : Memref sig .tc .vmem S8x64x768 .f32) (harg4 : arg4.IsWhole) (arg5 : Memref sig .tc .vmem S8x256x768 .f32) (harg5 : arg5.IsWhole) (arg6 : Memref sig .tc .vmem S256x768 .f32) (harg6 : arg6.IsWhole) (arg7 : Memref sig .tc .vmem S256x768 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S128x256 .f32) (harg11 : arg11.IsWhole) (arg12 : Memref sig .tc .vmem S1x256x256 .f32) (harg12 : arg12.IsWhole) (arg13 : Memref sig .tc .vmem S256x256 .f32) (harg13 : arg13.IsWhole) (arg14 : Memref sig .tc .vmem S1x8x32 .f32) (harg14 : arg14.IsWhole) (arg15 : Memref sig .tc .vmem S256x256 .f32) (harg15 : arg15.IsWhole) (hc0 : ¬cond1_0 i) (hc1 : cond1_1 i)
    (x0 : Vec F S32x128 .f32) (x1 : Vec F S256x256 .f32) (x2 : Vec F S256x64 .f32) (x3 : Vec F S8x64x768 .f32) (x4 : Vec F S8x256x768 .f32) (x5 : Vec F S256x768 .f32) (x6 : Vec F S256x768 .f32) (x7 : Vec F S256x128 .f32) (x8 : Vec F S256x128 .f32) (x9 : Vec F S256x128 .f32) (x10 : Vec F S128x256 .f32) (xs0 : Vec F S256x256 .f32) : Vec F S256x256 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0).2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1x256x256 .f32 × Vec F S256x256 .f32 × Vec F S1x8x32 .f32 × Vec F S256x256 .f32
  | 0, hn => (out1_A_11 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) scM1_0 (Memref.isWhole_whole _) ((hcond1_0 ⟨0, hn⟩).mpr (Nat.zero_mod _)) (fun h => (fun h => by (try dsimp only at h); omega) ((hcond1_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩) (iblk V c 10 ⟨0, hn⟩), out1_A_12 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) scM1_0 (Memref.isWhole_whole _) ((hcond1_0 ⟨0, hn⟩).mpr (Nat.zero_mod _)) (fun h => (fun h => by (try dsimp only at h); omega) ((hcond1_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩) (iblk V c 10 ⟨0, hn⟩), out1_A_13 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) scM1_0 (Memref.isWhole_whole _) ((hcond1_0 ⟨0, hn⟩).mpr (Nat.zero_mod _)) (fun h => (fun h => by (try dsimp only at h); omega) ((hcond1_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩) (iblk V c 10 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) scM1_0 (Memref.isWhole_whole _) ((hcond1_0 ⟨0, hn⟩).mpr (Nat.zero_mod _)) (fun h => (fun h => by (try dsimp only at h); omega) ((hcond1_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩) (iblk V c 10 ⟨0, hn⟩))
  | n + 1, hn =>
    if h0 : (n + 1) % 32 = 0 then
      if h1 : (n + 1) % 32 = 31 then
        False.elim (by have hN : n + 1 < 32 := lt_of_lt_of_eq hn (show cfg1.N = 32 from N_1); omega)
      else
        (out1_A_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) ((hcond1_0 ⟨n + 1, hn⟩).mpr h0) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩), out1_A_12 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) ((hcond1_0 ⟨n + 1, hn⟩).mpr h0) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩), out1_A_13 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) ((hcond1_0 ⟨n + 1, hn⟩).mpr h0) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) ((hcond1_0 ⟨n + 1, hn⟩).mpr h0) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩))
    else
      if h1 : (n + 1) % 32 = 31 then
        (out1_C_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) (fun h => h0 ((hcond1_0 ⟨n + 1, hn⟩).mp h)) ((hcond1_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (outsAt1 c n (Nat.lt_of_succ_lt hn)).2.2.2, out1_C_12 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) (fun h => h0 ((hcond1_0 ⟨n + 1, hn⟩).mp h)) ((hcond1_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (outsAt1 c n (Nat.lt_of_succ_lt hn)).2.2.2, out1_C_13 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) (fun h => h0 ((hcond1_0 ⟨n + 1, hn⟩).mp h)) ((hcond1_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) (fun h => h0 ((hcond1_0 ⟨n + 1, hn⟩).mp h)) ((hcond1_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (outsAt1 c n (Nat.lt_of_succ_lt hn)).2.2.2)
      else
        (out1_B_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) (fun h => h0 ((hcond1_0 ⟨n + 1, hn⟩).mp h)) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (outsAt1 c n (Nat.lt_of_succ_lt hn)).2.2.2, out1_B_12 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) (fun h => h0 ((hcond1_0 ⟨n + 1, hn⟩).mp h)) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (outsAt1 c n (Nat.lt_of_succ_lt hn)).2.2.2, out1_B_13 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) (fun h => h0 ((hcond1_0 ⟨n + 1, hn⟩).mp h)) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) (fun h => h0 ((hcond1_0 ⟨n + 1, hn⟩).mp h)) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (outsAt1 c n (Nat.lt_of_succ_lt hn)).2.2.2)

/-- `outsAt1` at a point of case A: that case's contents. -/
theorem outsAt1_A (c : Dev nD) (t : Fin cfg1.N) (h0 : t.val % 32 = 0) (h1 : ¬t.val % 32 = 31) :
    outsAt1 V c t.val t.isLt = (out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (fun h => h1 ((hcond1_1 t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t), out1_A_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (fun h => h1 ((hcond1_1 t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t), out1_A_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (fun h => h1 ((hcond1_1 t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (fun h => h1 ((hcond1_1 t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 32 = 0) (h1 : ¬t.val % 32 = 31) :
    outsAt1 V c t.val t.isLt = (out1_B_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (fun h => h1 ((hcond1_1 t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (outsAt1 V c (t.val - 1) (Nat.lt_of_le_of_lt (Nat.sub_le _ _) t.isLt)).2.2.2, out1_B_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (fun h => h1 ((hcond1_1 t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (outsAt1 V c (t.val - 1) (Nat.lt_of_le_of_lt (Nat.sub_le _ _) t.isLt)).2.2.2, out1_B_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (fun h => h1 ((hcond1_1 t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (fun h => h1 ((hcond1_1 t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 32 = 0) (h1 : t.val % 32 = 31) :
    outsAt1 V c t.val t.isLt = (out1_C_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) ((hcond1_1 t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (outsAt1 V c (t.val - 1) (Nat.lt_of_le_of_lt (Nat.sub_le _ _) t.isLt)).2.2.2, out1_C_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) ((hcond1_1 t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (outsAt1 V c (t.val - 1) (Nat.lt_of_le_of_lt (Nat.sub_le _ _) t.isLt)).2.2.2, out1_C_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) ((hcond1_1 t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) ((hcond1_1 t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2.2.2)) ∗ Rst c)

/-- Before the first point the invariant is what the launch hands over. -/
theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop(owns (c : Thread nD τ) scM1_0 fullShare ((outsAt1 V c n hn).2.2.2)) ∗ Rst c) := rfl

/-- Before a point that is not the first: the carried scratch at what the point before left. -/
theorem PhiS_pos (c : Dev nD) (n : ℕ) (h : n ≤ cfg1.N) (hz : n ≠ 0) :
    PhiS V c n h = iprop(iprop(owns (c : Thread nD τ) scM1_0 fullShare ((outsAt1 V c (n - 1) (by omega)).2.2.2)) ∗ Rst c) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => (outsAt1 V c t.val t.isLt).1
    | ⟨12, _⟩ => (outsAt1 V c t.val t.isLt).2.1
    | ⟨13, _⟩ => (outsAt1 V c t.val t.isLt).2.2.1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dat1 V c).A w = V c (Pipeline.arrRef spec1 w) := by
  dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body leaves, window by window (the proof data's `match` reduced by `dsimp`). -/
theorem after1_0 (c : Dev nD) (t : Fin cfg1.N) : (dat1 V c).after 0 t = iblk V c 0 t := by dsimp only [dat1]

/-- The body leaves input 1's block in place. -/
theorem after1_1 (c : Dev nD) (t : Fin cfg1.N) : (dat1 V c).after 1 t = iblk V c 1 t := by dsimp only [dat1]

/-- The body leaves input 2's block in place. -/
theorem after1_2 (c : Dev nD) (t : Fin cfg1.N) : (dat1 V c).after 2 t = iblk V c 2 t := by dsimp only [dat1]

/-- The body leaves input 3's block in place. -/
theorem after1_3 (c : Dev nD) (t : Fin cfg1.N) : (dat1 V c).after 3 t = iblk V c 3 t := by dsimp only [dat1]

/-- The body leaves input 4's block in place. -/
theorem after1_4 (c : Dev nD) (t : Fin cfg1.N) : (dat1 V c).after 4 t = iblk V c 4 t := by dsimp only [dat1]

/-- The body leaves input 5's block in place. -/
theorem after1_5 (c : Dev nD) (t : Fin cfg1.N) : (dat1 V c).after 5 t = iblk V c 5 t := by dsimp only [dat1]

/-- The body leaves input 6's block in place. -/
theorem after1_6 (c : Dev nD) (t : Fin cfg1.N) : (dat1 V c).after 6 t = iblk V c 6 t := by dsimp only [dat1]

/-- The body leaves input 7's block in place. -/
theorem after1_7 (c : Dev nD) (t : Fin cfg1.N) : (dat1 V c).after 7 t = iblk V c 7 t := by dsimp only [dat1]

/-- The body leaves input 8's block in place. -/
theorem after1_8 (c : Dev nD) (t : Fin cfg1.N) : (dat1 V c).after 8 t = iblk V c 8 t := by dsimp only [dat1]

/-- The body leaves input 9's block in place. -/
theorem after1_9 (c : Dev nD) (t : Fin cfg1.N) : (dat1 V c).after 9 t = iblk V c 9 t := by dsimp only [dat1]

/-- The body leaves input 10's block in place. -/
theorem after1_10 (c : Dev nD) (t : Fin cfg1.N) : (dat1 V c).after 10 t = iblk V c 10 t := by dsimp only [dat1]

/-- The body leaves output 11's component of the fold. -/
theorem after1_11 (c : Dev nD) (t : Fin cfg1.N) : (dat1 V c).after 11 t = (outsAt1 V c t.val t.isLt).1 := by dsimp only [dat1]

/-- The body leaves output 12's component of the fold. -/
theorem after1_12 (c : Dev nD) (t : Fin cfg1.N) : (dat1 V c).after 12 t = (outsAt1 V c t.val t.isLt).2.1 := by dsimp only [dat1]

/-- The body leaves output 13's component of the fold. -/
theorem after1_13 (c : Dev nD) (t : Fin cfg1.N) : (dat1 V c).after 13 t = (outsAt1 V c t.val t.isLt).2.2.1 := by dsimp only [dat1]

/-- Each input's current staging buffer holds its block at every point, fetched there or not (`beforeK_W_of`). -/
theorem before1_0 (c : Dev nD) (t : Fin cfg1.N) (d) : (dat1 V c).before 0 t d = iblk V c 0 t :=
  before1_0_of V (dat1 V c) (A_eq V c 0) (after1_0 V c) t d

/-- Input 1's staging buffer holds its block before the body. -/
theorem before1_1 (c : Dev nD) (t : Fin cfg1.N) (d) : (dat1 V c).before 1 t d = iblk V c 1 t :=
  before1_1_of V (dat1 V c) (A_eq V c 1) (after1_1 V c) t d

/-- Input 2's staging buffer holds its block before the body. -/
theorem before1_2 (c : Dev nD) (t : Fin cfg1.N) (d) : (dat1 V c).before 2 t d = iblk V c 2 t :=
  before1_2_of V (dat1 V c) (A_eq V c 2) (after1_2 V c) t d

/-- Input 3's staging buffer holds its block before the body. -/
theorem before1_3 (c : Dev nD) (t : Fin cfg1.N) (d) : (dat1 V c).before 3 t d = iblk V c 3 t :=
  before1_3_of V (dat1 V c) (A_eq V c 3) (after1_3 V c) t d

/-- Input 4's staging buffer holds its block before the body. -/
theorem before1_4 (c : Dev nD) (t : Fin cfg1.N) (d) : (dat1 V c).before 4 t d = iblk V c 4 t :=
  before1_4_of V (dat1 V c) (A_eq V c 4) (after1_4 V c) t d

/-- Input 5's staging buffer holds its block before the body. -/
theorem before1_5 (c : Dev nD) (t : Fin cfg1.N) (d) : (dat1 V c).before 5 t d = iblk V c 5 t :=
  before1_5_of V (dat1 V c) (A_eq V c 5) (after1_5 V c) t d

/-- Input 6's staging buffer holds its block before the body. -/
theorem before1_6 (c : Dev nD) (t : Fin cfg1.N) (d) : (dat1 V c).before 6 t d = iblk V c 6 t :=
  before1_6_of V (dat1 V c) (A_eq V c 6) (after1_6 V c) t d

/-- Input 7's staging buffer holds its block before the body. -/
theorem before1_7 (c : Dev nD) (t : Fin cfg1.N) (d) : (dat1 V c).before 7 t d = iblk V c 7 t :=
  before1_7_of V (dat1 V c) (A_eq V c 7) (after1_7 V c) t d

/-- Input 8's staging buffer holds its block before the body. -/
theorem before1_8 (c : Dev nD) (t : Fin cfg1.N) (d) : (dat1 V c).before 8 t d = iblk V c 8 t :=
  before1_8_of V (dat1 V c) (A_eq V c 8) (after1_8 V c) t d

/-- Input 9's staging buffer holds its block before the body. -/
theorem before1_9 (c : Dev nD) (t : Fin cfg1.N) (d) : (dat1 V c).before 9 t d = iblk V c 9 t :=
  before1_9_of V (dat1 V c) (A_eq V c 9) (after1_9 V c) t d

/-- Input 10's staging buffer holds its block before the body. -/
theorem before1_10 (c : Dev nD) (t : Fin cfg1.N) (d) : (dat1 V c).before 10 t d = iblk V c 10 t :=
  before1_10_of V (dat1 V c) (A_eq V c 10) (after1_10 V c) t d

/-! ## The body obligation, at a generic point -/

/-- What the body is called with at point `t` (Lib/Pipeline.lean `BodyObligation`'s precondition, the windows one by one), -/
def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t)

set_option maxHeartbeats 14400000 in
/-- The body at any point: the inputs' memrefs hold their blocks (`before1_W`); the closed forms say which case the point is in (`by_cases`), an output the case reads before covering holds what the point before left (`before1_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5, before1_6, before1_7, before1_8, before1_9, before1_10]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  by_cases h0 : t.val % 32 = 0
  · by_cases h1 : t.val % 32 = 31
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7 t], after1_7]
      rw [show (dat1 V c).leavesExact 8 t = owns (c : Thread nD τ) (ms1_8 t) fullShare ((dat1 V c).after 8 t) from by
      unfold Dat.leavesExact; rw [liveAt1_8 t], after1_8]
      rw [show (dat1 V c).leavesExact 9 t = owns (c : Thread nD τ) (ms1_9 t) fullShare ((dat1 V c).after 9 t) from by
      unfold Dat.leavesExact; rw [liveAt1_9 t], after1_9]
      rw [show (dat1 V c).leavesExact 10 t = owns (c : Thread nD τ) (ms1_10 t) fullShare ((dat1 V c).after 10 t) from by
      unfold Dat.leavesExact; rw [liveAt1_10 t], after1_10]
      rw [show (dat1 V c).leavesExact 11 t = owns (c : Thread nD τ) (ms1_11 t) fullShare ((dat1 V c).after 11 t) from by
      unfold Dat.leavesExact; rw [liveAt1_11 t], after1_11]
      rw [Dat.leavesExact_idle (dat1 V c) 12 t (idleAt1_12_A t ((hcond1_0 t).mpr h0) (fun h => h1 ((hcond1_1 t).mp h))) (noFlush1_12_A t ((hcond1_0 t).mpr h0) (fun h => h1 ((hcond1_1 t).mp h)))]
      rw [show (dat1 V c).leavesExact 13 t = owns (c : Thread nD τ) (ms1_13 t) fullShare ((dat1 V c).after 13 t) from by
      unfold Dat.leavesExact; rw [liveAt1_13 t], after1_13]
      by_cases hz : t.val = 0
      · rw [PhiS_castSucc V c t, PhiS_zero V c _ _ hz, PhiA1_eq]
        rw [outsAt1_A V c t h0 h1]
        unfold out1_A_11 out1_A_13 sout1_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((kernelRun1_A c (grid1.coords t) _ _ _ _ _ _ _ _ _ _ _ _ _ _ _ _ _ _ _ _ _ _ _ _ _ _ _ _ _ _ ((hcond1_0 t).mpr h0) (fun h => h1 ((hcond1_1 t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexact H12
        isplitl [H13]; · iexists _; iexact H13
        isplitl [HS0]; · iexact HS0
        iintro ⟨H0, H1, H2, H3, H4, H5, H6, H7, H8, H9, H10, ⟨%e11, H11⟩, H12, ⟨%e13, H13⟩, ⟨%es0, HS0⟩⟩
        isplitl [HS0 Hg]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]
        · unfold owns; iexists _; isplitr
          swap; · iexact H11
          ipureintro; exact View.read_writes_of_cover _ _ _ _ _ (cover1_A_11 c _ _ _ _ _ _ _ _ _ _ _ _ _ _ _ _ _ _ _ _ _ _ _ _ _ _ _ _ _ _ _ _ _ _ _ _ _ _ _ _ _ _ _ _)
        isplitl [H12]; · iexists _; iexact H12
        unfold owns; iexists _; isplitr
        swap; · iexact H13
        ipureintro; exact View.read_writes_of_cover _ _ _ _ _ (cover1_A_13 c _ _ _ _ _ _ _ _ _ _ _ _ _ _ _ _ _ _ _ _ _ _ _ _ _ _ _ _ _ _ _ _ _ _ _ _ _ _ _ _ _ _ _ _)
      · exfalso; have hN : t.val < 32 := lt_of_lt_of_eq t.isLt (show cfg1.N = 32 from N_1); omega
  · by_cases h1 : t.val % 32 = 31
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7 t], after1_7]
      rw [show (dat1 V c).leavesExact 8 t = owns (c : Thread nD τ) (ms1_8 t) fullShare ((dat1 V c).after 8 t) from by
      unfold Dat.leavesExact; rw [liveAt1_8 t], after1_8]
      rw [show (dat1 V c).leavesExact 9 t = owns (c : Thread nD τ) (ms1_9 t) fullShare ((dat1 V c).after 9 t) from by
      unfold Dat.leavesExact; rw [liveAt1_9 t], after1_9]
      rw [show (dat1 V c).leavesExact 10 t = owns (c : Thread nD τ) (ms1_10 t) fullShare ((dat1 V c).after 10 t) from by
      unfold Dat.leavesExact; rw [liveAt1_10 t], after1_10]
      rw [show (dat1 V c).leavesExact 11 t = owns (c : Thread nD τ) (ms1_11 t) fullShare ((dat1 V c).after 11 t) from by
      unfold Dat.leavesExact; rw [liveAt1_11 t], after1_11]
      rw [show (dat1 V c).leavesExact 12 t = owns (c : Thread nD τ) (ms1_12 t) fullShare ((dat1 V c).after 12 t) from by
      unfold Dat.leavesExact; rw [liveAt1_12_C t (fun h => h0 ((hcond1_0 t).mp h)) ((hcond1_1 t).mpr h1)], after1_12]
      rw [show (dat1 V c).leavesExact 13 t = owns (c : Thread nD τ) (ms1_13 t) fullShare ((dat1 V c).after 13 t) from by
      unfold Dat.leavesExact; rw [liveAt1_13 t], after1_13]
      by_cases hz : t.val = 0
      · exfalso; have hN : t.val < 32 := lt_of_lt_of_eq t.isLt (show cfg1.N = 32 from N_1); omega
      · rw [PhiS_castSucc V c t, PhiS_pos V c _ _ hz]
        rw [outsAt1_C V c t h0 h1]
        unfold out1_C_11 out1_C_12 out1_C_13 sout1_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((kernelRun1_C c (grid1.coords t) _ _ _ _ _ _ _ _ _ _ _ _ _ _ _ _ _ _ _ _ _ _ _ _ _ _ _ _ _ _ (fun h => h0 ((hcond1_0 t).mp h)) ((hcond1_1 t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexists _; iexact H12
        isplitl [H13]; · iexists _; iexact H13
        isplitl [HS0]; · iexact HS0
        iintro ⟨H0, H1, H2, H3, H4, H5, H6, H7, H8, H9, H10, ⟨%e11, H11⟩, ⟨%e12, H12⟩, ⟨%e13, H13⟩, ⟨%es0, HS0⟩⟩
        isplitl [HS0 Hg]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]
        · unfold owns; iexists _; isplitr
          swap; · iexact H11
          ipureintro; exact View.read_writes_of_cover _ _ _ _ _ (cover1_C_11 c _ _ _ _ _ _ _ _ _ _ _ _ _ _ _ _ _ _ _ _ _ _ _ _ _ _ _ _ _ _ _ _ _ _ _ _ _ _ _ _ _ _ _ _ _)
        isplitl [H12]
        · unfold owns; iexists _; isplitr
          swap; · iexact H12
          ipureintro; exact View.read_writes_of_cover _ _ _ _ _ (cover1_C_12 c _ _ _ _ _ _ _ _ _ _ _ _ _ _ _ _ _ _ _ _ _ _ _ _ _ _ _ _ _ _ _ _ _ _ _ _ _ _ _ _ _ _ _ _ _)
        unfold owns; iexists _; isplitr
        swap; · iexact H13
        ipureintro; exact View.read_writes_of_cover _ _ _ _ _ (cover1_C_13 c _ _ _ _ _ _ _ _ _ _ _ _ _ _ _ _ _ _ _ _ _ _ _ _ _ _ _ _ _ _ _ _ _ _ _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7 t], after1_7]
      rw [show (dat1 V c).leavesExact 8 t = owns (c : Thread nD τ) (ms1_8 t) fullShare ((dat1 V c).after 8 t) from by
      unfold Dat.leavesExact; rw [liveAt1_8 t], after1_8]
      rw [show (dat1 V c).leavesExact 9 t = owns (c : Thread nD τ) (ms1_9 t) fullShare ((dat1 V c).after 9 t) from by
      unfold Dat.leavesExact; rw [liveAt1_9 t], after1_9]
      rw [show (dat1 V c).leavesExact 10 t = owns (c : Thread nD τ) (ms1_10 t) fullShare ((dat1 V c).after 10 t) from by
      unfold Dat.leavesExact; rw [liveAt1_10 t], after1_10]
      rw [show (dat1 V c).leavesExact 11 t = owns (c : Thread nD τ) (ms1_11 t) fullShare ((dat1 V c).after 11 t) from by
      unfold Dat.leavesExact; rw [liveAt1_11 t], after1_11]
      rw [Dat.leavesExact_idle (dat1 V c) 12 t (idleAt1_12_B t (fun h => h0 ((hcond1_0 t).mp h)) (fun h => h1 ((hcond1_1 t).mp h))) (noFlush1_12_B t (fun h => h0 ((hcond1_0 t).mp h)) (fun h => h1 ((hcond1_1 t).mp h)))]
      rw [show (dat1 V c).leavesExact 13 t = owns (c : Thread nD τ) (ms1_13 t) fullShare ((dat1 V c).after 13 t) from by
      unfold Dat.leavesExact; rw [liveAt1_13 t], after1_13]
      by_cases hz : t.val = 0
      · exfalso; have hN : t.val < 32 := lt_of_lt_of_eq t.isLt (show cfg1.N = 32 from N_1); omega
      · rw [PhiS_castSucc V c t, PhiS_pos V c _ _ hz]
        rw [outsAt1_B V c t h0 h1]
        unfold out1_B_11 out1_B_13 sout1_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((kernelRun1_B c (grid1.coords t) _ _ _ _ _ _ _ _ _ _ _ _ _ _ _ _ _ _ _ _ _ _ _ _ _ _ _ _ _ _ (fun h => h0 ((hcond1_0 t).mp h)) (fun h => h1 ((hcond1_1 t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexact H12
        isplitl [H13]; · iexists _; iexact H13
        isplitl [HS0]; · iexact HS0
        iintro ⟨H0, H1, H2, H3, H4, H5, H6, H7, H8, H9, H10, ⟨%e11, H11⟩, H12, ⟨%e13, H13⟩, ⟨%es0, HS0⟩⟩
        isplitl [HS0 Hg]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]
        · unfold owns; iexists _; isplitr
          swap; · iexact H11
          ipureintro; exact View.read_writes_of_cover _ _ _ _ _ (cover1_B_11 c _ _ _ _ _ _ _ _ _ _ _ _ _ _ _ _ _ _ _ _ _ _ _ _ _ _ _ _ _ _ _ _ _ _ _ _ _ _ _ _ _ _ _ _ _)
        isplitl [H12]; · iexists _; iexact H12
        unfold owns; iexists _; isplitr
        swap; · iexact H13
        ipureintro; exact View.read_writes_of_cover _ _ _ _ _ (cover1_B_13 c _ _ _ _ _ _ _ _ _ _ _ _ _ _ _ _ _ _ _ _ _ _ _ _ _ _ _ _ _ _ _ _ _ _ _ _ _ _ _ _ _ _ _ _ _)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat1 (F := F) V c) (defs₀ (F := F)) Variants.none () Set.univ := fun t => by
  rw [bigSep_W1, bigSep_W1, defs₀_row]
  exact triple_restated (sound_body V c t) rfl .rfl fun _ => .rfl

/-- What the launch hands the region (`ΦA`) is the invariant before the first point. -/
theorem hin (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨HS0, Hg⟩
  isplitl [HS0]
  · iexists _; iexact HS0
  iexact Hg

/-- The same after the last point. -/
theorem hout (c : Dev nD) : (dat1 V c).Φ (Fin.last cfg1.N) ⊢ Pipeline.ΦA spec1 c :=
  Phi_out V c _ (by rw [Fin.val_last]; have : cfg1.N = 32 := N_1; omega)

end Cert.KernelIdeal.Rim

end
-- ==== Proof.Rim.Prep.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Claim
public import Idealize.ShloMosaic.Lib.Pipeline.Value
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Prep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S1024x1024 := Rect.unit (s := S1024x1024) ![0, 0] S1024x1024.size inb_S1024x1024_S1024x1024_0_0
abbrev r0_1 : Rect S1x1024 := Rect.unit (s := S1x1024) ![0, 0] S1x1024.size inb_S1x1024_S1x1024_0_0
abbrev r0_2 : Rect S1024x128 := Rect.unit (s := S1024x128) ![0, 0] S1024x128.size inb_S1024x128_S1024x128_0_0

/-! ## What the body leaves in each output window's buffer -/

/-- Window 4's staging buffer after the body, from the input windows' blocks: its 1 store as pieces, LAST
    FIRST (Lib/Pipeline/FrameBody.lean `View.canon`; the payloads are the skeleton's). -/
def out0_4 (x0 : Vec F S1024x1024 .f32) (x1 : Vec F S1024x1024 .f32) (x2 : Vec F S1x1024 .f32) (x3 : Vec F S1024x128 .f32) : Vec F S1024x128 .f32 :=
  View.canon [⟨r0_2, k0_pay1 (View.ld x0 r0_0) (View.ld x1 r0_0) (View.ld x2 r0_1) (View.ld x3 r0_2)⟩]

/-- Its stores tile the buffer (checked by evaluation), so they cover it. -/
theorem cover0_4 (p0 : Vec F S1024x128 .f32) (y : S1024x128.Idx) :
    ∃ pc ∈ ([⟨r0_2, p0⟩] : List (View.Piece (Elt F) S1024x128 .f32)), y ∈ pc.1.set :=
  View.cover_of_tiled [⟨r0_2, p0⟩] S1024x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (arg0 : Memref sig .tc .vmem S1024x1024 .f32) (harg0 : arg0.IsWhole) (arg1 : Memref sig .tc .vmem S1024x1024 .f32) (harg1 : arg1.IsWhole) (arg2 : Memref sig .tc .vmem S1x1024 .f32) (harg2 : arg2.IsWhole) (arg3 : Memref sig .tc .vmem S1024x128 .f32) (harg3 : arg3.IsWhole) (arg4 : Memref sig .tc .vmem S1024x128 .f32) (harg4 : arg4.IsWhole)
    (x0 : Vec F S1024x1024 .f32) (x1 : Vec F S1024x1024 .f32) (x2 : Vec F S1x1024 .f32) (x3 : Vec F S1024x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out0_4 x0 x1 x2 x3)) -∗ K ⟨⟩))
      ⊢ wp frame (wpE (defs₀ (F := F)) Variants.none c none) E (cc0__prep_kernel arg0 harg0 arg1 harg1 arg2 harg2 arg3 harg3 arg4 harg4) K := by
  simp only [cc0__prep_kernel_eq_skeleton]; unfold cc0__prep_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => out0_4 (iblk V c 0 t) (iblk V c 1 t) (iblk V c 2 t) (iblk V c 3 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk V c 0 t := by dsimp only [dat0]

/-- The body leaves input 1's block in place. -/
theorem after0_1 (c : Dev nD) (t : Fin cfg0.N) : (dat0 V c).after 1 t = iblk V c 1 t := by dsimp only [dat0]

/-- The body leaves input 2's block in place. -/
theorem after0_2 (c : Dev nD) (t : Fin cfg0.N) : (dat0 V c).after 2 t = iblk V c 2 t := by dsimp only [dat0]

/-- The body leaves input 3's block in place. -/
theorem after0_3 (c : Dev nD) (t : Fin cfg0.N) : (dat0 V c).after 3 t = iblk V c 3 t := by dsimp only [dat0]

/-- The body leaves output 4's result. -/
theorem after0_4 (c : Dev nD) (t : Fin cfg0.N) : (dat0 V c).after 4 t = out0_4 (iblk V c 0 t) (iblk V c 1 t) (iblk V c 2 t) (iblk V c 3 t) := by dsimp only [dat0]

/-- Each input's current staging buffer holds its block at every point, fetched there or not (`beforeK_W_of`). -/
theorem before0_0 (c : Dev nD) (t : Fin cfg0.N) (d) : (dat0 V c).before 0 t d = iblk V c 0 t :=
  before0_0_of V (dat0 V c) (A_eq V c 0) (after0_0 V c) t d

/-- Input 1's staging buffer holds its block before the body. -/
theorem before0_1 (c : Dev nD) (t : Fin cfg0.N) (d) : (dat0 V c).before 1 t d = iblk V c 1 t :=
  before0_1_of V (dat0 V c) (A_eq V c 1) (after0_1 V c) t d

/-- Input 2's staging buffer holds its block before the body. -/
theorem before0_2 (c : Dev nD) (t : Fin cfg0.N) (d) : (dat0 V c).before 2 t d = iblk V c 2 t :=
  before0_2_of V (dat0 V c) (A_eq V c 2) (after0_2 V c) t d

/-- Input 3's staging buffer holds its block before the body. -/
theorem before0_3 (c : Dev nD) (t : Fin cfg0.N) (d) : (dat0 V c).before 3 t d = iblk V c 3 t :=
  before0_3_of V (dat0 V c) (A_eq V c 3) (after0_3 V c) t d

/-! ## The body obligation, at a generic point -/

/-- What the body is called with at point `t` (Lib/Pipeline.lean `BodyObligation`'s precondition, the windows one by one), -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel` applies; the invariant and
    the core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat0 (F := F) V c) (defs₀ (F := F)) Variants.none () Set.univ := fun t => by
  rw [bigSep_W0, bigSep_W0, defs₀_row]
  exact triple_restated (sound_body V c t) rfl .rfl fun _ => .rfl

/-! ## Blockwise: what each point writes back, and the final array block by block -/

/-- WHAT POINT `t` WRITES BACK to output window 4's array: the body's result for that window (`Gen.out0_4`: its stores
    as pieces over the input windows' blocks), read through the window's block. -/
theorem flushed4 (c : Dev nD) (t : Fin cfg0.N) :
    (dat0 V c).flushed 4 t = (cfg0.win 4).cut (grid0.coords t) (out0_4 (iblk V c 0 t) (iblk V c 1 t) (iblk V c 2 t) (iblk V c 3 t)) := by
  show (cfg0.win 4).cut (grid0.coords t) ((dat0 V c).after 4 t) = _
  rw [after0_4]

/-- The index map sends distinct grid points to distinct block indices (decided over the 1 point). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dat0 V c).arrAt 4 cfg0.N) = (dat0 V c).flushed 4 t :=
  (dat0 V c).read_blk_arrAt_eq_flushed 4 disjoint4 cfg0.N t t.isLt hf

/-- An index that no flushing point's block covers keeps output window 4's array contents at region entry. -/
theorem entry4 (c : Dev nD) (i : S1024x128.Idx) (h : ∀ t : Fin cfg0.N, (cfg0.win 4).flush t = true → i ∉ ((cfg0.win 4).blk t).view.set) :
    (dat0 V c).arrAt 4 cfg0.N i = V c (Pipeline.arrRef spec0 4) i := by
  rw [(dat0 V c).arrAt_apply_of_forall_not_mem 4 cfg0.N i (fun t _ hf => h t hf), A_eq]

/-! ## Closed form at one grid point: every window's block is its array -/

/-- The offsets written out are zero on every axis. -/
theorem hz0 : (![0, 0] : Fin 2 → Nat) = fun _ => 0 := funext fun a => by fin_cases a <;> rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S1024x1024.Idx) : ((cfg0.win 0).blk t).view.emb j = j := by
  obtain ⟨e0, e1⟩ := idx_zero0 t
  funext a; apply Fin.ext
  match a with
  | ⟨0, _⟩ => show win0_0.index t (0 : Fin 2) * 1024 + 1 * (j 0).val = (j 0).val; omega
  | ⟨1, _⟩ => show win0_0.index t (1 : Fin 2) * 1024 + 1 * (j 1).val = (j 1).val; omega

/-- Input window 0's block at the point is its array as the region finds it. -/
theorem iblk0_eq (c : Dev nD) (t : Fin cfg0.N) : iblk V c 0 t = V c main_v1 := by
  funext j; show V c main_v1 (((cfg0.win 0).blk t).view.emb j) = V c main_v1 j; rw [emb0]

/-- The offsets written out are zero on every axis. -/
theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S1024x1024.Idx) : ((cfg0.win 1).blk t).view.emb j = j := by
  obtain ⟨e0, e1⟩ := idx_zero1 t
  funext a; apply Fin.ext
  match a with
  | ⟨0, _⟩ => show win0_1.index t (0 : Fin 2) * 1024 + 1 * (j 0).val = (j 0).val; omega
  | ⟨1, _⟩ => show win0_1.index t (1 : Fin 2) * 1024 + 1 * (j 1).val = (j 1).val; omega

/-- Input window 1's block at the point is its array as the region finds it. -/
theorem iblk1_eq (c : Dev nD) (t : Fin cfg0.N) : iblk V c 1 t = V c main_arg3 := by
  funext j; show V c main_arg3 (((cfg0.win 1).blk t).view.emb j) = V c main_arg3 j; rw [emb1]

/-- The offsets written out are zero on every axis. -/
theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S1x1024.Idx) : ((cfg0.win 2).blk t).view.emb j = j := by
  obtain ⟨e0, e1⟩ := idx_zero2 t
  funext a; apply Fin.ext
  match a with
  | ⟨0, _⟩ => show win0_2.index t (0 : Fin 2) * 1 + 1 * (j 0).val = (j 0).val; omega
  | ⟨1, _⟩ => show win0_2.index t (1 : Fin 2) * 1024 + 1 * (j 1).val = (j 1).val; omega

/-- Input window 2's block at the point is its array as the region finds it. -/
theorem iblk2_eq (c : Dev nD) (t : Fin cfg0.N) : iblk V c 2 t = V c main_v2 := by
  funext j; show V c main_v2 (((cfg0.win 2).blk t).view.emb j) = V c main_v2 j; rw [emb2]

/-- The offsets written out are zero on every axis. -/
theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S1024x128.Idx) : ((cfg0.win 3).blk t).view.emb j = j := by
  obtain ⟨e0, e1⟩ := idx_zero3 t
  funext a; apply Fin.ext
  match a with
  | ⟨0, _⟩ => show win0_3.index t (0 : Fin 2) * 1024 + 1 * (j 0).val = (j 0).val; omega
  | ⟨1, _⟩ => show win0_3.index t (1 : Fin 2) * 128 + 1 * (j 1).val = (j 1).val; omega

/-- Input window 3's block at the point is its array as the region finds it. -/
theorem iblk3_eq (c : Dev nD) (t : Fin cfg0.N) : iblk V c 3 t = V c main_v0 := by
  funext j; show V c main_v0 (((cfg0.win 3).blk t).view.emb j) = V c main_v0 j; rw [emb3]

/-- The offsets written out are zero on every axis. -/
theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S1024x128.Idx) : ((cfg0.win 4).blk t).view.emb j = j := by
  obtain ⟨e0, e1⟩ := idx_zero4 t
  funext a; apply Fin.ext
  match a with
  | ⟨0, _⟩ => show win0_4.index t (0 : Fin 2) * 1024 + 1 * (j 0).val = (j 0).val; omega
  | ⟨1, _⟩ => show win0_4.index t (1 : Fin 2) * 128 + 1 * (j 1).val = (j 1).val; omega

/-! ### Output window 4: the array after the run -/

/-- What the window's array ends holding: `out0_4` applied to the argument arrays in place of the input blocks (a value that the
    frame states apart, `kK_payN a…`, keeps its loads inside its own definition). -/
abbrev G4 (a0 : Vec F S1024x1024 .f32) (a1 : Vec F S1024x1024 .f32) (a2 : Vec F S1x1024 .f32) (a3 : Vec F S1024x128 .f32) : Vec F S1024x128 .f32 :=
  k0_pay1 a0 a1 a2 a3

/-- A load of the whole of a block reads the block, and the one store through the whole rectangle leaves its payload. -/
theorem out4_eq (a0 : Vec F S1024x1024 .f32) (a1 : Vec F S1024x1024 .f32) (a2 : Vec F S1x1024 .f32) (a3 : Vec F S1024x128 .f32) : out0_4 (F := F) a0 a1 a2 a3 = G4 a0 a1 a2 a3 := by
  unfold out0_4
  rw [View.canon_unit_zero hz4, View.ld_unit_zero (S := S1024x1024) hz0 _ a0, View.ld_unit_zero (S := S1024x1024) hz1 _ a1, View.ld_unit_zero (S := S1x1024) hz2 _ a2, View.ld_unit_zero (S := S1024x128) hz3 _ a3]

/-- Cutting the point's block out of `X` and reading `X` through the block's view give the same. -/
theorem cut4_eq (t : Fin cfg0.N) (X : Vec F S1024x128 .f32) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dat0 V c).flushed 4 t = ((cfg0.win 4).blk t).view.read (Elt F) (G4 (V c main_v1) (V c main_arg3) (V c main_v2) (V c main_v0)) := by
  show (cfg0.win 4).cut (grid0.coords t) ((dat0 V c).after 4 t) = _
  rw [after0_4, out4_eq, iblk0_eq, iblk1_eq, iblk2_eq, iblk3_eq]
  exact cut4_eq t _

/-- Every index of the array is in the point's block. -/
theorem covered4 (i : S1024x128.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as the region finds them. -/
theorem final4 (c : Dev nD) : (dat0 V c).arrAt 4 cfg0.N = G4 (V c main_v1) (V c main_arg3) (V c main_v2) (V c main_v0) :=
  (dat0 V c).arrAt_eq_of_cover 4 (G4 (V c main_v1) (V c main_arg3) (V c main_v2) (V c main_v0)) (fun t _ => flushed4_eq V c t) covered4

end Cert.KernelIdeal.Prep

end
-- ==== Proof.Rim.Whole.lean ====
module

public import proofs.«01_k».proof.Proof.Gen.KernelIdeal.Regions
public import proofs.«01_k».proof.Proof.Rim.Frame
public import proofs.«01_k».proof.Proof.Rim.Prep
public import Idealize.ShloMosaic.Lib.Pipeline.RegionArraysS
public import Idealize.ShloMosaic.Lib.Pipeline.Kit

@[expose] public section

set_option maxRecDepth 16384

noncomputable section

/-! # The whole program's run: host operations, the projection call, host operations, the recurrent call, host operations

The contents of every buffer are followed through the five stretches as valuations `U0 … U5`; the run theorem
`run` says that every buffer ends at `U5` and every counter at zero. -/

namespace Cert.KernelIdeal.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers of device `c` at launch. -/
abbrev U0 (c : Dev nD) : Valuation τ sig (Elt F) := fun b => m (c, b)
/-- After the first host operations. -/
def U1 (c : Dev nD) : Valuation τ sig (Elt F) := StableHlo.after hostOps0 (U0 m c)
/-- The projection call's proof data, entered at `U1`. -/
def D0 (c : Dev nD) : Dat τ (Elt F) Unit ℕ (UR sig nD τ) ℕ cfg0 c := Prep.dat0 (fun c b => U1 m c (Proc.devRef .tc b)) c
/-- After the projection call. -/
def U2 (c : Dev nD) : Valuation τ sig (Elt F) := Pipeline.afterRegion (D0 m c) (U1 m c)
/-- After the host operations between the calls. -/
def U3 (c : Dev nD) : Valuation τ sig (Elt F) := StableHlo.after hostOps1 (U2 m c)
/-- The recurrent call's proof data, entered at `U3`. -/
def D1 (c : Dev nD) : Dat τ (Elt F) Unit ℕ (UR sig nD τ) ℕ cfg1 c := Rim.dat1 (fun c b => U3 m c (Proc.devRef .tc b)) c
/-- After the recurrent call. -/
def U4 (c : Dev nD) : Valuation τ sig (Elt F) := Pipeline.afterRegion (D1 m c) (U3 m c)
/-- After the last host operations. -/
def U5 (c : Dev nD) : Valuation τ sig (Elt F) := StableHlo.after hostOps2 (U4 m c)

/-- The projection call's arrays are those after the first host operations. -/
theorem A0 (c : Dev nD) (w : Fin cfg0.W) : (D0 m c).A w = U1 m c (Proc.devRef .tc (Pipeline.arrRef spec0 w)) :=
  Prep.A_eq (fun c b => U1 m c (Proc.devRef .tc b)) c w

/-- The recurrent call's arrays are those after the host operations between the calls. -/
theorem A1 (c : Dev nD) (w : Fin cfg1.W) : (D1 m c).A w = U3 m c (Proc.devRef .tc (Pipeline.arrRef spec1 w)) :=
  Rim.A_eq (fun c b => U3 m c (Proc.devRef .tc b)) c w

/-- A buffer that no host operation writes and that is no call's output is as launched at the end. -/
theorem U5_keeps (c : Dev nD) (r : Ref sig .tc) (h0 : r ∉ hostOps0_W) (h1 : r ∉ hostOps1_W) (h2 : r ∉ hostOps2_W)
    (k0 : ∀ w, Pipeline.arrRef spec0 w = r → (cfg0.win w).isOut = false)
    (k1 : ∀ w, Pipeline.arrRef spec1 w = r → (cfg1.win w).isOut = false) :
    U5 m c (Proc.devRef .tc r) = m ((c : Thread nD τ).loc r) := by
  unfold U5; rw [StableHlo.after_of_writes_sub hostOps2 _ hostOps2_writes h2]
  unfold U4; rw [Pipeline.afterRegion_keeps (D1 m c) (U3 m c) winFacts1.arr_inj (A1 m c) r k1]
  unfold U3; rw [StableHlo.after_of_writes_sub hostOps1 _ hostOps1_writes h1]
  unfold U2; rw [Pipeline.afterRegion_keeps (D0 m c) (U1 m c) winFacts0.arr_inj (A0 m c) r k0]
  unfold U1; rw [StableHlo.after_of_writes_sub hostOps0 _ hostOps0_writes h0]

/-- The two calls' proof data as one family. -/
def pdats : (p : Fin 2) → (c : Dev nD) → Dat τ (Elt F) Unit ℕ (UR sig nD τ) ℕ (cfgs p) c
  | ⟨0, _⟩ => D0 m
  | ⟨1, _⟩ => D1 m

/-- Every counter of a TensorCore carries the one obligation index. -/
def L : GSem nD τ sig → Finset Unit := fun g => if g.1.2 = .tc then {()} else ∅
def lv : GSem nD τ sig → Unit → ℕ := fun _ _ => 0

/-- What rides along beside the buffers: nothing owed, the generator register at some state. -/
def E (_ : Fin 3) (c : Dev nD) : sProp 𝕄 :=
  iprop((∃ W, owes (c : Thread nD τ) (0 : CellTallies nD τ sig Unit) W) ∗ (∃ r, prngReg c r) ∗ emp)

/-- Each call's cut of the levels, with nothing owed before or after it. -/
theorem cut (p : Fin 2) : Pipeline.LevelCut (pcfgs (F := F)) adm () L lv p (fun _ => (0 : CellTallies nD τ sig Unit)) (fun _ => 0) where
  hι _ _ _ := by simp [L]
  hιb _ _ _ := le_rfl
  hD _ _ _ h := absurd h (by simp)

def R0 : RegionSeg (pcfgs (F := F)) adm (pdats m) () defs₀ Variants.none L lv 0 :=
  RegionSeg.ofHeldIn pcfgs adm (pdats m) () defs₀ Variants.none L lv 0 (fun _ => 0) (Pipeline.ucRefs τ sig)
    (fun c => iprop(∃ r, prngReg c r)) (fun c => iprop(∃ r, prngReg c r)) launch0.toP rfl
    (fun c => (Prep.body_obligation (fun c b => U1 m c (Proc.devRef .tc b)) c).loose)
    (fun _ _ => rfl) (fun _ => rfl) (fun c w => (D0 m c).share_full (fun _ => rfl) w)
    (fun c => .rfl) (fun c => .rfl) (fun _ => 0) (cut 0) (fun _ => iprop(emp)) (U1 m)
    (fun c w => A0 m c w)

def R1 : RegionSeg (pcfgs (F := F)) adm (pdats m) () defs₀ Variants.none L lv 1 :=
  RegionSeg.ofHeldIn pcfgs adm (pdats m) () defs₀ Variants.none L lv 1 (fun _ => 0) (Pipeline.ucRefs τ sig)
    (fun c => iprop(∃ r, prngReg c r)) (fun c => iprop(∃ r, prngReg c r)) launch1.toP rfl
    (fun c => (Rim.body_obligation (fun c b => U3 m c (Proc.devRef .tc b)) c).loose)
    (fun _ _ => rfl) (fun _ => rfl) (fun c w => (D1 m c).share_full (fun _ => rfl) w)
    (fun c => Rim.hin (fun c b => U3 m c (Proc.devRef .tc b)) c)
    (fun c => Rim.hout (fun c b => U3 m c (Proc.devRef .tc b)) c) (fun _ => 0) (cut 1) (fun _ => iprop(emp)) (U3 m)
    (fun c w => A1 m c w)

/-- The projection call's arrays are among the buffers held. -/
theorem sub0 : Pipeline.arrRefs (τ := τ) spec0 ⊆ Pipeline.ucRefs τ sig := Pipeline.arrRefs_sub_ucRefs spec0 (by decide)

/-- The recurrent call's arrays are among the buffers held. -/
theorem sub1 : Pipeline.arrRefs (τ := τ) spec1 ⊆ Pipeline.ucRefs τ sig := Pipeline.arrRefs_sub_ucRefs spec1 (by decide)

/-- The host stretches as segments. -/
def H0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (U0 m) (E 0)
def H1 : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U2 m) (E 1)
def H2 : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (U4 m) (E 2)

/-- The program as the list of its five stretches. -/
abbrev items (c : Dev nD) : List (Seg (pcfgs (F := F)) adm (pdats m) () defs₀ Variants.none L lv) :=
  [.host (H0 m), .region (R0 m), .host (H1 m), .region (R1 m), .host (H2 m)]

/-- What the first host operations leave. -/
theorem H0_post (c : Dev nD) : (H0 m).post c = iprop(StableHlo.held (c : Thread nD τ) (Pipeline.ucRefs τ sig) (U1 m c) ∗ E 0 c) := by
  unfold H0 HostSeg.ofOps; dsimp only; rw [U1]

/-- What the host operations between the calls leave. -/
theorem H1_post (c : Dev nD) : (H1 m).post c = iprop(StableHlo.held (c : Thread nD τ) (Pipeline.ucRefs τ sig) (U3 m c) ∗ E 1 c) := by
  unfold H1 HostSeg.ofOps; dsimp only; rw [U3]

/-- What the last host operations leave. -/
theorem H2_post (c : Dev nD) : (H2 m).post c = iprop(StableHlo.held (c : Thread nD τ) (Pipeline.ucRefs τ sig) (U5 m c) ∗ E 2 c) := by
  unfold H2 HostSeg.ofOps; dsimp only; rw [U5]

/-- What the first host operations leave is what the projection call takes. -/
theorem pre0 (c : Dev nD) : (H0 m).post c ⊢ (R0 m).pre c := by
  rw [H0_post]; unfold R0 E; exact RegionSeg.ofHeldIn_pre (pcs := pcfgs (F := F)) (a := adm) (pdats := pdats m) (ι := ()) (defs₀ := defs₀) (𝒱₀ := Variants.none)
    (L := L) (lv := lv) (p := 0) (D := fun _ => 0) (S := Pipeline.ucRefs τ sig) (X := fun c => iprop(∃ r, prngReg c r)) (Y := fun c => iprop(∃ r, prngReg c r))
    (R := fun _ => iprop(emp)) (W := U1 m) sub0 c

/-- What the projection call leaves, as the buffers after it. -/
theorem post0 (c : Dev nD) : (R0 m).post c ⊢ iprop(StableHlo.held (c : Thread nD τ) (Pipeline.ucRefs τ sig) (U2 m c) ∗ E 1 c) := by
  unfold R0 E U2; exact RegionSeg.ofHeldIn_post (pcs := pcfgs (F := F)) (a := adm) (pdats := pdats m) (ι := ()) (defs₀ := defs₀) (𝒱₀ := Variants.none)
    (L := L) (lv := lv) (p := 0) (D := fun _ => 0) (S := Pipeline.ucRefs τ sig) (X := fun c => iprop(∃ r, prngReg c r)) (Y := fun c => iprop(∃ r, prngReg c r))
    (R := fun _ => iprop(emp)) (W := U1 m) sub0 c

/-- What the host operations between the calls leave is what the recurrent call takes. -/
theorem pre1 (c : Dev nD) : (H1 m).post c ⊢ (R1 m).pre c := by
  rw [H1_post]; unfold R1 E; exact RegionSeg.ofHeldIn_pre (pcs := pcfgs (F := F)) (a := adm) (pdats := pdats m) (ι := ()) (defs₀ := defs₀) (𝒱₀ := Variants.none)
    (L := L) (lv := lv) (p := 1) (D := fun _ => 0) (S := Pipeline.ucRefs τ sig) (X := fun c => iprop(∃ r, prngReg c r)) (Y := fun c => iprop(∃ r, prngReg c r))
    (R := fun _ => iprop(emp)) (W := U3 m) sub1 c

/-- What the recurrent call leaves, as the buffers after it. -/
theorem post1 (c : Dev nD) : (R1 m).post c ⊢ iprop(StableHlo.held (c : Thread nD τ) (Pipeline.ucRefs τ sig) (U4 m c) ∗ E 2 c) := by
  unfold R1 E U4; exact RegionSeg.ofHeldIn_post (pcs := pcfgs (F := F)) (a := adm) (pdats := pdats m) (ι := ()) (defs₀ := defs₀) (𝒱₀ := Variants.none)
    (L := L) (lv := lv) (p := 1) (D := fun _ => 0) (S := Pipeline.ucRefs τ sig) (X := fun c => iprop(∃ r, prngReg c r)) (Y := fun c => iprop(∃ r, prngReg c r))
    (R := fun _ => iprop(emp)) (W := U3 m) sub1 c

/-- What the last host operations leave gives the buffers at the end, with nothing owed. -/
theorem last (c : Dev nD) : (H2 m).post c ⊢ iprop(StableHlo.held (c : Thread nD τ) (Pipeline.ucRefs τ sig) (U5 m c)
    ∗ ∃ W, owes (c : Thread nD τ) (0 : CellTallies nD τ sig Unit) W) := by
  rw [H2_post]
  exact sep_mono .rfl (by unfold E; iintro ⟨HO, -, -⟩; iexact HO)

-- the launch theorem's implicit arguments are found by unifying its conclusion with this one
set_option backward.isDefEq.respectTransparency.types false in
set_option maxHeartbeats 1600000 in
/-- Every fair execution from memory `m` with zero counters terminates, every buffer ending at `U5` and every counter
    at zero. -/
theorem run : θ_run defs (onTc (τ := τ) (main (F := F))) ⟨m, fun _ => 0, ρ⟩ (fun r =>
    (∀ c : Dev nD, ∀ b ∈ Pipeline.ucRefs τ sig, r.2.mem (c, b) = U5 m c b) ∧ r.2.sem = fun _ => 0) := by
  refine Pipeline.θ_run_regions_kit_dev_sems (pcfgs (F := F)) adm (pdats m) () cellOf_inj emb₁ defs₀ Variants.none L lv m ρ main
    (items m)
    (fun c Q => by
      rewrite [main_chain c, Seg.run_eq_chain,
        show (items m c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [items, Seg.pipes_host, Seg.pipes_region, Seg.pipes_nil]; decide)
    (fun _ => 0) (fun g h => by simp [L, h]) (fun _ => iprop(emp))
    (initOf (Pipeline.cells cfgs cellOf_inj) (Pipeline.launchToks cfgs cellOf_inj)) ?hu
    (T₀ := fun c => iprop(StableHlo.held (c : Thread nD τ) (Pipeline.ucRefs τ sig) (U0 m c) ∗ E 0 c))
    (Tₙ := fun c => StableHlo.held (c : Thread nD τ) (Pipeline.ucRefs τ sig) (U5 m c))
    (hch := fun c => ⟨.rfl, pre0 m c, post0 m c, pre1 m c, post1 m c, last m c⟩)
    (hinit := ?hi) (QY := fun c s => ∀ b ∈ Pipeline.ucRefs τ sig, s.mem (c, b) = U5 m c b)
    (hfin := fun c s' => ?hf) (hQ := fun _ h hz => ⟨h, funext fun g => hz g (.inr (regions_no_unscoped g.2))⟩)
  case hu =>
    iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hi =>
    have h1 (c : Dev nD) : iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp)
        ⊢ (iprop(StableHlo.held (c : Thread nD τ) (Pipeline.ucRefs τ sig) (U0 m c) ∗ E 0 c) : sProp 𝕄) := by
      rw [← Pipeline.unscopedBufs_held (Ix := Unit) (Name := ℕ) (U := UR sig nD τ) (Lvl := ℕ) c (U0 m c)]
      unfold E
      iintro ⟨Hb, -, HO, -, Hp, -⟩
      isplitl [Hb]; · iexact Hb
      isplitl [HO]; · iexists _; iexact HO
      isplitl [Hp]; · iexists _; iexact Hp
      iempintro
    iintro ⟨H, -⟩
    imodintro
    iapply (show (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ fun c : Dev nD => iprop(StableHlo.held (c : Thread nD τ) (Pipeline.ucRefs τ sig) (U0 m c) ∗ E 0 c) : sProp 𝕄)
      from bigSep_mono fun c _ => h1 c)
    iexact H
  case hf =>
    unfold StableHlo.held
    iintro ⟨Hh, HSI⟩
    ihave Hr := (pointsTo_read_all (Pipeline.ucRefs τ sig) (fun b => ((c : Thread nD τ).1, b)) (U5 m c) s') $$ [Hh HSI]
    · isplitl [Hh] <;> iassumption
    icases Hr with ⟨%h, HSI⟩
    imodintro
    isplitr
    · ipureintro; exact h
    · iexact HSI

end Cert.KernelIdeal.Whole

end
-- ==== Proof.ScanRun.lean ====
/- The reference's run stated over one step of its scan: at a valuation that holds a state, every value of one
   trip of the loop is the step's value of that name (one lemma each), so each trip applies `step`, and the run's
   results are the fields of the state after thirty-two steps. -/
module

public import proofs.«01_k».proof.Proof.Gen.ReferenceIdeal.Run
public import proofs.«01_k».proof.Proof.Gen.ReferenceIdeal.Step

@[expose] public section

noncomputable section

namespace Cert.ReferenceIdeal.ScanRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_14 : V0 (Proc.devRef .tc main_v7_14) = s.main_v7_14
  f_15 : V0 (Proc.devRef .tc main_v7_15) = s.main_v7_15
  f_16 : V0 (Proc.devRef .tc main_v7_16) = s.main_v7_16
  f_0 : V0 (Proc.devRef .tc main_v7_0) = s.main_v7_0
  f_1 : V0 (Proc.devRef .tc main_v7_1) = s.main_v7_1
  f_2 : V0 (Proc.devRef .tc main_v7_2) = s.main_v7_2
  f_3 : V0 (Proc.devRef .tc main_v7_3) = s.main_v7_3
  f_4 : V0 (Proc.devRef .tc main_v7_4) = s.main_v7_4
  f_5 : V0 (Proc.devRef .tc main_v7_5) = s.main_v7_5
  f_6 : V0 (Proc.devRef .tc main_v7_6) = s.main_v7_6
  f_7 : V0 (Proc.devRef .tc main_v7_7) = s.main_v7_7
  f_8 : V0 (Proc.devRef .tc main_v7_8) = s.main_v7_8
  f_9 : V0 (Proc.devRef .tc main_v7_9) = s.main_v7_9
  f_10 : V0 (Proc.devRef .tc main_v7_10) = s.main_v7_10
  f_11 : V0 (Proc.devRef .tc main_v7_11) = s.main_v7_11
  f_12 : V0 (Proc.devRef .tc main_v7_12) = s.main_v7_12
  n_13 : V0 (Proc.devRef .tc main_v7_13) = constantI S_ 32 (BitVec.ofNat 32 j)

variable {V0 s j}

set_option maxRecDepth 8192 in
/-- What the trip's operations make here is `b0` of the state and the trip's number. -/
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
/-- What the trip's operations make here is `b1` of the state and the trip's number. -/
theorem al_1 (h : Holds V0 s j) : (constantI S_ 32 0#32 : (Proc.devRef .tc main_while0b_call0_c_0 : DevRef τ sig).ty.Contents (Elt F)) = Cert.ReferenceIdeal.Step.b1 j s := by
  unfold Cert.ReferenceIdeal.Step.b1
  rfl
set_option maxRecDepth 8192 in
/-- What the trip's operations make here is `b2` of the state and the trip's number. -/
theorem al_2 (h : Holds V0 s j) : (Host.dynamicSlice S1x32x1024 (V0 (Proc.devRef .tc main_v7_0)) (fun k => (((![V0 (Proc.devRef .tc main_v7_13), constantI S_ 32 0#32, constantI S_ 32 0#32] : Fin 3 → (⟨S_, .i32⟩ : BufTy).Contents (Elt F))) k (Shape.Idx.first h_S_)).toInt) sliceFits_S32x32x1024_S1x32x1024 : (Proc.devRef .tc main_while0b_call0_v0 : DevRef τ sig).ty.Contents (Elt F)) = Cert.ReferenceIdeal.Step.b2 j s := by
  unfold Cert.ReferenceIdeal.Step.b2
  rw [← al_0 h, ← al_1 h, h.f_0, h.n_13]
  try rfl
set_option maxRecDepth 8192 in
/-- What the trip's operations make here is `b3` of the state and the trip's number. -/
theorem al_3 (h : Holds V0 s j) : (shapeCast S32x1024 (Host.dynamicSlice S1x32x1024 (V0 (Proc.devRef .tc main_v7_0)) (fun k => (((![V0 (Proc.devRef .tc main_v7_13), constantI S_ 32 0#32, constantI S_ 32 0#32] : Fin 3 → (⟨S_, .i32⟩ : BufTy).Contents (Elt F))) k (Shape.Idx.first h_S_)).toInt) sliceFits_S32x32x1024_S1x32x1024) shapeCasts_S1x32x1024_S32x1024 : (Proc.devRef .tc main_while0b_v9 : DevRef τ sig).ty.Contents (Elt F)) = Cert.ReferenceIdeal.Step.b3 j s := by
  unfold Cert.ReferenceIdeal.Step.b3
  rw [← al_2 h]
  try rfl
set_option maxRecDepth 8192 in
/-- What the trip's operations make here is `b4` of the state and the trip's number. -/
theorem al_4 (h : Holds V0 s j) : (constantI S_ 32 0#32 : (Proc.devRef .tc main_while0b_call1_c : DevRef τ sig).ty.Contents (Elt F)) = Cert.ReferenceIdeal.Step.b4 j s := by
  unfold Cert.ReferenceIdeal.Step.b4
  rfl
set_option maxRecDepth 8192 in
/-- What the trip's operations make here is `b5` of the state and the trip's number. -/
theorem al_5 (h : Holds V0 s j) : (constantI S_ 32 0#32 : (Proc.devRef .tc main_while0b_call1_c_0 : DevRef τ sig).ty.Contents (Elt F)) = Cert.ReferenceIdeal.Step.b5 j s := by
  unfold Cert.ReferenceIdeal.Step.b5
  rfl
set_option maxRecDepth 8192 in
/-- What the trip's operations make here is `b6` of the state and the trip's number. -/
theorem al_6 (h : Holds V0 s j) : (Host.dynamicSlice S1x32x2048 (V0 (Proc.devRef .tc main_v7_1)) (fun k => (((![V0 (Proc.devRef .tc main_v7_13), constantI S_ 32 0#32, constantI S_ 32 0#32] : Fin 3 → (⟨S_, .i32⟩ : BufTy).Contents (Elt F))) k (Shape.Idx.first h_S_)).toInt) sliceFits_S32x32x2048_S1x32x2048 : (Proc.devRef .tc main_while0b_call1_v0 : DevRef τ sig).ty.Contents (Elt F)) = Cert.ReferenceIdeal.Step.b6 j s := by
  unfold Cert.ReferenceIdeal.Step.b6
  rw [← al_4 h, ← al_5 h, h.f_1, h.n_13]
  try rfl
set_option maxRecDepth 8192 in
/-- What the trip's operations make here is `b7` of the state and the trip's number. -/
theorem al_7 (h : Holds V0 s j) : (shapeCast S32x2048 (Host.dynamicSlice S1x32x2048 (V0 (Proc.devRef .tc main_v7_1)) (fun k => (((![V0 (Proc.devRef .tc main_v7_13), constantI S_ 32 0#32, constantI S_ 32 0#32] : Fin 3 → (⟨S_, .i32⟩ : BufTy).Contents (Elt F))) k (Shape.Idx.first h_S_)).toInt) sliceFits_S32x32x2048_S1x32x2048) shapeCasts_S1x32x2048_S32x2048 : (Proc.devRef .tc main_while0b_v10 : DevRef τ sig).ty.Contents (Elt F)) = Cert.ReferenceIdeal.Step.b7 j s := by
  unfold Cert.ReferenceIdeal.Step.b7
  rw [← al_6 h]
  try rfl
set_option maxRecDepth 8192 in
/-- What the trip's operations make here is `b8` of the state and the trip's number. -/
theorem al_8 (h : Holds V0 s j) : (res_main_while0b_v11 V0 : (Proc.devRef .tc main_while0b_v11 : DevRef τ sig).ty.Contents (Elt F)) = Cert.ReferenceIdeal.Step.b8 j s := by
  unfold res_main_while0b_v11 Cert.ReferenceIdeal.Step.b8
  rw [h.f_14]
  try rfl
set_option maxRecDepth 8192 in
/-- What the trip's operations make here is `b9` of the state and the trip's number. -/
theorem al_9 (h : Holds V0 s j) : (constant S_ .f32 0x00000000#32 : (Proc.devRef .tc main_while0b_cst_17 : DevRef τ sig).ty.Contents (Elt F)) = Cert.ReferenceIdeal.Step.b9 j s := by
  unfold Cert.ReferenceIdeal.Step.b9
  rfl
set_option maxRecDepth 8192 in
/-- What the trip's operations make here is `b10` of the state and the trip's number. -/
theorem al_10 (h : Holds V0 s j) : (broadcastInDim S32x1024 ![] bcast_S_S32x1024 (constant S_ .f32 0x00000000#32) : (Proc.devRef .tc main_while0b_v12 : DevRef τ sig).ty.Contents (Elt F)) = Cert.ReferenceIdeal.Step.b10 j s := by
  unfold Cert.ReferenceIdeal.Step.b10
  rw [← al_9 h]
  try rfl
set_option maxRecDepth 8192 in
/-- What the trip's operations make here is `b11` of the state and the trip's number. -/
theorem al_11 (h : Holds V0 s j) : (broadcastInDim S32x1x1024 ![0, 2] bcast_S32x1024_S32x1x1024_0_2 (shapeCast S32x1024 (Host.dynamicSlice S1x32x1024 (V0 (Proc.devRef .tc main_v7_0)) (fun k => (((![V0 (Proc.devRef .tc main_v7_13), constantI S_ 32 0#32, constantI S_ 32 0#32] : Fin 3 → (⟨S_, .i32⟩ : BufTy).Contents (Elt F))) k (Shape.Idx.first h_S_)).toInt) sliceFits_S32x32x1024_S1x32x1024) shapeCasts_S1x32x1024_S32x1024) : (Proc.devRef .tc main_while0b_v13 : DevRef τ sig).ty.Contents (Elt F)) = Cert.ReferenceIdeal.Step.b11 j s := by
  unfold Cert.ReferenceIdeal.Step.b11
  rw [← al_3 h]
  try rfl
set_option maxRecDepth 8192 in
/-- What the trip's operations make here is `b12` of the state and the trip's number. -/
theorem al_12 (h : Holds V0 s j) : (broadcastInDim S32x1x1024 ![0, 2] bcast_S32x1024_S32x1x1024_0_2 (broadcastInDim S32x1024 ![] bcast_S_S32x1024 (constant S_ .f32 0x00000000#32)) : (Proc.devRef .tc main_while0b_v14 : DevRef τ sig).ty.Contents (Elt F)) = Cert.ReferenceIdeal.Step.b12 j s := by
  unfold Cert.ReferenceIdeal.Step.b12
  rw [← al_10 h]
  try rfl
set_option maxRecDepth 8192 in
/-- What the trip's operations make here is `b13` of the state and the trip's number. -/
theorem al_13 (h : Holds V0 s j) : (res_main_while0b_v15 V0 : (Proc.devRef .tc main_while0b_v15 : DevRef τ sig).ty.Contents (Elt F)) = Cert.ReferenceIdeal.Step.b13 j s := by
  unfold res_main_while0b_v15 Cert.ReferenceIdeal.Step.b13
  rw [← al_11 h, ← al_12 h]
  try rfl
set_option maxRecDepth 8192 in
/-- What the trip's operations make here is `b14` of the state and the trip's number. -/
theorem al_14 (h : Holds V0 s j) : (Host.dotGeneral dot_S32x8x256_S256x64_S32x8x64_2_0_01_1_n_n none (res_main_while0b_v11 V0) (V0 (Proc.devRef .tc main_v7_2)) : (Proc.devRef .tc main_while0b_v16 : DevRef τ sig).ty.Contents (Elt F)) = Cert.ReferenceIdeal.Step.b14 j s := by
  unfold Cert.ReferenceIdeal.Step.b14
  rw [← al_8 h, h.f_2]
  try rfl
set_option maxRecDepth 8192 in
/-- What the trip's operations make here is `b15` of the state and the trip's number. -/
theorem al_15 (h : Holds V0 s j) : (Host.dotGeneral dot_S32x2x1024_S1024x64_S32x2x64_2_0_01_1_n_n none (res_main_while0b_v15 V0) (V0 (Proc.devRef .tc main_v7_3)) : (Proc.devRef .tc main_while0b_v17 : DevRef τ sig).ty.Contents (Elt F)) = Cert.ReferenceIdeal.Step.b15 j s := by
  unfold Cert.ReferenceIdeal.Step.b15
  rw [← al_13 h, h.f_3]
  try rfl
set_option maxRecDepth 8192 in
/-- What the trip's operations make here is `b16` of the state and the trip's number. -/
theorem al_16 (h : Holds V0 s j) : (Host.dotGeneral dot_S32x2x1024_S1024x64_S32x2x64_2_0_01_1_n_n none (res_main_while0b_v15 V0) (V0 (Proc.devRef .tc main_v7_4)) : (Proc.devRef .tc main_while0b_v18 : DevRef τ sig).ty.Contents (Elt F)) = Cert.ReferenceIdeal.Step.b16 j s := by
  unfold Cert.ReferenceIdeal.Step.b16
  rw [← al_13 h, h.f_4]
  try rfl
set_option maxRecDepth 8192 in
/-- What the trip's operations make here is `b17` of the state and the trip's number. -/
theorem al_17 (h : Holds V0 s j) : (Host.dotGeneral dot_S32x8x64_S32x2x64_S32x8x2_2_2_1_1_0_0 none (Host.dotGeneral dot_S32x8x256_S256x64_S32x8x64_2_0_01_1_n_n none (res_main_while0b_v11 V0) (V0 (Proc.devRef .tc main_v7_2))) (Host.dotGeneral dot_S32x2x1024_S1024x64_S32x2x64_2_0_01_1_n_n none (res_main_while0b_v15 V0) (V0 (Proc.devRef .tc main_v7_3))) : (Proc.devRef .tc main_while0b_v19 : DevRef τ sig).ty.Contents (Elt F)) = Cert.ReferenceIdeal.Step.b17 j s := by
  unfold Cert.ReferenceIdeal.Step.b17
  rw [← al_14 h, ← al_15 h]
  try rfl
set_option maxRecDepth 8192 in
/-- What the trip's operations make here is `b18` of the state and the trip's number. -/
theorem al_18 (h : Holds V0 s j) : (constant S_ .f32 0x42800000#32 : (Proc.devRef .tc main_while0b_cst_18 : DevRef τ sig).ty.Contents (Elt F)) = Cert.ReferenceIdeal.Step.b18 j s := by
  unfold Cert.ReferenceIdeal.Step.b18
  rfl
set_option maxRecDepth 8192 in
/-- What the trip's operations make here is `b19` of the state and the trip's number. -/
theorem al_19 (h : Holds V0 s j) : (Host.sqrt (constant S_ .f32 0x42800000#32) : (Proc.devRef .tc main_while0b_v20 : DevRef τ sig).ty.Contents (Elt F)) = Cert.ReferenceIdeal.Step.b19 j s := by
  unfold Cert.ReferenceIdeal.Step.b19
  rw [← al_18 h]
  try rfl
set_option maxRecDepth 8192 in
/-- What the trip's operations make here is `b20` of the state and the trip's number. -/
theorem al_20 (h : Holds V0 s j) : (broadcastInDim S32x8x2 ![] bcast_S_S32x8x2 (Host.sqrt (constant S_ .f32 0x42800000#32)) : (Proc.devRef .tc main_while0b_v21 : DevRef τ sig).ty.Contents (Elt F)) = Cert.ReferenceIdeal.Step.b20 j s := by
  unfold Cert.ReferenceIdeal.Step.b20
  rw [← al_19 h]
  try rfl
set_option maxRecDepth 8192 in
/-- What the trip's operations make here is `b21` of the state and the trip's number. -/
theorem al_21 (h : Holds V0 s j) : (res_main_while0b_v22 V0 : (Proc.devRef .tc main_while0b_v22 : DevRef τ sig).ty.Contents (Elt F)) = Cert.ReferenceIdeal.Step.b21 j s := by
  unfold res_main_while0b_v22 Cert.ReferenceIdeal.Step.b21
  rw [← al_17 h, ← al_20 h]
  try rfl
set_option maxRecDepth 8192 in
/-- What the trip's operations make here is `b22` of the state and the trip's number. -/
theorem al_22 (h : Holds V0 s j) : (constant S_ .f32 0xFF800000#32 : (Proc.devRef .tc main_while0b_cst_19 : DevRef τ sig).ty.Contents (Elt F)) = Cert.ReferenceIdeal.Step.b22 j s := by
  unfold Cert.ReferenceIdeal.Step.b22
  rfl
set_option maxRecDepth 8192 in
/-- What the trip's operations make here is `b23` of the state and the trip's number. -/
theorem al_23 (h : Holds V0 s j) : (Host.reduce FloatOps.maximumf (res_main_while0b_v22 V0) (constant S_ .f32 0xFF800000#32) reducesTo_S32x8x2_S32x8_d2 h_S_ : (Proc.devRef .tc main_while0b_v23 : DevRef τ sig).ty.Contents (Elt F)) = Cert.ReferenceIdeal.Step.b23 j s := by
  unfold Cert.ReferenceIdeal.Step.b23
  rw [← al_21 h, ← al_22 h]
  try rfl
set_option maxRecDepth 8192 in
/-- What the trip's operations make here is `b24` of the state and the trip's number. -/
theorem al_24 (h : Holds V0 s j) : (constant S_ .f32 0xFF800000#32 : (Proc.devRef .tc main_while0b_cst_20 : DevRef τ sig).ty.Contents (Elt F)) = Cert.ReferenceIdeal.Step.b24 j s := by
  unfold Cert.ReferenceIdeal.Step.b24
  rfl
set_option maxRecDepth 8192 in
/-- What the trip's operations make here is `b25` of the state and the trip's number. -/
theorem al_25 (h : Holds V0 s j) : (broadcastInDim S32x8 ![] bcast_S_S32x8 (constant S_ .f32 0xFF800000#32) : (Proc.devRef .tc main_while0b_v24 : DevRef τ sig).ty.Contents (Elt F)) = Cert.ReferenceIdeal.Step.b25 j s := by
  unfold Cert.ReferenceIdeal.Step.b25
  rw [← al_24 h]
  try rfl
set_option maxRecDepth 8192 in
/-- What the trip's operations make here is `b26` of the state and the trip's number. -/
theorem al_26 (h : Holds V0 s j) : (maximumf (broadcastInDim S32x8 ![] bcast_S_S32x8 (constant S_ .f32 0xFF800000#32)) (Host.reduce FloatOps.maximumf (res_main_while0b_v22 V0) (constant S_ .f32 0xFF800000#32) reducesTo_S32x8x2_S32x8_d2 h_S_) : (Proc.devRef .tc main_while0b_v25 : DevRef τ sig).ty.Contents (Elt F)) = Cert.ReferenceIdeal.Step.b26 j s := by
  unfold Cert.ReferenceIdeal.Step.b26
  rw [← al_25 h, ← al_23 h]
  try rfl
set_option maxRecDepth 8192 in
/-- What the trip's operations make here is `b27` of the state and the trip's number. -/
theorem al_27 (h : Holds V0 s j) : (broadcastInDim S32x8x1 ![0, 1] bcast_S32x8_S32x8x1_0_1 (maximumf (broadcastInDim S32x8 ![] bcast_S_S32x8 (constant S_ .f32 0xFF800000#32)) (Host.reduce FloatOps.maximumf (res_main_while0b_v22 V0) (constant S_ .f32 0xFF800000#32) reducesTo_S32x8x2_S32x8_d2 h_S_)) : (Proc.devRef .tc main_while0b_v26 : DevRef τ sig).ty.Contents (Elt F)) = Cert.ReferenceIdeal.Step.b27 j s := by
  unfold Cert.ReferenceIdeal.Step.b27
  rw [← al_26 h]
  try rfl
set_option maxRecDepth 8192 in
/-- What the trip's operations make here is `b28` of the state and the trip's number. -/
theorem al_28 (h : Holds V0 s j) : (broadcastInDim S32x8x2 ![0, 1, 2] bcast_S32x8x1_S32x8x2_0_1_2 (broadcastInDim S32x8x1 ![0, 1] bcast_S32x8_S32x8x1_0_1 (maximumf (broadcastInDim S32x8 ![] bcast_S_S32x8 (constant S_ .f32 0xFF800000#32)) (Host.reduce FloatOps.maximumf (res_main_while0b_v22 V0) (constant S_ .f32 0xFF800000#32) reducesTo_S32x8x2_S32x8_d2 h_S_))) : (Proc.devRef .tc main_while0b_v27 : DevRef τ sig).ty.Contents (Elt F)) = Cert.ReferenceIdeal.Step.b28 j s := by
  unfold Cert.ReferenceIdeal.Step.b28
  rw [← al_27 h]
  try rfl
set_option maxRecDepth 8192 in
/-- What the trip's operations make here is `b29` of the state and the trip's number. -/
theorem al_29 (h : Holds V0 s j) : (subf (res_main_while0b_v22 V0) (broadcastInDim S32x8x2 ![0, 1, 2] bcast_S32x8x1_S32x8x2_0_1_2 (broadcastInDim S32x8x1 ![0, 1] bcast_S32x8_S32x8x1_0_1 (maximumf (broadcastInDim S32x8 ![] bcast_S_S32x8 (constant S_ .f32 0xFF800000#32)) (Host.reduce FloatOps.maximumf (res_main_while0b_v22 V0) (constant S_ .f32 0xFF800000#32) reducesTo_S32x8x2_S32x8_d2 h_S_)))) : (Proc.devRef .tc main_while0b_v28 : DevRef τ sig).ty.Contents (Elt F)) = Cert.ReferenceIdeal.Step.b29 j s := by
  unfold Cert.ReferenceIdeal.Step.b29
  rw [← al_21 h, ← al_28 h]
  try rfl
set_option maxRecDepth 8192 in
/-- What the trip's operations make here is `b30` of the state and the trip's number. -/
theorem al_30 (h : Holds V0 s j) : (res_main_while0b_v29 V0 : (Proc.devRef .tc main_while0b_v29 : DevRef τ sig).ty.Contents (Elt F)) = Cert.ReferenceIdeal.Step.b30 j s := by
  unfold res_main_while0b_v29 Cert.ReferenceIdeal.Step.b30
  rw [← al_29 h]
  try rfl
set_option maxRecDepth 8192 in
/-- What the trip's operations make here is `b31` of the state and the trip's number. -/
theorem al_31 (h : Holds V0 s j) : (constant S_ .f32 0x00000000#32 : (Proc.devRef .tc main_while0b_cst_21 : DevRef τ sig).ty.Contents (Elt F)) = Cert.ReferenceIdeal.Step.b31 j s := by
  unfold Cert.ReferenceIdeal.Step.b31
  rfl
set_option maxRecDepth 8192 in
/-- What the trip's operations make here is `b32` of the state and the trip's number. -/
theorem al_32 (h : Holds V0 s j) : (Host.reduceAdd (res_main_while0b_v29 V0) (constant S_ .f32 0x00000000#32) reducesTo_S32x8x2_S32x8_d2 h_S_ : (Proc.devRef .tc main_while0b_v30 : DevRef τ sig).ty.Contents (Elt F)) = Cert.ReferenceIdeal.Step.b32 j s := by
  unfold Cert.ReferenceIdeal.Step.b32
  rw [← al_30 h, ← al_31 h]
  try rfl
set_option maxRecDepth 8192 in
/-- What the trip's operations make here is `b33` of the state and the trip's number. -/
theorem al_33 (h : Holds V0 s j) : (broadcastInDim S32x8x1 ![0, 1] bcast_S32x8_S32x8x1_0_1 (Host.reduceAdd (res_main_while0b_v29 V0) (constant S_ .f32 0x00000000#32) reducesTo_S32x8x2_S32x8_d2 h_S_) : (Proc.devRef .tc main_while0b_v31 : DevRef τ sig).ty.Contents (Elt F)) = Cert.ReferenceIdeal.Step.b33 j s := by
  unfold Cert.ReferenceIdeal.Step.b33
  rw [← al_32 h]
  try rfl
set_option maxRecDepth 8192 in
/-- What the trip's operations make here is `b34` of the state and the trip's number. -/
theorem al_34 (h : Holds V0 s j) : (broadcastInDim S32x8x2 ![0, 1, 2] bcast_S32x8x1_S32x8x2_0_1_2 (broadcastInDim S32x8x1 ![0, 1] bcast_S32x8_S32x8x1_0_1 (Host.reduceAdd (res_main_while0b_v29 V0) (constant S_ .f32 0x00000000#32) reducesTo_S32x8x2_S32x8_d2 h_S_)) : (Proc.devRef .tc main_while0b_v32 : DevRef τ sig).ty.Contents (Elt F)) = Cert.ReferenceIdeal.Step.b34 j s := by
  unfold Cert.ReferenceIdeal.Step.b34
  rw [← al_33 h]
  try rfl
set_option maxRecDepth 8192 in
/-- What the trip's operations make here is `b35` of the state and the trip's number. -/
theorem al_35 (h : Holds V0 s j) : (res_main_while0b_v33 V0 : (Proc.devRef .tc main_while0b_v33 : DevRef τ sig).ty.Contents (Elt F)) = Cert.ReferenceIdeal.Step.b35 j s := by
  unfold res_main_while0b_v33 Cert.ReferenceIdeal.Step.b35
  rw [← al_30 h, ← al_34 h]
  try rfl
set_option maxRecDepth 8192 in
/-- What the trip's operations make here is `b36` of the state and the trip's number. -/
theorem al_36 (h : Holds V0 s j) : (Host.dotGeneral dot_S32x8x2_S32x2x64_S32x8x64_2_1_1_2_0_0 none (res_main_while0b_v33 V0) (Host.dotGeneral dot_S32x2x1024_S1024x64_S32x2x64_2_0_01_1_n_n none (res_main_while0b_v15 V0) (V0 (Proc.devRef .tc main_v7_4))) : (Proc.devRef .tc main_while0b_v34 : DevRef τ sig).ty.Contents (Elt F)) = Cert.ReferenceIdeal.Step.b36 j s := by
  unfold Cert.ReferenceIdeal.Step.b36
  rw [← al_35 h, ← al_16 h]
  try rfl
set_option maxRecDepth 8192 in
/-- What the trip's operations make here is `b37` of the state and the trip's number. -/
theorem al_37 (h : Holds V0 s j) : (extractStridedSlice S32x8x1 ![0, 0, 0] (res_main_while0b_v33 V0) slices_S32x8x2_S32x8x1_0_0_0 : (Proc.devRef .tc main_while0b_v35 : DevRef τ sig).ty.Contents (Elt F)) = Cert.ReferenceIdeal.Step.b37 j s := by
  unfold Cert.ReferenceIdeal.Step.b37
  rw [← al_35 h]
  try rfl
set_option maxRecDepth 8192 in
/-- What the trip's operations make here is `b38` of the state and the trip's number. -/
theorem al_38 (h : Holds V0 s j) : (res_main_while0b_v36 V0 : (Proc.devRef .tc main_while0b_v36 : DevRef τ sig).ty.Contents (Elt F)) = Cert.ReferenceIdeal.Step.b38 j s := by
  unfold res_main_while0b_v36 Cert.ReferenceIdeal.Step.b38
  rw [← al_37 h]
  try rfl
set_option maxRecDepth 8192 in
/-- What the trip's operations make here is `b39` of the state and the trip's number. -/
theorem al_39 (h : Holds V0 s j) : ((Host.topK S32x4 1 (FloatOps.cmpfTotal .gt) (res_main_while0b_v36 V0) sliceFits_S32x8_S32x4).1 : (Proc.devRef .tc main_while0b_values : DevRef τ sig).ty.Contents (Elt F)) = Cert.ReferenceIdeal.Step.b39 j s := by
  unfold Cert.ReferenceIdeal.Step.b39
  rw [← al_38 h]
  try rfl
set_option maxRecDepth 8192 in
/-- What the trip's operations make here is `b40` of the state and the trip's number. -/
theorem al_40 (h : Holds V0 s j) : (res_main_while0b_indices V0 : (Proc.devRef .tc main_while0b_indices : DevRef τ sig).ty.Contents (Elt F)) = Cert.ReferenceIdeal.Step.b40 j s := by
  unfold res_main_while0b_indices Cert.ReferenceIdeal.Step.b40
  rw [← al_38 h]
  try rfl
set_option maxRecDepth 8192 in
/-- What the trip's operations make here is `b41` of the state and the trip's number. -/
theorem al_41 (h : Holds V0 s j) : (constant S_ .f32 0x00000000#32 : (Proc.devRef .tc main_while0b_cst_22 : DevRef τ sig).ty.Contents (Elt F)) = Cert.ReferenceIdeal.Step.b41 j s := by
  unfold Cert.ReferenceIdeal.Step.b41
  rfl
set_option maxRecDepth 8192 in
/-- What the trip's operations make here is `b42` of the state and the trip's number. -/
theorem al_42 (h : Holds V0 s j) : (broadcastInDim S32x8 ![] bcast_S_S32x8 (constant S_ .f32 0x00000000#32) : (Proc.devRef .tc main_while0b_v37 : DevRef τ sig).ty.Contents (Elt F)) = Cert.ReferenceIdeal.Step.b42 j s := by
  unfold Cert.ReferenceIdeal.Step.b42
  rw [← al_41 h]
  try rfl
set_option maxRecDepth 8192 in
/-- What the trip's operations make here is `b43` of the state and the trip's number. -/
theorem al_43 (h : Holds V0 s j) : (iotaInDim S32 32 0 : (Proc.devRef .tc main_while0b_v38 : DevRef τ sig).ty.Contents (Elt F)) = Cert.ReferenceIdeal.Step.b43 j s := by
  unfold Cert.ReferenceIdeal.Step.b43
  rfl
set_option maxRecDepth 8192 in
/-- What the trip's operations make here is `b44` of the state and the trip's number. -/
theorem al_44 (h : Holds V0 s j) : (res_main_while0b_v39 V0 : (Proc.devRef .tc main_while0b_v39 : DevRef τ sig).ty.Contents (Elt F)) = Cert.ReferenceIdeal.Step.b44 j s := by
  unfold res_main_while0b_v39 Cert.ReferenceIdeal.Step.b44
  rw [← al_43 h]
  try rfl
set_option maxRecDepth 8192 in
/-- What the trip's operations make here is `b45` of the state and the trip's number. -/
theorem al_45 (h : Holds V0 s j) : (constantI S_ 32 0#32 : (Proc.devRef .tc main_while0b_c_23 : DevRef τ sig).ty.Contents (Elt F)) = Cert.ReferenceIdeal.Step.b45 j s := by
  unfold Cert.ReferenceIdeal.Step.b45
  rfl
set_option maxRecDepth 8192 in
/-- What the trip's operations make here is `b46` of the state and the trip's number. -/
theorem al_46 (h : Holds V0 s j) : (broadcastInDim S32x1 ![] bcast_S_S32x1 (constantI S_ 32 0#32) : (Proc.devRef .tc main_while0b_v40 : DevRef τ sig).ty.Contents (Elt F)) = Cert.ReferenceIdeal.Step.b46 j s := by
  unfold Cert.ReferenceIdeal.Step.b46
  rw [← al_45 h]
  try rfl
set_option maxRecDepth 8192 in
/-- What the trip's operations make here is `b47` of the state and the trip's number. -/
theorem al_47 (h : Holds V0 s j) : (cmpi .slt (res_main_while0b_v39 V0) (broadcastInDim S32x1 ![] bcast_S_S32x1 (constantI S_ 32 0#32)) : (Proc.devRef .tc main_while0b_v41 : DevRef τ sig).ty.Contents (Elt F)) = Cert.ReferenceIdeal.Step.b47 j s := by
  unfold Cert.ReferenceIdeal.Step.b47
  rw [← al_44 h, ← al_46 h]
  try rfl
set_option maxRecDepth 8192 in
/-- What the trip's operations make here is `b48` of the state and the trip's number. -/
theorem al_48 (h : Holds V0 s j) : (constantI S_ 32 32#32 : (Proc.devRef .tc main_while0b_c_24 : DevRef τ sig).ty.Contents (Elt F)) = Cert.ReferenceIdeal.Step.b48 j s := by
  unfold Cert.ReferenceIdeal.Step.b48
  rfl
set_option maxRecDepth 8192 in
/-- What the trip's operations make here is `b49` of the state and the trip's number. -/
theorem al_49 (h : Holds V0 s j) : (broadcastInDim S32x1 ![] bcast_S_S32x1 (constantI S_ 32 32#32) : (Proc.devRef .tc main_while0b_v42 : DevRef τ sig).ty.Contents (Elt F)) = Cert.ReferenceIdeal.Step.b49 j s := by
  unfold Cert.ReferenceIdeal.Step.b49
  rw [← al_48 h]
  try rfl
set_option maxRecDepth 8192 in
/-- What the trip's operations make here is `b50` of the state and the trip's number. -/
theorem al_50 (h : Holds V0 s j) : (addi (res_main_while0b_v39 V0) (broadcastInDim S32x1 ![] bcast_S_S32x1 (constantI S_ 32 32#32)) : (Proc.devRef .tc main_while0b_v43 : DevRef τ sig).ty.Contents (Elt F)) = Cert.ReferenceIdeal.Step.b50 j s := by
  unfold Cert.ReferenceIdeal.Step.b50
  rw [← al_44 h, ← al_49 h]
  try rfl
set_option maxRecDepth 8192 in
/-- What the trip's operations make here is `b51` of the state and the trip's number. -/
theorem al_51 (h : Holds V0 s j) : (select (cmpi .slt (res_main_while0b_v39 V0) (broadcastInDim S32x1 ![] bcast_S_S32x1 (constantI S_ 32 0#32))) (addi (res_main_while0b_v39 V0) (broadcastInDim S32x1 ![] bcast_S_S32x1 (constantI S_ 32 32#32))) (res_main_while0b_v39 V0) : (Proc.devRef .tc main_while0b_v44 : DevRef τ sig).ty.Contents (Elt F)) = Cert.ReferenceIdeal.Step.b51 j s := by
  unfold Cert.ReferenceIdeal.Step.b51
  rw [← al_47 h, ← al_50 h, ← al_44 h]
  try rfl
set_option maxRecDepth 8192 in
/-- What the trip's operations make here is `b52` of the state and the trip's number. -/
theorem al_52 (h : Holds V0 s j) : (constantI S_ 32 0#32 : (Proc.devRef .tc main_while0b_c_25 : DevRef τ sig).ty.Contents (Elt F)) = Cert.ReferenceIdeal.Step.b52 j s := by
  unfold Cert.ReferenceIdeal.Step.b52
  rfl
set_option maxRecDepth 8192 in
/-- What the trip's operations make here is `b53` of the state and the trip's number. -/
theorem al_53 (h : Holds V0 s j) : (broadcastInDim S32x4 ![] bcast_S_S32x4 (constantI S_ 32 0#32) : (Proc.devRef .tc main_while0b_v45 : DevRef τ sig).ty.Contents (Elt F)) = Cert.ReferenceIdeal.Step.b53 j s := by
  unfold Cert.ReferenceIdeal.Step.b53
  rw [← al_52 h]
  try rfl
set_option maxRecDepth 8192 in
/-- What the trip's operations make here is `b54` of the state and the trip's number. -/
theorem al_54 (h : Holds V0 s j) : (cmpi .slt (res_main_while0b_indices V0) (broadcastInDim S32x4 ![] bcast_S_S32x4 (constantI S_ 32 0#32)) : (Proc.devRef .tc main_while0b_v46 : DevRef τ sig).ty.Contents (Elt F)) = Cert.ReferenceIdeal.Step.b54 j s := by
  unfold Cert.ReferenceIdeal.Step.b54
  rw [← al_40 h, ← al_53 h]
  try rfl
set_option maxRecDepth 8192 in
/-- What the trip's operations make here is `b55` of the state and the trip's number. -/
theorem al_55 (h : Holds V0 s j) : (constantI S_ 32 8#32 : (Proc.devRef .tc main_while0b_c_26 : DevRef τ sig).ty.Contents (Elt F)) = Cert.ReferenceIdeal.Step.b55 j s := by
  unfold Cert.ReferenceIdeal.Step.b55
  rfl
set_option maxRecDepth 8192 in
/-- What the trip's operations make here is `b56` of the state and the trip's number. -/
theorem al_56 (h : Holds V0 s j) : (broadcastInDim S32x4 ![] bcast_S_S32x4 (constantI S_ 32 8#32) : (Proc.devRef .tc main_while0b_v47 : DevRef τ sig).ty.Contents (Elt F)) = Cert.ReferenceIdeal.Step.b56 j s := by
  unfold Cert.ReferenceIdeal.Step.b56
  rw [← al_55 h]
  try rfl
set_option maxRecDepth 8192 in
/-- What the trip's operations make here is `b57` of the state and the trip's number. -/
theorem al_57 (h : Holds V0 s j) : (addi (res_main_while0b_indices V0) (broadcastInDim S32x4 ![] bcast_S_S32x4 (constantI S_ 32 8#32)) : (Proc.devRef .tc main_while0b_v48 : DevRef τ sig).ty.Contents (Elt F)) = Cert.ReferenceIdeal.Step.b57 j s := by
  unfold Cert.ReferenceIdeal.Step.b57
  rw [← al_40 h, ← al_56 h]
  try rfl
set_option maxRecDepth 8192 in
/-- What the trip's operations make here is `b58` of the state and the trip's number. -/
theorem al_58 (h : Holds V0 s j) : (select (cmpi .slt (res_main_while0b_indices V0) (broadcastInDim S32x4 ![] bcast_S_S32x4 (constantI S_ 32 0#32))) (addi (res_main_while0b_indices V0) (broadcastInDim S32x4 ![] bcast_S_S32x4 (constantI S_ 32 8#32))) (res_main_while0b_indices V0) : (Proc.devRef .tc main_while0b_v49 : DevRef τ sig).ty.Contents (Elt F)) = Cert.ReferenceIdeal.Step.b58 j s := by
  unfold Cert.ReferenceIdeal.Step.b58
  rw [← al_54 h, ← al_57 h, ← al_40 h]
  try rfl
set_option maxRecDepth 8192 in
/-- What the trip's operations make here is `b59` of the state and the trip's number. -/
theorem al_59 (h : Holds V0 s j) : (broadcastInDim S32x4 ![0, 1] bcast_S32x1_S32x4_0_1 (select (cmpi .slt (res_main_while0b_v39 V0) (broadcastInDim S32x1 ![] bcast_S_S32x1 (constantI S_ 32 0#32))) (addi (res_main_while0b_v39 V0) (broadcastInDim S32x1 ![] bcast_S_S32x1 (constantI S_ 32 32#32))) (res_main_while0b_v39 V0)) : (Proc.devRef .tc main_while0b_v50 : DevRef τ sig).ty.Contents (Elt F)) = Cert.ReferenceIdeal.Step.b59 j s := by
  unfold Cert.ReferenceIdeal.Step.b59
  rw [← al_51 h]
  try rfl
set_option maxRecDepth 8192 in
/-- What the trip's operations make here is `b60` of the state and the trip's number. -/
theorem al_60 (h : Holds V0 s j) : (broadcastInDim S32x4x1 ![0, 1] bcast_S32x4_S32x4x1_0_1 (broadcastInDim S32x4 ![0, 1] bcast_S32x1_S32x4_0_1 (select (cmpi .slt (res_main_while0b_v39 V0) (broadcastInDim S32x1 ![] bcast_S_S32x1 (constantI S_ 32 0#32))) (addi (res_main_while0b_v39 V0) (broadcastInDim S32x1 ![] bcast_S_S32x1 (constantI S_ 32 32#32))) (res_main_while0b_v39 V0))) : (Proc.devRef .tc main_while0b_v51 : DevRef τ sig).ty.Contents (Elt F)) = Cert.ReferenceIdeal.Step.b60 j s := by
  unfold Cert.ReferenceIdeal.Step.b60
  rw [← al_59 h]
  try rfl
set_option maxRecDepth 8192 in
/-- What the trip's operations make here is `b61` of the state and the trip's number. -/
theorem al_61 (h : Holds V0 s j) : (broadcastInDim S32x4x1 ![0, 1] bcast_S32x4_S32x4x1_0_1 (select (cmpi .slt (res_main_while0b_indices V0) (broadcastInDim S32x4 ![] bcast_S_S32x4 (constantI S_ 32 0#32))) (addi (res_main_while0b_indices V0) (broadcastInDim S32x4 ![] bcast_S_S32x4 (constantI S_ 32 8#32))) (res_main_while0b_indices V0)) : (Proc.devRef .tc main_while0b_v52 : DevRef τ sig).ty.Contents (Elt F)) = Cert.ReferenceIdeal.Step.b61 j s := by
  unfold Cert.ReferenceIdeal.Step.b61
  rw [← al_58 h]
  try rfl
set_option maxRecDepth 8192 in
/-- What the trip's operations make here is `b62` of the state and the trip's number. -/
theorem al_62 (h : Holds V0 s j) : (concatenate S32x4x2 2 [⟨S32x4x1, (broadcastInDim S32x4x1 ![0, 1] bcast_S32x4_S32x4x1_0_1 (broadcastInDim S32x4 ![0, 1] bcast_S32x1_S32x4_0_1 (select (cmpi .slt (res_main_while0b_v39 V0) (broadcastInDim S32x1 ![] bcast_S_S32x1 (constantI S_ 32 0#32))) (addi (res_main_while0b_v39 V0) (broadcastInDim S32x1 ![] bcast_S_S32x1 (constantI S_ 32 32#32))) (res_main_while0b_v39 V0))))⟩, ⟨S32x4x1, (broadcastInDim S32x4x1 ![0, 1] bcast_S32x4_S32x4x1_0_1 (select (cmpi .slt (res_main_while0b_indices V0) (broadcastInDim S32x4 ![] bcast_S_S32x4 (constantI S_ 32 0#32))) (addi (res_main_while0b_indices V0) (broadcastInDim S32x4 ![] bcast_S_S32x4 (constantI S_ 32 8#32))) (res_main_while0b_indices V0)))⟩] concatenates_S32x4x1_S32x4x1_S32x4x2_d2 : (Proc.devRef .tc main_while0b_v53 : DevRef τ sig).ty.Contents (Elt F)) = Cert.ReferenceIdeal.Step.b62 j s := by
  unfold Cert.ReferenceIdeal.Step.b62
  rw [← al_60 h, ← al_61 h]
  try rfl
set_option maxRecDepth 8192 in
/-- What the trip's operations make here is `b63` of the state and the trip's number. -/
theorem al_63 (h : Holds V0 s j) : (constant S_ .f32 0x3F800000#32 : (Proc.devRef .tc main_while0b_cst_27 : DevRef τ sig).ty.Contents (Elt F)) = Cert.ReferenceIdeal.Step.b63 j s := by
  unfold Cert.ReferenceIdeal.Step.b63
  rfl
set_option maxRecDepth 8192 in
/-- What the trip's operations make here is `b64` of the state and the trip's number. -/
theorem al_64 (h : Holds V0 s j) : (broadcastInDim S32x4 ![] bcast_S_S32x4 (constant S_ .f32 0x3F800000#32) : (Proc.devRef .tc main_while0b_v54 : DevRef τ sig).ty.Contents (Elt F)) = Cert.ReferenceIdeal.Step.b64 j s := by
  unfold Cert.ReferenceIdeal.Step.b64
  rw [← al_63 h]
  try rfl
set_option maxRecDepth 8192 in
/-- What the trip's operations make here is `b65` of the state and the trip's number. -/
theorem al_65 (h : Holds V0 s j) : (res_main_while0b_v55 V0 : (Proc.devRef .tc main_while0b_v55 : DevRef τ sig).ty.Contents (Elt F)) = Cert.ReferenceIdeal.Step.b65 j s := by
  unfold res_main_while0b_v55 Cert.ReferenceIdeal.Step.b65
  rw [← al_42 h, ← al_62 h, ← al_64 h]
  try rfl
set_option maxRecDepth 8192 in
/-- What the trip's operations make here is `b66` of the state and the trip's number. -/
theorem al_66 (h : Holds V0 s j) : (Host.dotGeneral dot_S8x64x768_S32x8x64_S8x768x32_1_2_2_0_0_1 none (V0 (Proc.devRef .tc main_v7_5)) (Host.dotGeneral dot_S32x8x2_S32x2x64_S32x8x64_2_1_1_2_0_0 none (res_main_while0b_v33 V0) (Host.dotGeneral dot_S32x2x1024_S1024x64_S32x2x64_2_0_01_1_n_n none (res_main_while0b_v15 V0) (V0 (Proc.devRef .tc main_v7_4)))) : (Proc.devRef .tc main_while0b_v56 : DevRef τ sig).ty.Contents (Elt F)) = Cert.ReferenceIdeal.Step.b66 j s := by
  unfold Cert.ReferenceIdeal.Step.b66
  rw [← al_36 h, h.f_5]
  try rfl
set_option maxRecDepth 8192 in
/-- What the trip's operations make here is `b67` of the state and the trip's number. -/
theorem al_67 (h : Holds V0 s j) : (transpose S32x8x768 [2, 0, 1] (Host.dotGeneral dot_S8x64x768_S32x8x64_S8x768x32_1_2_2_0_0_1 none (V0 (Proc.devRef .tc main_v7_5)) (Host.dotGeneral dot_S32x8x2_S32x2x64_S32x8x64_2_1_1_2_0_0 none (res_main_while0b_v33 V0) (Host.dotGeneral dot_S32x2x1024_S1024x64_S32x2x64_2_0_01_1_n_n none (res_main_while0b_v15 V0) (V0 (Proc.devRef .tc main_v7_4))))) transposes_S8x768x32_S32x8x768_2_0_1 : (Proc.devRef .tc main_while0b_v57 : DevRef τ sig).ty.Contents (Elt F)) = Cert.ReferenceIdeal.Step.b67 j s := by
  unfold Cert.ReferenceIdeal.Step.b67
  rw [← al_66 h]
  try rfl
set_option maxRecDepth 8192 in
/-- What the trip's operations make here is `b68` of the state and the trip's number. -/
theorem al_68 (h : Holds V0 s j) : (broadcastInDim S1x8x768 ![1, 2] bcast_S8x768_S1x8x768_1_2 (V0 (Proc.devRef .tc main_v7_6)) : (Proc.devRef .tc main_while0b_v58 : DevRef τ sig).ty.Contents (Elt F)) = Cert.ReferenceIdeal.Step.b68 j s := by
  unfold Cert.ReferenceIdeal.Step.b68
  rw [h.f_6]
  try rfl
set_option maxRecDepth 8192 in
/-- What the trip's operations make here is `b69` of the state and the trip's number. -/
theorem al_69 (h : Holds V0 s j) : (broadcastInDim S32x8x768 ![0, 1, 2] bcast_S1x8x768_S32x8x768_0_1_2 (broadcastInDim S1x8x768 ![1, 2] bcast_S8x768_S1x8x768_1_2 (V0 (Proc.devRef .tc main_v7_6))) : (Proc.devRef .tc main_while0b_v59 : DevRef τ sig).ty.Contents (Elt F)) = Cert.ReferenceIdeal.Step.b69 j s := by
  unfold Cert.ReferenceIdeal.Step.b69
  rw [← al_68 h]
  try rfl
set_option maxRecDepth 8192 in
/-- What the trip's operations make here is `b70` of the state and the trip's number. -/
theorem al_70 (h : Holds V0 s j) : (res_main_while0b_v60 V0 : (Proc.devRef .tc main_while0b_v60 : DevRef τ sig).ty.Contents (Elt F)) = Cert.ReferenceIdeal.Step.b70 j s := by
  unfold res_main_while0b_v60 Cert.ReferenceIdeal.Step.b70
  rw [← al_67 h, ← al_69 h]
  try rfl
set_option maxRecDepth 8192 in
/-- What the trip's operations make here is `b71` of the state and the trip's number. -/
theorem al_71 (h : Holds V0 s j) : (Host.dotGeneral dot_S8x256x768_S32x8x256_S8x768x32_1_2_2_0_0_1 none (V0 (Proc.devRef .tc main_v7_7)) (res_main_while0b_v11 V0) : (Proc.devRef .tc main_while0b_v61 : DevRef τ sig).ty.Contents (Elt F)) = Cert.ReferenceIdeal.Step.b71 j s := by
  unfold Cert.ReferenceIdeal.Step.b71
  rw [← al_8 h, h.f_7]
  try rfl
set_option maxRecDepth 8192 in
/-- What the trip's operations make here is `b72` of the state and the trip's number. -/
theorem al_72 (h : Holds V0 s j) : (transpose S32x8x768 [2, 0, 1] (Host.dotGeneral dot_S8x256x768_S32x8x256_S8x768x32_1_2_2_0_0_1 none (V0 (Proc.devRef .tc main_v7_7)) (res_main_while0b_v11 V0)) transposes_S8x768x32_S32x8x768_2_0_1 : (Proc.devRef .tc main_while0b_v62 : DevRef τ sig).ty.Contents (Elt F)) = Cert.ReferenceIdeal.Step.b72 j s := by
  unfold Cert.ReferenceIdeal.Step.b72
  rw [← al_71 h]
  try rfl
set_option maxRecDepth 8192 in
/-- What the trip's operations make here is `b73` of the state and the trip's number. -/
theorem al_73 (h : Holds V0 s j) : (broadcastInDim S1x8x768 ![1, 2] bcast_S8x768_S1x8x768_1_2 (V0 (Proc.devRef .tc main_v7_8)) : (Proc.devRef .tc main_while0b_v63 : DevRef τ sig).ty.Contents (Elt F)) = Cert.ReferenceIdeal.Step.b73 j s := by
  unfold Cert.ReferenceIdeal.Step.b73
  rw [h.f_8]
  try rfl
set_option maxRecDepth 8192 in
/-- What the trip's operations make here is `b74` of the state and the trip's number. -/
theorem al_74 (h : Holds V0 s j) : (broadcastInDim S32x8x768 ![0, 1, 2] bcast_S1x8x768_S32x8x768_0_1_2 (broadcastInDim S1x8x768 ![1, 2] bcast_S8x768_S1x8x768_1_2 (V0 (Proc.devRef .tc main_v7_8))) : (Proc.devRef .tc main_while0b_v64 : DevRef τ sig).ty.Contents (Elt F)) = Cert.ReferenceIdeal.Step.b74 j s := by
  unfold Cert.ReferenceIdeal.Step.b74
  rw [← al_73 h]
  try rfl
set_option maxRecDepth 8192 in
/-- What the trip's operations make here is `b75` of the state and the trip's number. -/
theorem al_75 (h : Holds V0 s j) : (res_main_while0b_v65 V0 : (Proc.devRef .tc main_while0b_v65 : DevRef τ sig).ty.Contents (Elt F)) = Cert.ReferenceIdeal.Step.b75 j s := by
  unfold res_main_while0b_v65 Cert.ReferenceIdeal.Step.b75
  rw [← al_72 h, ← al_74 h]
  try rfl
set_option maxRecDepth 8192 in
/-- What the trip's operations make here is `b76` of the state and the trip's number. -/
theorem al_76 (h : Holds V0 s j) : (extractStridedSlice S32x8x256 ![0, 0, 0] (res_main_while0b_v60 V0) slices_S32x8x768_S32x8x256_0_0_0 : (Proc.devRef .tc main_while0b_v66 : DevRef τ sig).ty.Contents (Elt F)) = Cert.ReferenceIdeal.Step.b76 j s := by
  unfold Cert.ReferenceIdeal.Step.b76
  rw [← al_70 h]
  try rfl
set_option maxRecDepth 8192 in
/-- What the trip's operations make here is `b77` of the state and the trip's number. -/
theorem al_77 (h : Holds V0 s j) : (extractStridedSlice S32x8x256 ![0, 0, 0] (res_main_while0b_v65 V0) slices_S32x8x768_S32x8x256_0_0_0 : (Proc.devRef .tc main_while0b_v67 : DevRef τ sig).ty.Contents (Elt F)) = Cert.ReferenceIdeal.Step.b77 j s := by
  unfold Cert.ReferenceIdeal.Step.b77
  rw [← al_75 h]
  try rfl
set_option maxRecDepth 8192 in
/-- What the trip's operations make here is `b78` of the state and the trip's number. -/
theorem al_78 (h : Holds V0 s j) : (addf (extractStridedSlice S32x8x256 ![0, 0, 0] (res_main_while0b_v60 V0) slices_S32x8x768_S32x8x256_0_0_0) (extractStridedSlice S32x8x256 ![0, 0, 0] (res_main_while0b_v65 V0) slices_S32x8x768_S32x8x256_0_0_0) : (Proc.devRef .tc main_while0b_v68 : DevRef τ sig).ty.Contents (Elt F)) = Cert.ReferenceIdeal.Step.b78 j s := by
  unfold Cert.ReferenceIdeal.Step.b78
  rw [← al_76 h, ← al_77 h]
  try rfl
set_option maxRecDepth 8192 in
/-- What the trip's operations make here is `b79` of the state and the trip's number. -/
theorem al_79 (h : Holds V0 s j) : (Host.negf (addf (extractStridedSlice S32x8x256 ![0, 0, 0] (res_main_while0b_v60 V0) slices_S32x8x768_S32x8x256_0_0_0) (extractStridedSlice S32x8x256 ![0, 0, 0] (res_main_while0b_v65 V0) slices_S32x8x768_S32x8x256_0_0_0)) : (Proc.devRef .tc main_while0b_v69 : DevRef τ sig).ty.Contents (Elt F)) = Cert.ReferenceIdeal.Step.b79 j s := by
  unfold Cert.ReferenceIdeal.Step.b79
  rw [← al_78 h]
  try rfl
set_option maxRecDepth 8192 in
/-- What the trip's operations make here is `b80` of the state and the trip's number. -/
theorem al_80 (h : Holds V0 s j) : (Host.exp (Host.negf (addf (extractStridedSlice S32x8x256 ![0, 0, 0] (res_main_while0b_v60 V0) slices_S32x8x768_S32x8x256_0_0_0) (extractStridedSlice S32x8x256 ![0, 0, 0] (res_main_while0b_v65 V0) slices_S32x8x768_S32x8x256_0_0_0))) : (Proc.devRef .tc main_while0b_v70 : DevRef τ sig).ty.Contents (Elt F)) = Cert.ReferenceIdeal.Step.b80 j s := by
  unfold Cert.ReferenceIdeal.Step.b80
  rw [← al_79 h]
  try rfl
set_option maxRecDepth 8192 in
/-- What the trip's operations make here is `b81` of the state and the trip's number. -/
theorem al_81 (h : Holds V0 s j) : (constant S_ .f32 0x3F800000#32 : (Proc.devRef .tc main_while0b_cst_28 : DevRef τ sig).ty.Contents (Elt F)) = Cert.ReferenceIdeal.Step.b81 j s := by
  unfold Cert.ReferenceIdeal.Step.b81
  rfl
set_option maxRecDepth 8192 in
/-- What the trip's operations make here is `b82` of the state and the trip's number. -/
theorem al_82 (h : Holds V0 s j) : (broadcastInDim S32x8x256 ![] bcast_S_S32x8x256 (constant S_ .f32 0x3F800000#32) : (Proc.devRef .tc main_while0b_v71 : DevRef τ sig).ty.Contents (Elt F)) = Cert.ReferenceIdeal.Step.b82 j s := by
  unfold Cert.ReferenceIdeal.Step.b82
  rw [← al_81 h]
  try rfl
set_option maxRecDepth 8192 in
/-- What the trip's operations make here is `b83` of the state and the trip's number. -/
theorem al_83 (h : Holds V0 s j) : (addf (broadcastInDim S32x8x256 ![] bcast_S_S32x8x256 (constant S_ .f32 0x3F800000#32)) (Host.exp (Host.negf (addf (extractStridedSlice S32x8x256 ![0, 0, 0] (res_main_while0b_v60 V0) slices_S32x8x768_S32x8x256_0_0_0) (extractStridedSlice S32x8x256 ![0, 0, 0] (res_main_while0b_v65 V0) slices_S32x8x768_S32x8x256_0_0_0)))) : (Proc.devRef .tc main_while0b_v72 : DevRef τ sig).ty.Contents (Elt F)) = Cert.ReferenceIdeal.Step.b83 j s := by
  unfold Cert.ReferenceIdeal.Step.b83
  rw [← al_82 h, ← al_80 h]
  try rfl
set_option maxRecDepth 8192 in
/-- What the trip's operations make here is `b84` of the state and the trip's number. -/
theorem al_84 (h : Holds V0 s j) : (constant S_ .f32 0x3F800000#32 : (Proc.devRef .tc main_while0b_cst_29 : DevRef τ sig).ty.Contents (Elt F)) = Cert.ReferenceIdeal.Step.b84 j s := by
  unfold Cert.ReferenceIdeal.Step.b84
  rfl
set_option maxRecDepth 8192 in
/-- What the trip's operations make here is `b85` of the state and the trip's number. -/
theorem al_85 (h : Holds V0 s j) : (broadcastInDim S32x8x256 ![] bcast_S_S32x8x256 (constant S_ .f32 0x3F800000#32) : (Proc.devRef .tc main_while0b_v73 : DevRef τ sig).ty.Contents (Elt F)) = Cert.ReferenceIdeal.Step.b85 j s := by
  unfold Cert.ReferenceIdeal.Step.b85
  rw [← al_84 h]
  try rfl
set_option maxRecDepth 8192 in
/-- What the trip's operations make here is `b86` of the state and the trip's number. -/
theorem al_86 (h : Holds V0 s j) : (Host.divf (broadcastInDim S32x8x256 ![] bcast_S_S32x8x256 (constant S_ .f32 0x3F800000#32)) (addf (broadcastInDim S32x8x256 ![] bcast_S_S32x8x256 (constant S_ .f32 0x3F800000#32)) (Host.exp (Host.negf (addf (extractStridedSlice S32x8x256 ![0, 0, 0] (res_main_while0b_v60 V0) slices_S32x8x768_S32x8x256_0_0_0) (extractStridedSlice S32x8x256 ![0, 0, 0] (res_main_while0b_v65 V0) slices_S32x8x768_S32x8x256_0_0_0))))) : (Proc.devRef .tc main_while0b_v74 : DevRef τ sig).ty.Contents (Elt F)) = Cert.ReferenceIdeal.Step.b86 j s := by
  unfold Cert.ReferenceIdeal.Step.b86
  rw [← al_85 h, ← al_83 h]
  try rfl
set_option maxRecDepth 8192 in
/-- What the trip's operations make here is `b87` of the state and the trip's number. -/
theorem al_87 (h : Holds V0 s j) : (extractStridedSlice S32x8x256 ![0, 0, 256] (res_main_while0b_v60 V0) slices_S32x8x768_S32x8x256_0_0_256 : (Proc.devRef .tc main_while0b_v75 : DevRef τ sig).ty.Contents (Elt F)) = Cert.ReferenceIdeal.Step.b87 j s := by
  unfold Cert.ReferenceIdeal.Step.b87
  rw [← al_70 h]
  try rfl
set_option maxRecDepth 8192 in
/-- What the trip's operations make here is `b88` of the state and the trip's number. -/
theorem al_88 (h : Holds V0 s j) : (extractStridedSlice S32x8x256 ![0, 0, 256] (res_main_while0b_v65 V0) slices_S32x8x768_S32x8x256_0_0_256 : (Proc.devRef .tc main_while0b_v76 : DevRef τ sig).ty.Contents (Elt F)) = Cert.ReferenceIdeal.Step.b88 j s := by
  unfold Cert.ReferenceIdeal.Step.b88
  rw [← al_75 h]
  try rfl
set_option maxRecDepth 8192 in
/-- What the trip's operations make here is `b89` of the state and the trip's number. -/
theorem al_89 (h : Holds V0 s j) : (addf (extractStridedSlice S32x8x256 ![0, 0, 256] (res_main_while0b_v60 V0) slices_S32x8x768_S32x8x256_0_0_256) (extractStridedSlice S32x8x256 ![0, 0, 256] (res_main_while0b_v65 V0) slices_S32x8x768_S32x8x256_0_0_256) : (Proc.devRef .tc main_while0b_v77 : DevRef τ sig).ty.Contents (Elt F)) = Cert.ReferenceIdeal.Step.b89 j s := by
  unfold Cert.ReferenceIdeal.Step.b89
  rw [← al_87 h, ← al_88 h]
  try rfl
set_option maxRecDepth 8192 in
/-- What the trip's operations make here is `b90` of the state and the trip's number. -/
theorem al_90 (h : Holds V0 s j) : (Host.negf (addf (extractStridedSlice S32x8x256 ![0, 0, 256] (res_main_while0b_v60 V0) slices_S32x8x768_S32x8x256_0_0_256) (extractStridedSlice S32x8x256 ![0, 0, 256] (res_main_while0b_v65 V0) slices_S32x8x768_S32x8x256_0_0_256)) : (Proc.devRef .tc main_while0b_v78 : DevRef τ sig).ty.Contents (Elt F)) = Cert.ReferenceIdeal.Step.b90 j s := by
  unfold Cert.ReferenceIdeal.Step.b90
  rw [← al_89 h]
  try rfl
set_option maxRecDepth 8192 in
/-- What the trip's operations make here is `b91` of the state and the trip's number. -/
theorem al_91 (h : Holds V0 s j) : (Host.exp (Host.negf (addf (extractStridedSlice S32x8x256 ![0, 0, 256] (res_main_while0b_v60 V0) slices_S32x8x768_S32x8x256_0_0_256) (extractStridedSlice S32x8x256 ![0, 0, 256] (res_main_while0b_v65 V0) slices_S32x8x768_S32x8x256_0_0_256))) : (Proc.devRef .tc main_while0b_v79 : DevRef τ sig).ty.Contents (Elt F)) = Cert.ReferenceIdeal.Step.b91 j s := by
  unfold Cert.ReferenceIdeal.Step.b91
  rw [← al_90 h]
  try rfl
set_option maxRecDepth 8192 in
/-- What the trip's operations make here is `b92` of the state and the trip's number. -/
theorem al_92 (h : Holds V0 s j) : (constant S_ .f32 0x3F800000#32 : (Proc.devRef .tc main_while0b_cst_30 : DevRef τ sig).ty.Contents (Elt F)) = Cert.ReferenceIdeal.Step.b92 j s := by
  unfold Cert.ReferenceIdeal.Step.b92
  rfl
set_option maxRecDepth 8192 in
/-- What the trip's operations make here is `b93` of the state and the trip's number. -/
theorem al_93 (h : Holds V0 s j) : (broadcastInDim S32x8x256 ![] bcast_S_S32x8x256 (constant S_ .f32 0x3F800000#32) : (Proc.devRef .tc main_while0b_v80 : DevRef τ sig).ty.Contents (Elt F)) = Cert.ReferenceIdeal.Step.b93 j s := by
  unfold Cert.ReferenceIdeal.Step.b93
  rw [← al_92 h]
  try rfl
set_option maxRecDepth 8192 in
/-- What the trip's operations make here is `b94` of the state and the trip's number. -/
theorem al_94 (h : Holds V0 s j) : (addf (broadcastInDim S32x8x256 ![] bcast_S_S32x8x256 (constant S_ .f32 0x3F800000#32)) (Host.exp (Host.negf (addf (extractStridedSlice S32x8x256 ![0, 0, 256] (res_main_while0b_v60 V0) slices_S32x8x768_S32x8x256_0_0_256) (extractStridedSlice S32x8x256 ![0, 0, 256] (res_main_while0b_v65 V0) slices_S32x8x768_S32x8x256_0_0_256)))) : (Proc.devRef .tc main_while0b_v81 : DevRef τ sig).ty.Contents (Elt F)) = Cert.ReferenceIdeal.Step.b94 j s := by
  unfold Cert.ReferenceIdeal.Step.b94
  rw [← al_93 h, ← al_91 h]
  try rfl
set_option maxRecDepth 8192 in
/-- What the trip's operations make here is `b95` of the state and the trip's number. -/
theorem al_95 (h : Holds V0 s j) : (constant S_ .f32 0x3F800000#32 : (Proc.devRef .tc main_while0b_cst_31 : DevRef τ sig).ty.Contents (Elt F)) = Cert.ReferenceIdeal.Step.b95 j s := by
  unfold Cert.ReferenceIdeal.Step.b95
  rfl
set_option maxRecDepth 8192 in
/-- What the trip's operations make here is `b96` of the state and the trip's number. -/
theorem al_96 (h : Holds V0 s j) : (broadcastInDim S32x8x256 ![] bcast_S_S32x8x256 (constant S_ .f32 0x3F800000#32) : (Proc.devRef .tc main_while0b_v82 : DevRef τ sig).ty.Contents (Elt F)) = Cert.ReferenceIdeal.Step.b96 j s := by
  unfold Cert.ReferenceIdeal.Step.b96
  rw [← al_95 h]
  try rfl
set_option maxRecDepth 8192 in
/-- What the trip's operations make here is `b97` of the state and the trip's number. -/
theorem al_97 (h : Holds V0 s j) : (res_main_while0b_v83 V0 : (Proc.devRef .tc main_while0b_v83 : DevRef τ sig).ty.Contents (Elt F)) = Cert.ReferenceIdeal.Step.b97 j s := by
  unfold res_main_while0b_v83 Cert.ReferenceIdeal.Step.b97
  rw [← al_96 h, ← al_94 h]
  try rfl
set_option maxRecDepth 8192 in
/-- What the trip's operations make here is `b98` of the state and the trip's number. -/
theorem al_98 (h : Holds V0 s j) : (extractStridedSlice S32x8x256 ![0, 0, 512] (res_main_while0b_v60 V0) slices_S32x8x768_S32x8x256_0_0_512 : (Proc.devRef .tc main_while0b_v84 : DevRef τ sig).ty.Contents (Elt F)) = Cert.ReferenceIdeal.Step.b98 j s := by
  unfold Cert.ReferenceIdeal.Step.b98
  rw [← al_70 h]
  try rfl
set_option maxRecDepth 8192 in
/-- What the trip's operations make here is `b99` of the state and the trip's number. -/
theorem al_99 (h : Holds V0 s j) : (extractStridedSlice S32x8x256 ![0, 0, 512] (res_main_while0b_v65 V0) slices_S32x8x768_S32x8x256_0_0_512 : (Proc.devRef .tc main_while0b_v85 : DevRef τ sig).ty.Contents (Elt F)) = Cert.ReferenceIdeal.Step.b99 j s := by
  unfold Cert.ReferenceIdeal.Step.b99
  rw [← al_75 h]
  try rfl
set_option maxRecDepth 8192 in
/-- What the trip's operations make here is `b100` of the state and the trip's number. -/
theorem al_100 (h : Holds V0 s j) : (mulf (Host.divf (broadcastInDim S32x8x256 ![] bcast_S_S32x8x256 (constant S_ .f32 0x3F800000#32)) (addf (broadcastInDim S32x8x256 ![] bcast_S_S32x8x256 (constant S_ .f32 0x3F800000#32)) (Host.exp (Host.negf (addf (extractStridedSlice S32x8x256 ![0, 0, 0] (res_main_while0b_v60 V0) slices_S32x8x768_S32x8x256_0_0_0) (extractStridedSlice S32x8x256 ![0, 0, 0] (res_main_while0b_v65 V0) slices_S32x8x768_S32x8x256_0_0_0)))))) (extractStridedSlice S32x8x256 ![0, 0, 512] (res_main_while0b_v65 V0) slices_S32x8x768_S32x8x256_0_0_512) : (Proc.devRef .tc main_while0b_v86 : DevRef τ sig).ty.Contents (Elt F)) = Cert.ReferenceIdeal.Step.b100 j s := by
  unfold Cert.ReferenceIdeal.Step.b100
  rw [← al_86 h, ← al_99 h]
  try rfl
set_option maxRecDepth 8192 in
/-- What the trip's operations make here is `b101` of the state and the trip's number. -/
theorem al_101 (h : Holds V0 s j) : (addf (extractStridedSlice S32x8x256 ![0, 0, 512] (res_main_while0b_v60 V0) slices_S32x8x768_S32x8x256_0_0_512) (mulf (Host.divf (broadcastInDim S32x8x256 ![] bcast_S_S32x8x256 (constant S_ .f32 0x3F800000#32)) (addf (broadcastInDim S32x8x256 ![] bcast_S_S32x8x256 (constant S_ .f32 0x3F800000#32)) (Host.exp (Host.negf (addf (extractStridedSlice S32x8x256 ![0, 0, 0] (res_main_while0b_v60 V0) slices_S32x8x768_S32x8x256_0_0_0) (extractStridedSlice S32x8x256 ![0, 0, 0] (res_main_while0b_v65 V0) slices_S32x8x768_S32x8x256_0_0_0)))))) (extractStridedSlice S32x8x256 ![0, 0, 512] (res_main_while0b_v65 V0) slices_S32x8x768_S32x8x256_0_0_512)) : (Proc.devRef .tc main_while0b_v87 : DevRef τ sig).ty.Contents (Elt F)) = Cert.ReferenceIdeal.Step.b101 j s := by
  unfold Cert.ReferenceIdeal.Step.b101
  rw [← al_98 h, ← al_100 h]
  try rfl
set_option maxRecDepth 8192 in
/-- What the trip's operations make here is `b102` of the state and the trip's number. -/
theorem al_102 (h : Holds V0 s j) : (Host.tanh (addf (extractStridedSlice S32x8x256 ![0, 0, 512] (res_main_while0b_v60 V0) slices_S32x8x768_S32x8x256_0_0_512) (mulf (Host.divf (broadcastInDim S32x8x256 ![] bcast_S_S32x8x256 (constant S_ .f32 0x3F800000#32)) (addf (broadcastInDim S32x8x256 ![] bcast_S_S32x8x256 (constant S_ .f32 0x3F800000#32)) (Host.exp (Host.negf (addf (extractStridedSlice S32x8x256 ![0, 0, 0] (res_main_while0b_v60 V0) slices_S32x8x768_S32x8x256_0_0_0) (extractStridedSlice S32x8x256 ![0, 0, 0] (res_main_while0b_v65 V0) slices_S32x8x768_S32x8x256_0_0_0)))))) (extractStridedSlice S32x8x256 ![0, 0, 512] (res_main_while0b_v65 V0) slices_S32x8x768_S32x8x256_0_0_512))) : (Proc.devRef .tc main_while0b_v88 : DevRef τ sig).ty.Contents (Elt F)) = Cert.ReferenceIdeal.Step.b102 j s := by
  unfold Cert.ReferenceIdeal.Step.b102
  rw [← al_101 h]
  try rfl
set_option maxRecDepth 8192 in
/-- What the trip's operations make here is `b103` of the state and the trip's number. -/
theorem al_103 (h : Holds V0 s j) : (constant S_ .f32 0x3F800000#32 : (Proc.devRef .tc main_while0b_cst_32 : DevRef τ sig).ty.Contents (Elt F)) = Cert.ReferenceIdeal.Step.b103 j s := by
  unfold Cert.ReferenceIdeal.Step.b103
  rfl
set_option maxRecDepth 8192 in
/-- What the trip's operations make here is `b104` of the state and the trip's number. -/
theorem al_104 (h : Holds V0 s j) : (broadcastInDim S32x8x256 ![] bcast_S_S32x8x256 (constant S_ .f32 0x3F800000#32) : (Proc.devRef .tc main_while0b_v89 : DevRef τ sig).ty.Contents (Elt F)) = Cert.ReferenceIdeal.Step.b104 j s := by
  unfold Cert.ReferenceIdeal.Step.b104
  rw [← al_103 h]
  try rfl
set_option maxRecDepth 8192 in
/-- What the trip's operations make here is `b105` of the state and the trip's number. -/
theorem al_105 (h : Holds V0 s j) : (subf (broadcastInDim S32x8x256 ![] bcast_S_S32x8x256 (constant S_ .f32 0x3F800000#32)) (res_main_while0b_v83 V0) : (Proc.devRef .tc main_while0b_v90 : DevRef τ sig).ty.Contents (Elt F)) = Cert.ReferenceIdeal.Step.b105 j s := by
  unfold Cert.ReferenceIdeal.Step.b105
  rw [← al_104 h, ← al_97 h]
  try rfl
set_option maxRecDepth 8192 in
/-- What the trip's operations make here is `b106` of the state and the trip's number. -/
theorem al_106 (h : Holds V0 s j) : (mulf (subf (broadcastInDim S32x8x256 ![] bcast_S_S32x8x256 (constant S_ .f32 0x3F800000#32)) (res_main_while0b_v83 V0)) (Host.tanh (addf (extractStridedSlice S32x8x256 ![0, 0, 512] (res_main_while0b_v60 V0) slices_S32x8x768_S32x8x256_0_0_512) (mulf (Host.divf (broadcastInDim S32x8x256 ![] bcast_S_S32x8x256 (constant S_ .f32 0x3F800000#32)) (addf (broadcastInDim S32x8x256 ![] bcast_S_S32x8x256 (constant S_ .f32 0x3F800000#32)) (Host.exp (Host.negf (addf (extractStridedSlice S32x8x256 ![0, 0, 0] (res_main_while0b_v60 V0) slices_S32x8x768_S32x8x256_0_0_0) (extractStridedSlice S32x8x256 ![0, 0, 0] (res_main_while0b_v65 V0) slices_S32x8x768_S32x8x256_0_0_0)))))) (extractStridedSlice S32x8x256 ![0, 0, 512] (res_main_while0b_v65 V0) slices_S32x8x768_S32x8x256_0_0_512)))) : (Proc.devRef .tc main_while0b_v91 : DevRef τ sig).ty.Contents (Elt F)) = Cert.ReferenceIdeal.Step.b106 j s := by
  unfold Cert.ReferenceIdeal.Step.b106
  rw [← al_105 h, ← al_102 h]
  try rfl
set_option maxRecDepth 8192 in
/-- What the trip's operations make here is `b107` of the state and the trip's number. -/
theorem al_107 (h : Holds V0 s j) : (mulf (res_main_while0b_v83 V0) (res_main_while0b_v11 V0) : (Proc.devRef .tc main_while0b_v92 : DevRef τ sig).ty.Contents (Elt F)) = Cert.ReferenceIdeal.Step.b107 j s := by
  unfold Cert.ReferenceIdeal.Step.b107
  rw [← al_97 h, ← al_8 h]
  try rfl
set_option maxRecDepth 8192 in
/-- What the trip's operations make here is `b108` of the state and the trip's number. -/
theorem al_108 (h : Holds V0 s j) : (addf (mulf (subf (broadcastInDim S32x8x256 ![] bcast_S_S32x8x256 (constant S_ .f32 0x3F800000#32)) (res_main_while0b_v83 V0)) (Host.tanh (addf (extractStridedSlice S32x8x256 ![0, 0, 512] (res_main_while0b_v60 V0) slices_S32x8x768_S32x8x256_0_0_512) (mulf (Host.divf (broadcastInDim S32x8x256 ![] bcast_S_S32x8x256 (constant S_ .f32 0x3F800000#32)) (addf (broadcastInDim S32x8x256 ![] bcast_S_S32x8x256 (constant S_ .f32 0x3F800000#32)) (Host.exp (Host.negf (addf (extractStridedSlice S32x8x256 ![0, 0, 0] (res_main_while0b_v60 V0) slices_S32x8x768_S32x8x256_0_0_0) (extractStridedSlice S32x8x256 ![0, 0, 0] (res_main_while0b_v65 V0) slices_S32x8x768_S32x8x256_0_0_0)))))) (extractStridedSlice S32x8x256 ![0, 0, 512] (res_main_while0b_v65 V0) slices_S32x8x768_S32x8x256_0_0_512))))) (mulf (res_main_while0b_v83 V0) (res_main_while0b_v11 V0)) : (Proc.devRef .tc main_while0b_v93 : DevRef τ sig).ty.Contents (Elt F)) = Cert.ReferenceIdeal.Step.b108 j s := by
  unfold Cert.ReferenceIdeal.Step.b108
  rw [← al_106 h, ← al_107 h]
  try rfl
set_option maxRecDepth 8192 in
/-- What the trip's operations make here is `b109` of the state and the trip's number. -/
theorem al_109 (h : Holds V0 s j) : (broadcastInDim S32x8x1 ![0, 1] bcast_S32x8_S32x8x1_0_1 (res_main_while0b_v55 V0) : (Proc.devRef .tc main_while0b_v94 : DevRef τ sig).ty.Contents (Elt F)) = Cert.ReferenceIdeal.Step.b109 j s := by
  unfold Cert.ReferenceIdeal.Step.b109
  rw [← al_65 h]
  try rfl
set_option maxRecDepth 8192 in
/-- What the trip's operations make here is `b110` of the state and the trip's number. -/
theorem al_110 (h : Holds V0 s j) : (broadcastInDim S32x8x256 ![0, 1, 2] bcast_S32x8x1_S32x8x256_0_1_2 (broadcastInDim S32x8x1 ![0, 1] bcast_S32x8_S32x8x1_0_1 (res_main_while0b_v55 V0)) : (Proc.devRef .tc main_while0b_v95 : DevRef τ sig).ty.Contents (Elt F)) = Cert.ReferenceIdeal.Step.b110 j s := by
  unfold Cert.ReferenceIdeal.Step.b110
  rw [← al_109 h]
  try rfl
set_option maxRecDepth 8192 in
/-- What the trip's operations make here is `b111` of the state and the trip's number. -/
theorem al_111 (h : Holds V0 s j) : (mulf (broadcastInDim S32x8x256 ![0, 1, 2] bcast_S32x8x1_S32x8x256_0_1_2 (broadcastInDim S32x8x1 ![0, 1] bcast_S32x8_S32x8x1_0_1 (res_main_while0b_v55 V0))) (addf (mulf (subf (broadcastInDim S32x8x256 ![] bcast_S_S32x8x256 (constant S_ .f32 0x3F800000#32)) (res_main_while0b_v83 V0)) (Host.tanh (addf (extractStridedSlice S32x8x256 ![0, 0, 512] (res_main_while0b_v60 V0) slices_S32x8x768_S32x8x256_0_0_512) (mulf (Host.divf (broadcastInDim S32x8x256 ![] bcast_S_S32x8x256 (constant S_ .f32 0x3F800000#32)) (addf (broadcastInDim S32x8x256 ![] bcast_S_S32x8x256 (constant S_ .f32 0x3F800000#32)) (Host.exp (Host.negf (addf (extractStridedSlice S32x8x256 ![0, 0, 0] (res_main_while0b_v60 V0) slices_S32x8x768_S32x8x256_0_0_0) (extractStridedSlice S32x8x256 ![0, 0, 0] (res_main_while0b_v65 V0) slices_S32x8x768_S32x8x256_0_0_0)))))) (extractStridedSlice S32x8x256 ![0, 0, 512] (res_main_while0b_v65 V0) slices_S32x8x768_S32x8x256_0_0_512))))) (mulf (res_main_while0b_v83 V0) (res_main_while0b_v11 V0))) : (Proc.devRef .tc main_while0b_v96 : DevRef τ sig).ty.Contents (Elt F)) = Cert.ReferenceIdeal.Step.b111 j s := by
  unfold Cert.ReferenceIdeal.Step.b111
  rw [← al_110 h, ← al_108 h]
  try rfl
set_option maxRecDepth 8192 in
/-- What the trip's operations make here is `b112` of the state and the trip's number. -/
theorem al_112 (h : Holds V0 s j) : (broadcastInDim S32x8x1 ![0, 1] bcast_S32x8_S32x8x1_0_1 (res_main_while0b_v55 V0) : (Proc.devRef .tc main_while0b_v97 : DevRef τ sig).ty.Contents (Elt F)) = Cert.ReferenceIdeal.Step.b112 j s := by
  unfold Cert.ReferenceIdeal.Step.b112
  rw [← al_65 h]
  try rfl
set_option maxRecDepth 8192 in
/-- What the trip's operations make here is `b113` of the state and the trip's number. -/
theorem al_113 (h : Holds V0 s j) : (constant S_ .f32 0x3F800000#32 : (Proc.devRef .tc main_while0b_cst_33 : DevRef τ sig).ty.Contents (Elt F)) = Cert.ReferenceIdeal.Step.b113 j s := by
  unfold Cert.ReferenceIdeal.Step.b113
  rfl
set_option maxRecDepth 8192 in
/-- What the trip's operations make here is `b114` of the state and the trip's number. -/
theorem al_114 (h : Holds V0 s j) : (broadcastInDim S32x8x1 ![] bcast_S_S32x8x1 (constant S_ .f32 0x3F800000#32) : (Proc.devRef .tc main_while0b_v98 : DevRef τ sig).ty.Contents (Elt F)) = Cert.ReferenceIdeal.Step.b114 j s := by
  unfold Cert.ReferenceIdeal.Step.b114
  rw [← al_113 h]
  try rfl
set_option maxRecDepth 8192 in
/-- What the trip's operations make here is `b115` of the state and the trip's number. -/
theorem al_115 (h : Holds V0 s j) : (subf (broadcastInDim S32x8x1 ![] bcast_S_S32x8x1 (constant S_ .f32 0x3F800000#32)) (broadcastInDim S32x8x1 ![0, 1] bcast_S32x8_S32x8x1_0_1 (res_main_while0b_v55 V0)) : (Proc.devRef .tc main_while0b_v99 : DevRef τ sig).ty.Contents (Elt F)) = Cert.ReferenceIdeal.Step.b115 j s := by
  unfold Cert.ReferenceIdeal.Step.b115
  rw [← al_114 h, ← al_112 h]
  try rfl
set_option maxRecDepth 8192 in
/-- What the trip's operations make here is `b116` of the state and the trip's number. -/
theorem al_116 (h : Holds V0 s j) : (broadcastInDim S32x8x256 ![0, 1, 2] bcast_S32x8x1_S32x8x256_0_1_2 (subf (broadcastInDim S32x8x1 ![] bcast_S_S32x8x1 (constant S_ .f32 0x3F800000#32)) (broadcastInDim S32x8x1 ![0, 1] bcast_S32x8_S32x8x1_0_1 (res_main_while0b_v55 V0))) : (Proc.devRef .tc main_while0b_v100 : DevRef τ sig).ty.Contents (Elt F)) = Cert.ReferenceIdeal.Step.b116 j s := by
  unfold Cert.ReferenceIdeal.Step.b116
  rw [← al_115 h]
  try rfl
set_option maxRecDepth 8192 in
/-- What the trip's operations make here is `b117` of the state and the trip's number. -/
theorem al_117 (h : Holds V0 s j) : (mulf (broadcastInDim S32x8x256 ![0, 1, 2] bcast_S32x8x1_S32x8x256_0_1_2 (subf (broadcastInDim S32x8x1 ![] bcast_S_S32x8x1 (constant S_ .f32 0x3F800000#32)) (broadcastInDim S32x8x1 ![0, 1] bcast_S32x8_S32x8x1_0_1 (res_main_while0b_v55 V0)))) (res_main_while0b_v11 V0) : (Proc.devRef .tc main_while0b_v101 : DevRef τ sig).ty.Contents (Elt F)) = Cert.ReferenceIdeal.Step.b117 j s := by
  unfold Cert.ReferenceIdeal.Step.b117
  rw [← al_116 h, ← al_8 h]
  try rfl
set_option maxRecDepth 8192 in
/-- What the trip's operations make here is `b118` of the state and the trip's number. -/
theorem al_118 (h : Holds V0 s j) : (res_main_while0b_v102 V0 : (Proc.devRef .tc main_while0b_v102 : DevRef τ sig).ty.Contents (Elt F)) = Cert.ReferenceIdeal.Step.b118 j s := by
  unfold res_main_while0b_v102 Cert.ReferenceIdeal.Step.b118
  rw [← al_111 h, ← al_117 h]
  try rfl
set_option maxRecDepth 8192 in
/-- What the trip's operations make here is `b119` of the state and the trip's number. -/
theorem al_119 (h : Holds V0 s j) : (Host.dotGeneral dot_S32x8x256_S256x128_S32x8x128_2_0_01_1_n_n none (res_main_while0b_v102 V0) (V0 (Proc.devRef .tc main_v7_9)) : (Proc.devRef .tc main_while0b_v103 : DevRef τ sig).ty.Contents (Elt F)) = Cert.ReferenceIdeal.Step.b119 j s := by
  unfold Cert.ReferenceIdeal.Step.b119
  rw [← al_118 h, h.f_9]
  try rfl
set_option maxRecDepth 8192 in
/-- What the trip's operations make here is `b120` of the state and the trip's number. -/
theorem al_120 (h : Holds V0 s j) : (shapeCast S32x8x4x32 (Host.dotGeneral dot_S32x8x256_S256x128_S32x8x128_2_0_01_1_n_n none (res_main_while0b_v102 V0) (V0 (Proc.devRef .tc main_v7_9))) shapeCasts_S32x8x128_S32x8x4x32 : (Proc.devRef .tc main_while0b_v104 : DevRef τ sig).ty.Contents (Elt F)) = Cert.ReferenceIdeal.Step.b120 j s := by
  unfold Cert.ReferenceIdeal.Step.b120
  rw [← al_119 h]
  try rfl
set_option maxRecDepth 8192 in
/-- What the trip's operations make here is `b121` of the state and the trip's number. -/
theorem al_121 (h : Holds V0 s j) : (Host.dotGeneral dot_S32x8x256_S256x128_S32x8x128_2_0_01_1_n_n none (res_main_while0b_v102 V0) (V0 (Proc.devRef .tc main_v7_10)) : (Proc.devRef .tc main_while0b_v105 : DevRef τ sig).ty.Contents (Elt F)) = Cert.ReferenceIdeal.Step.b121 j s := by
  unfold Cert.ReferenceIdeal.Step.b121
  rw [← al_118 h, h.f_10]
  try rfl
set_option maxRecDepth 8192 in
/-- What the trip's operations make here is `b122` of the state and the trip's number. -/
theorem al_122 (h : Holds V0 s j) : (shapeCast S32x8x4x32 (Host.dotGeneral dot_S32x8x256_S256x128_S32x8x128_2_0_01_1_n_n none (res_main_while0b_v102 V0) (V0 (Proc.devRef .tc main_v7_10))) shapeCasts_S32x8x128_S32x8x4x32 : (Proc.devRef .tc main_while0b_v106 : DevRef τ sig).ty.Contents (Elt F)) = Cert.ReferenceIdeal.Step.b122 j s := by
  unfold Cert.ReferenceIdeal.Step.b122
  rw [← al_121 h]
  try rfl
set_option maxRecDepth 8192 in
/-- What the trip's operations make here is `b123` of the state and the trip's number. -/
theorem al_123 (h : Holds V0 s j) : (Host.dotGeneral dot_S32x8x256_S256x128_S32x8x128_2_0_01_1_n_n none (res_main_while0b_v102 V0) (V0 (Proc.devRef .tc main_v7_11)) : (Proc.devRef .tc main_while0b_v107 : DevRef τ sig).ty.Contents (Elt F)) = Cert.ReferenceIdeal.Step.b123 j s := by
  unfold Cert.ReferenceIdeal.Step.b123
  rw [← al_118 h, h.f_11]
  try rfl
set_option maxRecDepth 8192 in
/-- What the trip's operations make here is `b124` of the state and the trip's number. -/
theorem al_124 (h : Holds V0 s j) : (shapeCast S32x8x4x32 (Host.dotGeneral dot_S32x8x256_S256x128_S32x8x128_2_0_01_1_n_n none (res_main_while0b_v102 V0) (V0 (Proc.devRef .tc main_v7_11))) shapeCasts_S32x8x128_S32x8x4x32 : (Proc.devRef .tc main_while0b_v108 : DevRef τ sig).ty.Contents (Elt F)) = Cert.ReferenceIdeal.Step.b124 j s := by
  unfold Cert.ReferenceIdeal.Step.b124
  rw [← al_123 h]
  try rfl
set_option maxRecDepth 8192 in
/-- What the trip's operations make here is `b125` of the state and the trip's number. -/
theorem al_125 (h : Holds V0 s j) : (Host.dotGeneral dot_S32x8x4x32_S32x8x4x32_S32x4x8x8_3_3_1_1_02_02 none (shapeCast S32x8x4x32 (Host.dotGeneral dot_S32x8x256_S256x128_S32x8x128_2_0_01_1_n_n none (res_main_while0b_v102 V0) (V0 (Proc.devRef .tc main_v7_9))) shapeCasts_S32x8x128_S32x8x4x32) (shapeCast S32x8x4x32 (Host.dotGeneral dot_S32x8x256_S256x128_S32x8x128_2_0_01_1_n_n none (res_main_while0b_v102 V0) (V0 (Proc.devRef .tc main_v7_10))) shapeCasts_S32x8x128_S32x8x4x32) : (Proc.devRef .tc main_while0b_v109 : DevRef τ sig).ty.Contents (Elt F)) = Cert.ReferenceIdeal.Step.b125 j s := by
  unfold Cert.ReferenceIdeal.Step.b125
  rw [← al_120 h, ← al_122 h]
  try rfl
set_option maxRecDepth 8192 in
/-- What the trip's operations make here is `b126` of the state and the trip's number. -/
theorem al_126 (h : Holds V0 s j) : (constant S_ .f32 0x42000000#32 : (Proc.devRef .tc main_while0b_cst_34 : DevRef τ sig).ty.Contents (Elt F)) = Cert.ReferenceIdeal.Step.b126 j s := by
  unfold Cert.ReferenceIdeal.Step.b126
  rfl
set_option maxRecDepth 8192 in
/-- What the trip's operations make here is `b127` of the state and the trip's number. -/
theorem al_127 (h : Holds V0 s j) : (Host.sqrt (constant S_ .f32 0x42000000#32) : (Proc.devRef .tc main_while0b_v110 : DevRef τ sig).ty.Contents (Elt F)) = Cert.ReferenceIdeal.Step.b127 j s := by
  unfold Cert.ReferenceIdeal.Step.b127
  rw [← al_126 h]
  try rfl
set_option maxRecDepth 8192 in
/-- What the trip's operations make here is `b128` of the state and the trip's number. -/
theorem al_128 (h : Holds V0 s j) : (broadcastInDim S32x4x8x8 ![] bcast_S_S32x4x8x8 (Host.sqrt (constant S_ .f32 0x42000000#32)) : (Proc.devRef .tc main_while0b_v111 : DevRef τ sig).ty.Contents (Elt F)) = Cert.ReferenceIdeal.Step.b128 j s := by
  unfold Cert.ReferenceIdeal.Step.b128
  rw [← al_127 h]
  try rfl
set_option maxRecDepth 8192 in
/-- What the trip's operations make here is `b129` of the state and the trip's number. -/
theorem al_129 (h : Holds V0 s j) : (res_main_while0b_v112 V0 : (Proc.devRef .tc main_while0b_v112 : DevRef τ sig).ty.Contents (Elt F)) = Cert.ReferenceIdeal.Step.b129 j s := by
  unfold res_main_while0b_v112 Cert.ReferenceIdeal.Step.b129
  rw [← al_125 h, ← al_128 h]
  try rfl
set_option maxRecDepth 8192 in
/-- What the trip's operations make here is `b130` of the state and the trip's number. -/
theorem al_130 (h : Holds V0 s j) : (constant S_ .f32 0xFF800000#32 : (Proc.devRef .tc main_while0b_cst_35 : DevRef τ sig).ty.Contents (Elt F)) = Cert.ReferenceIdeal.Step.b130 j s := by
  unfold Cert.ReferenceIdeal.Step.b130
  rfl
set_option maxRecDepth 8192 in
/-- What the trip's operations make here is `b131` of the state and the trip's number. -/
theorem al_131 (h : Holds V0 s j) : (Host.reduce FloatOps.maximumf (res_main_while0b_v112 V0) (constant S_ .f32 0xFF800000#32) reducesTo_S32x4x8x8_S32x4x8_d3 h_S_ : (Proc.devRef .tc main_while0b_v113 : DevRef τ sig).ty.Contents (Elt F)) = Cert.ReferenceIdeal.Step.b131 j s := by
  unfold Cert.ReferenceIdeal.Step.b131
  rw [← al_129 h, ← al_130 h]
  try rfl
set_option maxRecDepth 8192 in
/-- What the trip's operations make here is `b132` of the state and the trip's number. -/
theorem al_132 (h : Holds V0 s j) : (constant S_ .f32 0xFF800000#32 : (Proc.devRef .tc main_while0b_cst_36 : DevRef τ sig).ty.Contents (Elt F)) = Cert.ReferenceIdeal.Step.b132 j s := by
  unfold Cert.ReferenceIdeal.Step.b132
  rfl
set_option maxRecDepth 8192 in
/-- What the trip's operations make here is `b133` of the state and the trip's number. -/
theorem al_133 (h : Holds V0 s j) : (broadcastInDim S32x4x8 ![] bcast_S_S32x4x8 (constant S_ .f32 0xFF800000#32) : (Proc.devRef .tc main_while0b_v114 : DevRef τ sig).ty.Contents (Elt F)) = Cert.ReferenceIdeal.Step.b133 j s := by
  unfold Cert.ReferenceIdeal.Step.b133
  rw [← al_132 h]
  try rfl
set_option maxRecDepth 8192 in
/-- What the trip's operations make here is `b134` of the state and the trip's number. -/
theorem al_134 (h : Holds V0 s j) : (maximumf (broadcastInDim S32x4x8 ![] bcast_S_S32x4x8 (constant S_ .f32 0xFF800000#32)) (Host.reduce FloatOps.maximumf (res_main_while0b_v112 V0) (constant S_ .f32 0xFF800000#32) reducesTo_S32x4x8x8_S32x4x8_d3 h_S_) : (Proc.devRef .tc main_while0b_v115 : DevRef τ sig).ty.Contents (Elt F)) = Cert.ReferenceIdeal.Step.b134 j s := by
  unfold Cert.ReferenceIdeal.Step.b134
  rw [← al_133 h, ← al_131 h]
  try rfl
set_option maxRecDepth 8192 in
/-- What the trip's operations make here is `b135` of the state and the trip's number. -/
theorem al_135 (h : Holds V0 s j) : (broadcastInDim S32x4x8x1 ![0, 1, 2] bcast_S32x4x8_S32x4x8x1_0_1_2 (maximumf (broadcastInDim S32x4x8 ![] bcast_S_S32x4x8 (constant S_ .f32 0xFF800000#32)) (Host.reduce FloatOps.maximumf (res_main_while0b_v112 V0) (constant S_ .f32 0xFF800000#32) reducesTo_S32x4x8x8_S32x4x8_d3 h_S_)) : (Proc.devRef .tc main_while0b_v116 : DevRef τ sig).ty.Contents (Elt F)) = Cert.ReferenceIdeal.Step.b135 j s := by
  unfold Cert.ReferenceIdeal.Step.b135
  rw [← al_134 h]
  try rfl
set_option maxRecDepth 8192 in
/-- What the trip's operations make here is `b136` of the state and the trip's number. -/
theorem al_136 (h : Holds V0 s j) : (broadcastInDim S32x4x8x8 ![0, 1, 2, 3] bcast_S32x4x8x1_S32x4x8x8_0_1_2_3 (broadcastInDim S32x4x8x1 ![0, 1, 2] bcast_S32x4x8_S32x4x8x1_0_1_2 (maximumf (broadcastInDim S32x4x8 ![] bcast_S_S32x4x8 (constant S_ .f32 0xFF800000#32)) (Host.reduce FloatOps.maximumf (res_main_while0b_v112 V0) (constant S_ .f32 0xFF800000#32) reducesTo_S32x4x8x8_S32x4x8_d3 h_S_))) : (Proc.devRef .tc main_while0b_v117 : DevRef τ sig).ty.Contents (Elt F)) = Cert.ReferenceIdeal.Step.b136 j s := by
  unfold Cert.ReferenceIdeal.Step.b136
  rw [← al_135 h]
  try rfl
set_option maxRecDepth 8192 in
/-- What the trip's operations make here is `b137` of the state and the trip's number. -/
theorem al_137 (h : Holds V0 s j) : (subf (res_main_while0b_v112 V0) (broadcastInDim S32x4x8x8 ![0, 1, 2, 3] bcast_S32x4x8x1_S32x4x8x8_0_1_2_3 (broadcastInDim S32x4x8x1 ![0, 1, 2] bcast_S32x4x8_S32x4x8x1_0_1_2 (maximumf (broadcastInDim S32x4x8 ![] bcast_S_S32x4x8 (constant S_ .f32 0xFF800000#32)) (Host.reduce FloatOps.maximumf (res_main_while0b_v112 V0) (constant S_ .f32 0xFF800000#32) reducesTo_S32x4x8x8_S32x4x8_d3 h_S_)))) : (Proc.devRef .tc main_while0b_v118 : DevRef τ sig).ty.Contents (Elt F)) = Cert.ReferenceIdeal.Step.b137 j s := by
  unfold Cert.ReferenceIdeal.Step.b137
  rw [← al_129 h, ← al_136 h]
  try rfl
set_option maxRecDepth 8192 in
/-- What the trip's operations make here is `b138` of the state and the trip's number. -/
theorem al_138 (h : Holds V0 s j) : (res_main_while0b_v119 V0 : (Proc.devRef .tc main_while0b_v119 : DevRef τ sig).ty.Contents (Elt F)) = Cert.ReferenceIdeal.Step.b138 j s := by
  unfold res_main_while0b_v119 Cert.ReferenceIdeal.Step.b138
  rw [← al_137 h]
  try rfl
set_option maxRecDepth 8192 in
/-- What the trip's operations make here is `b139` of the state and the trip's number. -/
theorem al_139 (h : Holds V0 s j) : (constant S_ .f32 0x00000000#32 : (Proc.devRef .tc main_while0b_cst_37 : DevRef τ sig).ty.Contents (Elt F)) = Cert.ReferenceIdeal.Step.b139 j s := by
  unfold Cert.ReferenceIdeal.Step.b139
  rfl
set_option maxRecDepth 8192 in
/-- What the trip's operations make here is `b140` of the state and the trip's number. -/
theorem al_140 (h : Holds V0 s j) : (Host.reduceAdd (res_main_while0b_v119 V0) (constant S_ .f32 0x00000000#32) reducesTo_S32x4x8x8_S32x4x8_d3 h_S_ : (Proc.devRef .tc main_while0b_v120 : DevRef τ sig).ty.Contents (Elt F)) = Cert.ReferenceIdeal.Step.b140 j s := by
  unfold Cert.ReferenceIdeal.Step.b140
  rw [← al_138 h, ← al_139 h]
  try rfl
set_option maxRecDepth 8192 in
/-- What the trip's operations make here is `b141` of the state and the trip's number. -/
theorem al_141 (h : Holds V0 s j) : (broadcastInDim S32x4x8x1 ![0, 1, 2] bcast_S32x4x8_S32x4x8x1_0_1_2 (Host.reduceAdd (res_main_while0b_v119 V0) (constant S_ .f32 0x00000000#32) reducesTo_S32x4x8x8_S32x4x8_d3 h_S_) : (Proc.devRef .tc main_while0b_v121 : DevRef τ sig).ty.Contents (Elt F)) = Cert.ReferenceIdeal.Step.b141 j s := by
  unfold Cert.ReferenceIdeal.Step.b141
  rw [← al_140 h]
  try rfl
set_option maxRecDepth 8192 in
/-- What the trip's operations make here is `b142` of the state and the trip's number. -/
theorem al_142 (h : Holds V0 s j) : (broadcastInDim S32x4x8x8 ![0, 1, 2, 3] bcast_S32x4x8x1_S32x4x8x8_0_1_2_3 (broadcastInDim S32x4x8x1 ![0, 1, 2] bcast_S32x4x8_S32x4x8x1_0_1_2 (Host.reduceAdd (res_main_while0b_v119 V0) (constant S_ .f32 0x00000000#32) reducesTo_S32x4x8x8_S32x4x8_d3 h_S_)) : (Proc.devRef .tc main_while0b_v122 : DevRef τ sig).ty.Contents (Elt F)) = Cert.ReferenceIdeal.Step.b142 j s := by
  unfold Cert.ReferenceIdeal.Step.b142
  rw [← al_141 h]
  try rfl
set_option maxRecDepth 8192 in
/-- What the trip's operations make here is `b143` of the state and the trip's number. -/
theorem al_143 (h : Holds V0 s j) : (Host.divf (res_main_while0b_v119 V0) (broadcastInDim S32x4x8x8 ![0, 1, 2, 3] bcast_S32x4x8x1_S32x4x8x8_0_1_2_3 (broadcastInDim S32x4x8x1 ![0, 1, 2] bcast_S32x4x8_S32x4x8x1_0_1_2 (Host.reduceAdd (res_main_while0b_v119 V0) (constant S_ .f32 0x00000000#32) reducesTo_S32x4x8x8_S32x4x8_d3 h_S_))) : (Proc.devRef .tc main_while0b_v123 : DevRef τ sig).ty.Contents (Elt F)) = Cert.ReferenceIdeal.Step.b143 j s := by
  unfold Cert.ReferenceIdeal.Step.b143
  rw [← al_138 h, ← al_142 h]
  try rfl
set_option maxRecDepth 8192 in
/-- What the trip's operations make here is `b144` of the state and the trip's number. -/
theorem al_144 (h : Holds V0 s j) : (Host.dotGeneral dot_S32x8x4x32_S32x4x8x8_S32x4x32x8_1_3_3_2_02_01 none (shapeCast S32x8x4x32 (Host.dotGeneral dot_S32x8x256_S256x128_S32x8x128_2_0_01_1_n_n none (res_main_while0b_v102 V0) (V0 (Proc.devRef .tc main_v7_11))) shapeCasts_S32x8x128_S32x8x4x32) (Host.divf (res_main_while0b_v119 V0) (broadcastInDim S32x4x8x8 ![0, 1, 2, 3] bcast_S32x4x8x1_S32x4x8x8_0_1_2_3 (broadcastInDim S32x4x8x1 ![0, 1, 2] bcast_S32x4x8_S32x4x8x1_0_1_2 (Host.reduceAdd (res_main_while0b_v119 V0) (constant S_ .f32 0x00000000#32) reducesTo_S32x4x8x8_S32x4x8_d3 h_S_)))) : (Proc.devRef .tc main_while0b_v124 : DevRef τ sig).ty.Contents (Elt F)) = Cert.ReferenceIdeal.Step.b144 j s := by
  unfold Cert.ReferenceIdeal.Step.b144
  rw [← al_124 h, ← al_143 h]
  try rfl
set_option maxRecDepth 8192 in
/-- What the trip's operations make here is `b145` of the state and the trip's number. -/
theorem al_145 (h : Holds V0 s j) : (transpose S32x8x4x32 [0, 3, 1, 2] (Host.dotGeneral dot_S32x8x4x32_S32x4x8x8_S32x4x32x8_1_3_3_2_02_01 none (shapeCast S32x8x4x32 (Host.dotGeneral dot_S32x8x256_S256x128_S32x8x128_2_0_01_1_n_n none (res_main_while0b_v102 V0) (V0 (Proc.devRef .tc main_v7_11))) shapeCasts_S32x8x128_S32x8x4x32) (Host.divf (res_main_while0b_v119 V0) (broadcastInDim S32x4x8x8 ![0, 1, 2, 3] bcast_S32x4x8x1_S32x4x8x8_0_1_2_3 (broadcastInDim S32x4x8x1 ![0, 1, 2] bcast_S32x4x8_S32x4x8x1_0_1_2 (Host.reduceAdd (res_main_while0b_v119 V0) (constant S_ .f32 0x00000000#32) reducesTo_S32x4x8x8_S32x4x8_d3 h_S_))))) transposes_S32x4x32x8_S32x8x4x32_0_3_1_2 : (Proc.devRef .tc main_while0b_v125 : DevRef τ sig).ty.Contents (Elt F)) = Cert.ReferenceIdeal.Step.b145 j s := by
  unfold Cert.ReferenceIdeal.Step.b145
  rw [← al_144 h]
  try rfl
set_option maxRecDepth 8192 in
/-- What the trip's operations make here is `b146` of the state and the trip's number. -/
theorem al_146 (h : Holds V0 s j) : (shapeCast S32x8x128 (transpose S32x8x4x32 [0, 3, 1, 2] (Host.dotGeneral dot_S32x8x4x32_S32x4x8x8_S32x4x32x8_1_3_3_2_02_01 none (shapeCast S32x8x4x32 (Host.dotGeneral dot_S32x8x256_S256x128_S32x8x128_2_0_01_1_n_n none (res_main_while0b_v102 V0) (V0 (Proc.devRef .tc main_v7_11))) shapeCasts_S32x8x128_S32x8x4x32) (Host.divf (res_main_while0b_v119 V0) (broadcastInDim S32x4x8x8 ![0, 1, 2, 3] bcast_S32x4x8x1_S32x4x8x8_0_1_2_3 (broadcastInDim S32x4x8x1 ![0, 1, 2] bcast_S32x4x8_S32x4x8x1_0_1_2 (Host.reduceAdd (res_main_while0b_v119 V0) (constant S_ .f32 0x00000000#32) reducesTo_S32x4x8x8_S32x4x8_d3 h_S_))))) transposes_S32x4x32x8_S32x8x4x32_0_3_1_2) shapeCasts_S32x8x4x32_S32x8x128 : (Proc.devRef .tc main_while0b_v126 : DevRef τ sig).ty.Contents (Elt F)) = Cert.ReferenceIdeal.Step.b146 j s := by
  unfold Cert.ReferenceIdeal.Step.b146
  rw [← al_145 h]
  try rfl
set_option maxRecDepth 8192 in
/-- What the trip's operations make here is `b147` of the state and the trip's number. -/
theorem al_147 (h : Holds V0 s j) : (broadcastInDim S32x8x1 ![0, 1] bcast_S32x8_S32x8x1_0_1 (res_main_while0b_v55 V0) : (Proc.devRef .tc main_while0b_v127 : DevRef τ sig).ty.Contents (Elt F)) = Cert.ReferenceIdeal.Step.b147 j s := by
  unfold Cert.ReferenceIdeal.Step.b147
  rw [← al_65 h]
  try rfl
set_option maxRecDepth 8192 in
/-- What the trip's operations make here is `b148` of the state and the trip's number. -/
theorem al_148 (h : Holds V0 s j) : (Host.dotGeneral dot_S32x8x128_S128x256_S32x8x256_2_0_01_1_n_n none (shapeCast S32x8x128 (transpose S32x8x4x32 [0, 3, 1, 2] (Host.dotGeneral dot_S32x8x4x32_S32x4x8x8_S32x4x32x8_1_3_3_2_02_01 none (shapeCast S32x8x4x32 (Host.dotGeneral dot_S32x8x256_S256x128_S32x8x128_2_0_01_1_n_n none (res_main_while0b_v102 V0) (V0 (Proc.devRef .tc main_v7_11))) shapeCasts_S32x8x128_S32x8x4x32) (Host.divf (res_main_while0b_v119 V0) (broadcastInDim S32x4x8x8 ![0, 1, 2, 3] bcast_S32x4x8x1_S32x4x8x8_0_1_2_3 (broadcastInDim S32x4x8x1 ![0, 1, 2] bcast_S32x4x8_S32x4x8x1_0_1_2 (Host.reduceAdd (res_main_while0b_v119 V0) (constant S_ .f32 0x00000000#32) reducesTo_S32x4x8x8_S32x4x8_d3 h_S_))))) transposes_S32x4x32x8_S32x8x4x32_0_3_1_2) shapeCasts_S32x8x4x32_S32x8x128) (V0 (Proc.devRef .tc main_v7_12)) : (Proc.devRef .tc main_while0b_v128 : DevRef τ sig).ty.Contents (Elt F)) = Cert.ReferenceIdeal.Step.b148 j s := by
  unfold Cert.ReferenceIdeal.Step.b148
  rw [← al_146 h, h.f_12]
  try rfl
set_option maxRecDepth 8192 in
/-- What the trip's operations make here is `b149` of the state and the trip's number. -/
theorem al_149 (h : Holds V0 s j) : (broadcastInDim S32x8x256 ![0, 1, 2] bcast_S32x8x1_S32x8x256_0_1_2 (broadcastInDim S32x8x1 ![0, 1] bcast_S32x8_S32x8x1_0_1 (res_main_while0b_v55 V0)) : (Proc.devRef .tc main_while0b_v129 : DevRef τ sig).ty.Contents (Elt F)) = Cert.ReferenceIdeal.Step.b149 j s := by
  unfold Cert.ReferenceIdeal.Step.b149
  rw [← al_147 h]
  try rfl
set_option maxRecDepth 8192 in
/-- What the trip's operations make here is `b150` of the state and the trip's number. -/
theorem al_150 (h : Holds V0 s j) : (mulf (broadcastInDim S32x8x256 ![0, 1, 2] bcast_S32x8x1_S32x8x256_0_1_2 (broadcastInDim S32x8x1 ![0, 1] bcast_S32x8_S32x8x1_0_1 (res_main_while0b_v55 V0))) (Host.dotGeneral dot_S32x8x128_S128x256_S32x8x256_2_0_01_1_n_n none (shapeCast S32x8x128 (transpose S32x8x4x32 [0, 3, 1, 2] (Host.dotGeneral dot_S32x8x4x32_S32x4x8x8_S32x4x32x8_1_3_3_2_02_01 none (shapeCast S32x8x4x32 (Host.dotGeneral dot_S32x8x256_S256x128_S32x8x128_2_0_01_1_n_n none (res_main_while0b_v102 V0) (V0 (Proc.devRef .tc main_v7_11))) shapeCasts_S32x8x128_S32x8x4x32) (Host.divf (res_main_while0b_v119 V0) (broadcastInDim S32x4x8x8 ![0, 1, 2, 3] bcast_S32x4x8x1_S32x4x8x8_0_1_2_3 (broadcastInDim S32x4x8x1 ![0, 1, 2] bcast_S32x4x8_S32x4x8x1_0_1_2 (Host.reduceAdd (res_main_while0b_v119 V0) (constant S_ .f32 0x00000000#32) reducesTo_S32x4x8x8_S32x4x8_d3 h_S_))))) transposes_S32x4x32x8_S32x8x4x32_0_3_1_2) shapeCasts_S32x8x4x32_S32x8x128) (V0 (Proc.devRef .tc main_v7_12))) : (Proc.devRef .tc main_while0b_v130 : DevRef τ sig).ty.Contents (Elt F)) = Cert.ReferenceIdeal.Step.b150 j s := by
  unfold Cert.ReferenceIdeal.Step.b150
  rw [← al_149 h, ← al_148 h]
  try rfl
set_option maxRecDepth 8192 in
/-- What the trip's operations make here is `b151` of the state and the trip's number. -/
theorem al_151 (h : Holds V0 s j) : (addf (res_main_while0b_v102 V0) (mulf (broadcastInDim S32x8x256 ![0, 1, 2] bcast_S32x8x1_S32x8x256_0_1_2 (broadcastInDim S32x8x1 ![0, 1] bcast_S32x8_S32x8x1_0_1 (res_main_while0b_v55 V0))) (Host.dotGeneral dot_S32x8x128_S128x256_S32x8x256_2_0_01_1_n_n none (shapeCast S32x8x128 (transpose S32x8x4x32 [0, 3, 1, 2] (Host.dotGeneral dot_S32x8x4x32_S32x4x8x8_S32x4x32x8_1_3_3_2_02_01 none (shapeCast S32x8x4x32 (Host.dotGeneral dot_S32x8x256_S256x128_S32x8x128_2_0_01_1_n_n none (res_main_while0b_v102 V0) (V0 (Proc.devRef .tc main_v7_11))) shapeCasts_S32x8x128_S32x8x4x32) (Host.divf (res_main_while0b_v119 V0) (broadcastInDim S32x4x8x8 ![0, 1, 2, 3] bcast_S32x4x8x1_S32x4x8x8_0_1_2_3 (broadcastInDim S32x4x8x1 ![0, 1, 2] bcast_S32x4x8_S32x4x8x1_0_1_2 (Host.reduceAdd (res_main_while0b_v119 V0) (constant S_ .f32 0x00000000#32) reducesTo_S32x4x8x8_S32x4x8_d3 h_S_))))) transposes_S32x4x32x8_S32x8x4x32_0_3_1_2) shapeCasts_S32x8x4x32_S32x8x128) (V0 (Proc.devRef .tc main_v7_12)))) : (Proc.devRef .tc main_while0b_v131 : DevRef τ sig).ty.Contents (Elt F)) = Cert.ReferenceIdeal.Step.b151 j s := by
  unfold Cert.ReferenceIdeal.Step.b151
  rw [← al_118 h, ← al_150 h]
  try rfl
set_option maxRecDepth 8192 in
/-- What the trip's operations make here is `b152` of the state and the trip's number. -/
theorem al_152 (h : Holds V0 s j) : (shapeCast S32x2048 (addf (res_main_while0b_v102 V0) (mulf (broadcastInDim S32x8x256 ![0, 1, 2] bcast_S32x8x1_S32x8x256_0_1_2 (broadcastInDim S32x8x1 ![0, 1] bcast_S32x8_S32x8x1_0_1 (res_main_while0b_v55 V0))) (Host.dotGeneral dot_S32x8x128_S128x256_S32x8x256_2_0_01_1_n_n none (shapeCast S32x8x128 (transpose S32x8x4x32 [0, 3, 1, 2] (Host.dotGeneral dot_S32x8x4x32_S32x4x8x8_S32x4x32x8_1_3_3_2_02_01 none (shapeCast S32x8x4x32 (Host.dotGeneral dot_S32x8x256_S256x128_S32x8x128_2_0_01_1_n_n none (res_main_while0b_v102 V0) (V0 (Proc.devRef .tc main_v7_11))) shapeCasts_S32x8x128_S32x8x4x32) (Host.divf (res_main_while0b_v119 V0) (broadcastInDim S32x4x8x8 ![0, 1, 2, 3] bcast_S32x4x8x1_S32x4x8x8_0_1_2_3 (broadcastInDim S32x4x8x1 ![0, 1, 2] bcast_S32x4x8_S32x4x8x1_0_1_2 (Host.reduceAdd (res_main_while0b_v119 V0) (constant S_ .f32 0x00000000#32) reducesTo_S32x4x8x8_S32x4x8_d3 h_S_))))) transposes_S32x4x32x8_S32x8x4x32_0_3_1_2) shapeCasts_S32x8x4x32_S32x8x128) (V0 (Proc.devRef .tc main_v7_12))))) shapeCasts_S32x8x256_S32x2048 : (Proc.devRef .tc main_while0b_v132 : DevRef τ sig).ty.Contents (Elt F)) = Cert.ReferenceIdeal.Step.b152 j s := by
  unfold Cert.ReferenceIdeal.Step.b152
  rw [← al_151 h]
  try rfl
set_option maxRecDepth 8192 in
/-- What the trip's operations make here is `b153` of the state and the trip's number. -/
theorem al_153 (h : Holds V0 s j) : (res_main_while0b_v133 V0 : (Proc.devRef .tc main_while0b_v133 : DevRef τ sig).ty.Contents (Elt F)) = Cert.ReferenceIdeal.Step.b153 j s := by
  unfold res_main_while0b_v133 Cert.ReferenceIdeal.Step.b153
  rw [← al_152 h, ← al_7 h]
  try rfl
set_option maxRecDepth 8192 in
/-- What the trip's operations make here is `b154` of the state and the trip's number. -/
theorem al_154 (h : Holds V0 s j) : (broadcastInDim S1x32x2048 ![1, 2] bcast_S32x2048_S1x32x2048_1_2 (res_main_while0b_v133 V0) : (Proc.devRef .tc main_while0b_call2_v0 : DevRef τ sig).ty.Contents (Elt F)) = Cert.ReferenceIdeal.Step.b154 j s := by
  unfold Cert.ReferenceIdeal.Step.b154
  rw [← al_153 h]
  try rfl
set_option maxRecDepth 8192 in
/-- What the trip's operations make here is `b155` of the state and the trip's number. -/
theorem al_155 (h : Holds V0 s j) : (constantI S_ 32 0#32 : (Proc.devRef .tc main_while0b_call2_c : DevRef τ sig).ty.Contents (Elt F)) = Cert.ReferenceIdeal.Step.b155 j s := by
  unfold Cert.ReferenceIdeal.Step.b155
  rfl
set_option maxRecDepth 8192 in
/-- What the trip's operations make here is `b156` of the state and the trip's number. -/
theorem al_156 (h : Holds V0 s j) : (constantI S_ 32 0#32 : (Proc.devRef .tc main_while0b_call2_c_0 : DevRef τ sig).ty.Contents (Elt F)) = Cert.ReferenceIdeal.Step.b156 j s := by
  unfold Cert.ReferenceIdeal.Step.b156
  rfl
set_option maxRecDepth 8192 in
/-- What the trip's operations make here is `b157` of the state and the trip's number. -/
theorem al_157 (h : Holds V0 s j) : (Host.dynamicUpdateSlice (V0 (Proc.devRef .tc main_v7_15)) (broadcastInDim S1x32x2048 ![1, 2] bcast_S32x2048_S1x32x2048_1_2 (res_main_while0b_v133 V0)) (fun k => (((![V0 (Proc.devRef .tc main_v7_13), constantI S_ 32 0#32, constantI S_ 32 0#32] : Fin 3 → (⟨S_, .i32⟩ : BufTy).Contents (Elt F))) k (Shape.Idx.first h_S_)).toInt) updateFits_S32x32x2048_S1x32x2048 : (Proc.devRef .tc main_while0b_v134 : DevRef τ sig).ty.Contents (Elt F)) = Cert.ReferenceIdeal.Step.b157 j s := by
  unfold Cert.ReferenceIdeal.Step.b157
  rw [← al_154 h, ← al_155 h, ← al_156 h, h.f_15, h.n_13]
  try rfl
set_option maxRecDepth 8192 in
/-- What the trip's operations make here is `b158` of the state and the trip's number. -/
theorem al_158 (h : Holds V0 s j) : (broadcastInDim S1x32x8 ![1, 2] bcast_S32x8_S1x32x8_1_2 (res_main_while0b_v55 V0) : (Proc.devRef .tc main_while0b_call3_v0 : DevRef τ sig).ty.Contents (Elt F)) = Cert.ReferenceIdeal.Step.b158 j s := by
  unfold Cert.ReferenceIdeal.Step.b158
  rw [← al_65 h]
  try rfl
set_option maxRecDepth 8192 in
/-- What the trip's operations make here is `b159` of the state and the trip's number. -/
theorem al_159 (h : Holds V0 s j) : (constantI S_ 32 0#32 : (Proc.devRef .tc main_while0b_call3_c : DevRef τ sig).ty.Contents (Elt F)) = Cert.ReferenceIdeal.Step.b159 j s := by
  unfold Cert.ReferenceIdeal.Step.b159
  rfl
set_option maxRecDepth 8192 in
/-- What the trip's operations make here is `b160` of the state and the trip's number. -/
theorem al_160 (h : Holds V0 s j) : (constantI S_ 32 0#32 : (Proc.devRef .tc main_while0b_call3_c_0 : DevRef τ sig).ty.Contents (Elt F)) = Cert.ReferenceIdeal.Step.b160 j s := by
  unfold Cert.ReferenceIdeal.Step.b160
  rfl
set_option maxRecDepth 8192 in
/-- What the trip's operations make here is `b161` of the state and the trip's number. -/
theorem al_161 (h : Holds V0 s j) : (Host.dynamicUpdateSlice (V0 (Proc.devRef .tc main_v7_16)) (broadcastInDim S1x32x8 ![1, 2] bcast_S32x8_S1x32x8_1_2 (res_main_while0b_v55 V0)) (fun k => (((![V0 (Proc.devRef .tc main_v7_13), constantI S_ 32 0#32, constantI S_ 32 0#32] : Fin 3 → (⟨S_, .i32⟩ : BufTy).Contents (Elt F))) k (Shape.Idx.first h_S_)).toInt) updateFits_S32x32x8_S1x32x8 : (Proc.devRef .tc main_while0b_v135 : DevRef τ sig).ty.Contents (Elt F)) = Cert.ReferenceIdeal.Step.b161 j s := by
  unfold Cert.ReferenceIdeal.Step.b161
  rw [← al_158 h, ← al_159 h, ← al_160 h, h.f_16, h.n_13]
  try rfl

/-! One trip's step of the carried values is `step`, field by field; a counter steps to the next number. -/

/-- One trip steps this carried value as `step` does. -/
theorem step_14 (h : Holds V0 s j) : step_main_v7_14 V0 = (step j s).main_v7_14 := by
  unfold step_main_v7_14 Cert.ReferenceIdeal.Step.step
  show id (res_main_while0b_v133 V0) = _
  rw [al_153 h]
  try rfl

/-- One trip steps this carried value as `step` does. -/
theorem step_15 (h : Holds V0 s j) : step_main_v7_15 V0 = (step j s).main_v7_15 := by
  unfold step_main_v7_15 Cert.ReferenceIdeal.Step.step
  exact al_157 h

/-- One trip steps this carried value as `step` does. -/
theorem step_16 (h : Holds V0 s j) : step_main_v7_16 V0 = (step j s).main_v7_16 := by
  unfold step_main_v7_16 Cert.ReferenceIdeal.Step.step
  exact al_161 h

/-- One trip steps this carried value as `step` does. -/
theorem step_13 (h : Holds V0 s j) : step_main_v7_13 V0 = constantI S_ 32 (BitVec.ofNat 32 (j + 1)) := by
  unfold step_main_v7_13
  rw [h.n_13]
  funext i
  show BitVec.ofNat 32 j + 1#32 = BitVec.ofNat 32 (j + 1)
  simp only [BitVec.ofNat_add]

set_option maxRecDepth 8192 in
/-- The operations after the loop make this result of the last state. -/
theorem out_main_v8_holds (h : Holds V0 s j) : out_main_v8 V0 = Cert.ReferenceIdeal.Step.R_main_v8 s := by
  unfold out_main_v8 Cert.ReferenceIdeal.Step.R_main_v8
  rw [h.f_14]
  try rfl

/-- One trip keeps the valuation holding: `step` of the state, the same set-up values, the next number. -/
theorem holds_step (h : Holds V0 s j) : Holds (STEP V0) (step j s) (j + 1) where
  f_14 := (STEP_main_v7_14 V0).trans (step_14 h)
  f_15 := (STEP_main_v7_15 V0).trans (step_15 h)
  f_16 := (STEP_main_v7_16 V0).trans (step_16 h)
  n_13 := (STEP_main_v7_13 V0).trans (step_13 h)
  f_0 := (STEP_main_v7_0 V0).trans h.f_0
  f_1 := (STEP_main_v7_1 V0).trans h.f_1
  f_2 := (STEP_main_v7_2 V0).trans h.f_2
  f_3 := (STEP_main_v7_3 V0).trans h.f_3
  f_4 := (STEP_main_v7_4 V0).trans h.f_4
  f_5 := (STEP_main_v7_5 V0).trans h.f_5
  f_6 := (STEP_main_v7_6 V0).trans h.f_6
  f_7 := (STEP_main_v7_7 V0).trans h.f_7
  f_8 := (STEP_main_v7_8 V0).trans h.f_8
  f_9 := (STEP_main_v7_9 V0).trans h.f_9
  f_10 := (STEP_main_v7_10 V0).trans h.f_10
  f_11 := (STEP_main_v7_11 V0).trans h.f_11
  f_12 := (STEP_main_v7_12 V0).trans h.f_12

/-- The state the first trip starts from, of the memory the run starts from. -/
abbrev initState (m : (ℓ : Loc nD τ sig) → Buf (Elt F) ℓ) (c : Dev nD) : State F :=
  init (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg10)) (m ((c.tc : Thread nD τ).loc main_arg9)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg0)) (m ((c.tc : Thread nD τ).loc main_arg1)) (m ((c.tc : Thread nD τ).loc main_arg3)) (m ((c.tc : Thread nD τ).loc main_arg4))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v7_15) = (it c 32).main_v7_15
      ∧ r.2.mem ((c.tc : Thread nD τ).loc main_v8) = Cert.ReferenceIdeal.Step.R_main_v8 (it c 32)
      ∧ r.2.mem ((c.tc : Thread nD τ).loc main_v7_16) = (it c 32).main_v7_16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c =>
    have hk := holds_iter m c (it c) (h0 c) (hs c) 32
    ⟨(h c).1.trans hk.f_15, (h c).2.1.trans (out_main_v8_holds hk), (h c).2.2.1.trans hk.f_16, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2.1, (h c).2.2.2.2.2.2.2.2.2.2.2.2.2.2.2.2.2.2⟩) (Value.run m ρ)

end Cert.ReferenceIdeal.ScanRun

end
-- ==== Proof.Frames.lean ====
module

public import proofs.«01_k».proof.Proof.SameProgram
public import proofs.«01_k».proof.Proof.Rim.Whole
public import proofs.«01_k».proof.Proof.ScanRun
public import Idealize.ShloMosaic.Lib.Quiescent

@[expose] public section

set_option maxRecDepth 65536

noncomputable section

/-! # The frames: every program terminates with its arguments unchanged and every counter at zero -/

namespace Cert.Frames

open Idealize.ShloMosaic Idealize.ShloMosaic.TcCoe Idealize.SL.Sem

variable {F : FTy → Type} [FloatOps F]

section
open Cert.KernelIdeal Cert.KernelIdeal.Gen

/-- A TensorCore buffer that is not scoped is among those the run reads. -/
theorem mem_uc (r : Ref sig .tc) (h : (Proc.devRef .tc r : DevRef τ sig).isScoped = false) :
    (Proc.devRef .tc r : DevRef τ sig) ∈ Pipeline.ucRefs τ sig :=
  Finset.mem_filter.mpr ⟨StableHlo.devRef_mem_tcRefs r, by rw [h]; decide⟩

set_option maxHeartbeats 1600000 in
/-- The idealized kernel program's run: its three results at the followed contents, its arguments unchanged, every
    counter at zero. -/
theorem kernel_run (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      (r.2.mem ((c.tc : Thread nD τ).loc main_v14) = Whole.U5 m c (Proc.devRef .tc main_v14)
      ∧ r.2.mem ((c.tc : Thread nD τ).loc main_v17) = Whole.U5 m c (Proc.devRef .tc main_v17)
      ∧ r.2.mem ((c.tc : Thread nD τ).loc main_v18) = Whole.U5 m c (Proc.devRef .tc main_v18))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0) :=
  (θ_run defs _ _).mono (fun r h => ⟨fun c => ⟨⟨h.1 c _ (mem_uc main_v14 rfl), h.1 c _ (mem_uc main_v17 rfl), h.1 c _ (mem_uc main_v18 rfl)⟩,
      (h.1 c _ (mem_uc main_arg0 rfl)).trans (Whole.U5_keeps m c main_arg0 (by decide) (by decide) (by decide) (by decide) (by decide)),
      (h.1 c _ (mem_uc main_arg1 rfl)).trans (Whole.U5_keeps m c main_arg1 (by decide) (by decide) (by decide) (by decide) (by decide)),
      (h.1 c _ (mem_uc main_arg2 rfl)).trans (Whole.U5_keeps m c main_arg2 (by decide) (by decide) (by decide) (by decide) (by decide)),
      (h.1 c _ (mem_uc main_arg3 rfl)).trans (Whole.U5_keeps m c main_arg3 (by decide) (by decide) (by decide) (by decide) (by decide)),
      (h.1 c _ (mem_uc main_arg4 rfl)).trans (Whole.U5_keeps m c main_arg4 (by decide) (by decide) (by decide) (by decide) (by decide)),
      (h.1 c _ (mem_uc main_arg5 rfl)).trans (Whole.U5_keeps m c main_arg5 (by decide) (by decide) (by decide) (by decide) (by decide)),
      (h.1 c _ (mem_uc main_arg6 rfl)).trans (Whole.U5_keeps m c main_arg6 (by decide) (by decide) (by decide) (by decide) (by decide)),
      (h.1 c _ (mem_uc main_arg7 rfl)).trans (Whole.U5_keeps m c main_arg7 (by decide) (by decide) (by decide) (by decide) (by decide)),
      (h.1 c _ (mem_uc main_arg8 rfl)).trans (Whole.U5_keeps m c main_arg8 (by decide) (by decide) (by decide) (by decide) (by decide)),
      (h.1 c _ (mem_uc main_arg9 rfl)).trans (Whole.U5_keeps m c main_arg9 (by decide) (by decide) (by decide) (by decide) (by decide)),
      (h.1 c _ (mem_uc main_arg10 rfl)).trans (Whole.U5_keeps m c main_arg10 (by decide) (by decide) (by decide) (by decide) (by decide)),
      (h.1 c _ (mem_uc main_arg11 rfl)).trans (Whole.U5_keeps m c main_arg11 (by decide) (by decide) (by decide) (by decide) (by decide)),
      (h.1 c _ (mem_uc main_arg12 rfl)).trans (Whole.U5_keeps m c main_arg12 (by decide) (by decide) (by decide) (by decide) (by decide)),
      (h.1 c _ (mem_uc main_arg13 rfl)).trans (Whole.U5_keeps m c main_arg13 (by decide) (by decide) (by decide) (by decide) (by decide)),
      (h.1 c _ (mem_uc main_arg14 rfl)).trans (Whole.U5_keeps m c main_arg14 (by decide) (by decide) (by decide) (by decide) (by decide)),
      (h.1 c _ (mem_uc main_arg15 rfl)).trans (Whole.U5_keeps m c main_arg15 (by decide) (by decide) (by decide) (by decide) (by decide))⟩, h.2⟩) (Whole.run m ρ)

end

/-- The frame of the idealized kernel program, at any float values. -/
theorem kernel_ideal (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0) :=
  (θ_run _ _ _).mono (fun r h => ⟨fun c => (h.1 c).2, h.2⟩) (kernel_run m ρ)

/-- The frame of the kernel program, at any float values: the same program text. -/
theorem kernel (m : (ℓ : Loc Cert.Kernel.nD Cert.Kernel.τ Cert.Kernel.sig) → Buf (Elt F) ℓ) (ρ : Dev Cert.Kernel.nD → PrngReg) :
    θ_run (@Cert.Kernel.defs F _ Cert.Kernel.Gen.facts) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0) := by
  rw [SameProgram.defs_eq, SameProgram.main_eq]
  exact kernel_ideal m ρ

/-- The frame of the reference program: its run by states, and it has no counter. -/
theorem reference (m : (ℓ : Loc Cert.ReferenceIdeal.nD Cert.ReferenceIdeal.τ Cert.ReferenceIdeal.sig) → Buf (Elt F) ℓ) (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0) :=
  (θ_run _ _ _).mono (fun r h => ⟨fun c => (h c).2.2.2, sem_eq_zero_of_no_sems (by decide) r.2⟩)
    (Cert.ReferenceIdeal.ScanRun.run_iter m ρ
      (fun c n => Nat.rec (Cert.ReferenceIdeal.ScanRun.initState m c) (fun k s => Cert.ReferenceIdeal.Step.step k s) n) (fun _ => rfl) (fun _ _ => rfl))

end Cert.Frames

end
-- ==== Proof.Scan.lean ====
module

public import Idealize.ShloMosaic.Lib.Pointwise

@[expose] public section
noncomputable section

/-! # One step of the scan in the extended reals

The step of the recurrence, stage by stage, on plain functions of the block `n`, the batch row `b` and the feature. The
kernel and the reference are each shown to compute it, in their own layouts. -/

namespace Cert.Scan
open Idealize.ShloMosaic

/-- The weights of one step. -/
structure Wt where
  wq : Fin 256 → Fin 64 → EReal
  wx : Fin 8 → Fin 64 → Fin 768 → EReal
  bx : Fin 8 → Fin 768 → EReal
  wh : Fin 8 → Fin 256 → Fin 768 → EReal
  bh : Fin 8 → Fin 768 → EReal
  wqc : Fin 256 → Fin 128 → EReal
  wkc : Fin 256 → Fin 128 → EReal
  wvc : Fin 256 → Fin 128 → EReal
  wo : Fin 128 → Fin 256 → EReal

/-- A hidden state: a value per block, batch row and feature. -/
abbrev Hid := Fin 8 → Fin 32 → Fin 256 → EReal

/-- The input attention's logit of the real input; the null input's is zero. -/
def logit (W : Wt) (kx : Fin 32 → Fin 64 → EReal) (h : Hid) (n : Fin 8) (b : Fin 32) : EReal :=
  Ideal.div (∑ k, (∑ d, h n b d * W.wq d k) * kx b k) (Ideal.ofBits .f32 0x41000000#32)

/-- The weight a softmax over the logits `l` and zero gives to `l`. -/
def soft (l : EReal) : EReal :=
  Ideal.div (Ideal.exp (l - max l 0)) (Ideal.exp (l - max l 0) + Ideal.exp (0 - max l 0))

/-- Block `m` comes before block `n` in the ranking of the scores `s`: it scores more, or as much at a smaller index. -/
def Before (s : Fin 8 → EReal) (m n : Fin 8) : Prop := s n < s m ∨ s n = s m ∧ m < n

open Classical in
/-- One for the four blocks that rank first, zero for the others. -/
def top4 (s : Fin 8 → EReal) (n : Fin 8) : EReal :=
  if (Finset.univ.filter fun m => Before s m n).card < 4 then 1 else 0

/-- A gate's pre-activations: block `n`'s own matrix applied to its features, plus its bias. -/
def gate {K : ℕ} (x : Fin 8 → Fin 32 → Fin K → EReal) (w : Fin 8 → Fin K → Fin 768 → EReal) (c : Fin 8 → Fin 768 → EReal)
    (n : Fin 8) (b : Fin 32) (j : Fin 768) : EReal :=
  (∑ k, x n b k * w n k j) + c n j

/-- The logistic function. -/
def sg (x : EReal) : EReal := Ideal.div 1 (1 + Ideal.exp (-x))

/-- Column `o + d` of a gate's pre-activations. -/
def at' (o : ℕ) (ho : o ≤ 512) (d : Fin 256) : Fin 768 := ⟨o + d.val, by omega⟩

/-- The gated recurrent unit's new state from the two gates' pre-activations. -/
def gru (gx gh : Fin 8 → Fin 32 → Fin 768 → EReal) (h : Hid) (n : Fin 8) (b : Fin 32) (d : Fin 256) : EReal :=
  (1 - sg (gx n b (at' 256 (by omega) d) + gh n b (at' 256 (by omega) d)))
      * Ideal.tanh (gx n b (at' 512 (by omega) d) + sg (gx n b (at' 0 (by omega) d) + gh n b (at' 0 (by omega) d)) * gh n b (at' 512 (by omega) d))
    + sg (gx n b (at' 256 (by omega) d) + gh n b (at' 256 (by omega) d)) * h n b d

/-- The blocks of the mask take the new state, the others keep theirs. -/
def upd (mk : Fin 8 → Fin 32 → EReal) (hn h : Hid) (n : Fin 8) (b : Fin 32) (d : Fin 256) : EReal :=
  mk n b * hn n b d + (1 - mk n b) * h n b d

/-- A projection of the state to the communication width. -/
def proj (h : Hid) (w : Fin 256 → Fin 128 → EReal) (n : Fin 8) (b : Fin 32) (e : Fin 128) : EReal := ∑ d, h n b d * w d e

/-- Feature `c` of head `a`. -/
def feat (a : Fin 4) (c : Fin 32) : Fin 128 := ⟨32 * a.val + c.val, by omega⟩

/-- The communication attention's logit of block `m` for block `n` in head `a`. -/
def clog (q k : Fin 8 → Fin 32 → Fin 128 → EReal) (a : Fin 4) (n m : Fin 8) (b : Fin 32) : EReal :=
  Ideal.div (∑ c, q n b (feat a c) * k m b (feat a c)) (Ideal.sqrt (Ideal.ofBits .f32 0x42000000#32))

/-- The exponential of a logit less the largest of its row. -/
def cexp (l : Fin 8 → EReal) (m : Fin 8) : EReal := Ideal.exp (l m - Finset.univ.fold max ⊥ l)

/-- The softmax of a row of eight logits. -/
def csoft (l : Fin 8 → EReal) (m : Fin 8) : EReal := Ideal.div (cexp l m) (∑ m', cexp l m')

/-- The attention's output: head `a`'s weights applied to its values. -/
def comb (q k v : Fin 8 → Fin 32 → Fin 128 → EReal) (n : Fin 8) (b : Fin 32) (a : Fin 4) (c : Fin 32) : EReal :=
  ∑ m, csoft (fun m => clog q k a n m b) m * v m b (feat a c)

/-- The heads side by side. -/
def heads (f : Fin 4 → Fin 32 → EReal) (e : Fin 128) : EReal := f ⟨e.val / 32, by omega⟩ ⟨e.val % 32, by omega⟩

/-- The attention's contribution, added where the mask is on. -/
def out (mk : Fin 8 → Fin 32 → EReal) (hu : Hid) (co : Fin 8 → Fin 32 → Fin 4 → Fin 32 → EReal) (wo : Fin 128 → Fin 256 → EReal)
    (n : Fin 8) (b : Fin 32) (d : Fin 256) : EReal :=
  hu n b d + mk n b * ∑ e, heads (co n b) e * wo e d

/-- The scores of a step. -/
def scores (W : Wt) (kx : Fin 32 → Fin 64 → EReal) (h : Hid) (n : Fin 8) (b : Fin 32) : EReal := soft (logit W kx h n b)

/-- The mask of a step. -/
def mask (W : Wt) (kx : Fin 32 → Fin 64 → EReal) (h : Hid) (n : Fin 8) (b : Fin 32) : EReal :=
  top4 (fun m => scores W kx h m b) n

/-- The input each block uses. -/
def inp (W : Wt) (kx vx : Fin 32 → Fin 64 → EReal) (h : Hid) (n : Fin 8) (b : Fin 32) (k : Fin 64) : EReal :=
  scores W kx h n b * vx b k

/-- The state after the masked update. -/
def hupd (W : Wt) (kx vx : Fin 32 → Fin 64 → EReal) (h : Hid) : Hid :=
  upd (mask W kx h) (gru (gate (inp W kx vx h) W.wx W.bx) (gate h W.wh W.bh) h) h

/-- The state after the step. -/
def next (W : Wt) (kx vx : Fin 32 → Fin 64 → EReal) (h : Hid) : Hid :=
  out (mask W kx h) (hupd W kx vx h)
    (comb (proj (hupd W kx vx h) W.wqc) (proj (hupd W kx vx h) W.wkc) (proj (hupd W kx vx h) W.wvc)) W.wo

/-- The states of the scan, from the projected inputs of each step. -/
def states (W : Wt) (kx vx : ℕ → Fin 32 → Fin 64 → EReal) (h0 : Hid) : ℕ → Hid
  | 0 => h0
  | t + 1 => next W (kx t) (vx t) (states W kx vx h0 t)

/-- The arguments, as functions of their coordinates; the hidden state by block, batch row and feature. -/
structure Args where
  a0 : Fin 32 → Fin 32 → Fin 1024 → EReal
  h : Hid
  a3 : Fin 1024 → Fin 1024 → EReal
  a4 : Fin 1024 → EReal
  a6 : Fin 1024 → Fin 64 → EReal
  a7 : Fin 1024 → Fin 64 → EReal
  W : Wt

/-- The encoded inputs. -/
def emb (A : Args) (t b : Fin 32) (x : Fin 1024) : EReal := (∑ y, A.a0 t b y * A.a3 y x) + A.a4 x

/-- The encoded inputs of step `t` through the weights `w`. -/
def through (A : Args) (w : Fin 1024 → Fin 64 → EReal) (t : ℕ) (b : Fin 32) (k : Fin 64) : EReal :=
  if h : t < 32 then ∑ x, emb A ⟨t, h⟩ b x * w x k else 0

/-- The state before step `t`. -/
def stateAt (A : Args) (t : ℕ) : Hid := states A.W (through A A.a6) (through A A.a7) A.h t

/-- The mask of step `t`. -/
def maskAt (A : Args) (t : ℕ) (n : Fin 8) (b : Fin 32) : EReal := mask A.W (through A A.a6 t) (stateAt A t) n b

end Cert.Scan
end
-- ==== Proof.Rim.PayMath.lean ====
module

public import proofs.«01_k».proof.Proof.Gen.KernelIdeal.Skeleton
public import proofs.«01_k».proof.Proof.Scan

@[expose] public section
noncomputable section
namespace Cert.KernelIdeal.PayMath
open Cert.KernelIdeal Cert.KernelIdeal.Gen Cert.Scan Idealize.ShloMosaic
set_option maxRecDepth 16384
set_option maxHeartbeats 1000000

/-- The row of block `n` and batch row `b` in the kernel's layout. -/
abbrev row (n : Fin 8) (b : Fin 32) : Fin 256 := ⟨n.val * 32 + b.val, by omega⟩

/-- The block of a row is the block. -/
theorem row_div (n : Fin 8) (b : Fin 32) (h : (n.val * 32 + b.val) / 32 < 8) : (⟨(n.val * 32 + b.val) / 32, h⟩ : Fin 8) = n :=
  Fin.ext (by show (n.val * 32 + b.val) / 32 = n.val; omega)

/-- The batch of a row is the batch. -/
theorem row_mod (n : Fin 8) (b : Fin 32) (h : (n.val * 32 + b.val) % 32 < 32) : (⟨(n.val * 32 + b.val) % 32, h⟩ : Fin 32) = b :=
  Fin.ext (by show (n.val * 32 + b.val) % 32 = b.val; omega)

/-- A truth value as a float. -/
theorem bit_apply (p : Prop) [Decidable p] : (FloatOps.sitofp (F := Ideal) FTy.f32 (BitVec.setWidth 32 (BitVec.ofBool (decide p))) : EReal) = if p then 1 else 0 := by
  by_cases h : p <;> simp [h] <;> show (((_ : BitVec 32).toInt : ℝ) : EReal) = _ <;> norm_num

/-- The identity table at an index, under a select. -/
theorem pay3_select (n : Fin 8) (b x : Fin 32) (a c : EReal) :
    Scalar.select (k1_pay3 (ix3 n b x)) a c = if b = x then a else c := by
  have h : k1_pay3 (ix3 n b x) = BitVec.ofBool (decide (b = x)) := by
    pointwise [k1_pay3]
    revert b x; decide +kernel
  rw [h]
  by_cases e : b = x <;> simp [e, Scalar.select]

/-- The scores. -/
theorem pay4_apply (v3 : FVec Ideal S256x256 .f32) (v4 : FVec Ideal S32x64 .f32) (v8 : FVec Ideal S256x64 .f32) (n : Fin 8) (b : Fin 32) :
    k1_pay4 (F := Ideal) v3 v4 v8 (ix2 n b) = soft (Ideal.div (∑ k, (∑ d, v3 (ix2 (row n b) d) * v8 (ix2 d k)) * v4 (ix2 b k)) (Ideal.ofBits .f32 0x41000000#32)) := by
  pointwise [k1_pay4]
  simp only [pay3_select, Finset.sum_ite_eq, Finset.mem_univ, if_true]
  rfl

/-- The word of four is four. -/
theorem four : Ideal.ofBits .f32 0x40800000#32 = ((4 : ℕ) : EReal) := by
  rw [show ((4 : ℕ) : EReal) = ((4 : ℝ) : EReal) by norm_cast]
  simp [Ideal.ofBits, Ideal.ieee, -EReal.coe_mul]; norm_num

/-- The pattern a maximum starts from is minus infinity. -/
theorem neg_inf : Ideal.ofBits .f32 0xFF800000#32 = ⊥ := by
  simp [Ideal.ofBits, Ideal.ieee]

/-- Eight values added as a balanced tree are their sum. -/
theorem tree8 (f : Fin 8 → EReal) : ((f 0 + f 1) + (f 2 + f 3)) + ((f 4 + f 5) + (f 6 + f 7)) = ∑ m, f m := by
  rw [Fin.sum_univ_eight]; ac_rfl

/-- The comparison of two small numbers as words is theirs. -/
theorem slt_apply (x n : Fin 8) : IntOp.cmpi CmpIPredicate.slt (BitVec.ofNat 32 ↑x) (BitVec.ofNat 32 ↑n) = BitVec.ofBool (decide (x < n)) := by
  revert x n; decide +kernel

open Classical in
/-- The mask: one for the four blocks that rank first. -/
theorem pay8_apply (v3 : FVec Ideal S256x256 .f32) (v4 : FVec Ideal S32x64 .f32) (v8 : FVec Ideal S256x64 .f32) (n : Fin 8) (b : Fin 32) :
    k1_pay8 (F := Ideal) (k1_pay5 v3 v4 v8) (k1_pay6 v3 v4 v8) (k1_pay7 v3 v4 v8) (ix2 n b) = top4 (fun m => k1_pay4 (F := Ideal) v3 v4 v8 (ix2 m b)) n := by
  unfold k1_pay5 k1_pay6 k1_pay7
  generalize k1_pay4 (F := Ideal) v3 v4 v8 = s
  pointwise [k1_pay8]
  simp only [slt_apply, bit_apply, four]
  have e : ∀ x : Fin 8, ((if s (ix2 n b) < s (ix2 x b) then (1 : EReal) else 0) + (if s (ix2 x b) = s (ix2 n b) then 1 else 0) * (if x < n then 1 else 0)) = if Before (fun m => s (ix2 m b)) x n then 1 else 0 := by
    intro x
    unfold Before
    by_cases h1 : s (ix2 n b) < s (ix2 x b)
    · have h2 : ¬ s (ix2 x b) = s (ix2 n b) := fun h => by rw [h] at h1; exact lt_irrefl _ h1
      simp [h1, h2]
    · by_cases h2 : s (ix2 x b) = s (ix2 n b)
      · by_cases h3 : x < n <;> simp [h2, h3]
      · have h4 : ¬ s (ix2 n b) = s (ix2 x b) := fun h => h2 h.symm
        simp [h1, h2, h4]
  rw [Finset.sum_congr rfl fun x _ => e x, Finset.sum_boole]
  unfold top4
  have hc : ∀ a : ℕ, ((a : EReal) < ((4 : ℕ) : EReal)) = (a < 4) := fun a => propext Nat.cast_lt
  simp only [hc]

/-- The input each block uses. -/
theorem pay9_apply (v7 : FVec Ideal S32x64 .f32) (v29 : FVec Ideal S8x32 .f32) (n : Fin 8) (b : Fin 32) (k : Fin 64) :
    k1_pay9 (F := Ideal) v7 k1_pay3 v29 (ix2 (row n b) k) = v29 (ix2 n b) * v7 (ix2 b k) := by
  pointwise [k1_pay9]
  simp only [pay3_select, Finset.sum_ite_eq, Finset.mem_univ, if_true, zero_mul, Finset.sum_const_zero, add_zero]

/-- The kernel's communication softmax is the scan's. -/
theorem pay29_apply (v192 : FVec Ideal S8x8x32 .f32) (n m : Fin 8) (b : Fin 32) :
    k1_pay29 (F := Ideal) v192 (ix3 n m b) = csoft (fun m => v192 (ix3 n m b)) m := by
  pointwise [k1_pay29]
  rw [neg_inf]
  rfl

/-- Head 0's output. -/
theorem pay36_apply (v184 : FVec Ideal S8x32x32 .f32) (v192 : FVec Ideal S8x8x32 .f32) (n : Fin 8) (b c : Fin 32) :
  k1_pay36 (F := Ideal) v184 (k1_pay29 v192) (k1_pay30 v184 v192) (k1_pay31 v184 v192) (k1_pay32 v184 v192) (k1_pay33 v184 v192) (k1_pay34 v184 v192) (k1_pay35 v192) (ix2 (row n b) c) = ∑ m, csoft (fun m => v192 (ix3 n m b)) m * v184 (ix3 m b c) := by
  pointwise [k1_pay36, k1_pay30, k1_pay31, k1_pay32, k1_pay33, k1_pay34, k1_pay35]
  simp only [row_div, row_mod, pay29_apply]
  exact tree8 (fun m => csoft (fun m => v192 (ix3 n m b)) m * v184 (ix3 m b c))

/-- The input gate's pre-activations. -/
theorem pay14_apply (v7 : FVec Ideal S32x64 .f32) (v29 : FVec Ideal S8x32 .f32) (w : Fin 8 → Fin 64 → Fin 768 → EReal) (c : Fin 8 → Fin 768 → EReal)
    (v68 v72 v76 v80 v84 v88 v92 v96 : FVec Ideal S1x64x768 .f32) (v100 : FVec Ideal S256x768 .f32)
    (h0 : ∀ k j, v68 (ix3 0 k j) = w 0 k j) (h1 : ∀ k j, v72 (ix3 0 k j) = w 1 k j) (h2 : ∀ k j, v76 (ix3 0 k j) = w 2 k j)
    (h3 : ∀ k j, v80 (ix3 0 k j) = w 3 k j) (h4 : ∀ k j, v84 (ix3 0 k j) = w 4 k j) (h5 : ∀ k j, v88 (ix3 0 k j) = w 5 k j)
    (h6 : ∀ k j, v92 (ix3 0 k j) = w 6 k j) (h7 : ∀ k j, v96 (ix3 0 k j) = w 7 k j) (hc : ∀ n b j, v100 (ix2 (row n b) j) = c n j)
    (n : Fin 8) (b : Fin 32) (j : Fin 768) :
    k1_pay14 (F := Ideal) (k1_pay9 v7 k1_pay3 v29) (k1_pay10 v7 k1_pay3 v29 v68) (k1_pay11 v7 k1_pay3 v29 v72) (k1_pay12 v7 k1_pay3 v29 v76) (k1_pay13 v7 k1_pay3 v29) v80 v84 v88 v92 v96 v100 (ix2 (row n b) j)
      = gate (fun n b k => v29 (ix2 n b) * v7 (ix2 b k)) w c n b j := by
  have e9 := pay9_apply v7 v29
  unfold k1_pay10 k1_pay11 k1_pay12 k1_pay13
  generalize k1_pay9 (F := Ideal) v7 k1_pay3 v29 = X at e9 ⊢
  pointwise [k1_pay14]
  rw [hc n b j]
  unfold gate
  simp only [h0, h1, h2, h3, h4, h5, h6, h7, ← e9]
  fin_vals n with hn <;> simp (disch := omega) only [dif_pos, dif_neg] <;>
    exact congrArg (· + c n j) (Finset.sum_congr rfl fun x _ => congrArg₂ (· * ·) (congrArg X (congrArg (ix2 · x) (Fin.ext (by simp only [row] <;> omega)))) (congrArg (w · x j) (Fin.ext (by rw [hn]; rfl))))

/-- The state through every block's own weights, with the bias. -/
theorem pay18_apply (v3 : FVec Ideal S256x256 .f32) (w : Fin 8 → Fin 256 → Fin 768 → EReal) (c : Fin 8 → Fin 768 → EReal)
    (v104 v108 v112 v116 v120 v124 v128 v132 : FVec Ideal S1x256x768 .f32) (v136 : FVec Ideal S256x768 .f32)
    (h0 : ∀ k j, v104 (ix3 0 k j) = w 0 k j) (h1 : ∀ k j, v108 (ix3 0 k j) = w 1 k j) (h2 : ∀ k j, v112 (ix3 0 k j) = w 2 k j)
    (h3 : ∀ k j, v116 (ix3 0 k j) = w 3 k j) (h4 : ∀ k j, v120 (ix3 0 k j) = w 4 k j) (h5 : ∀ k j, v124 (ix3 0 k j) = w 5 k j)
    (h6 : ∀ k j, v128 (ix3 0 k j) = w 6 k j) (h7 : ∀ k j, v132 (ix3 0 k j) = w 7 k j) (hc : ∀ n b j, v136 (ix2 (row n b) j) = c n j)
    (n : Fin 8) (b : Fin 32) (j : Fin 768) :
    k1_pay18 (F := Ideal) v3 (k1_pay15 v3 v104) (k1_pay16 v3 v108) (k1_pay17 v3) v112 v116 v120 v124 v128 v132 v136 (ix2 (row n b) j)
      = gate (fun n b k => v3 (ix2 (row n b) k)) w c n b j := by
  unfold k1_pay15 k1_pay16 k1_pay17
  pointwise [k1_pay18]
  rw [hc n b j]
  unfold gate
  simp only [h0, h1, h2, h3, h4, h5, h6, h7]
  fin_vals n with hn <;> simp (disch := omega) only [dif_pos, dif_neg] <;>
    exact congrArg (· + c n j) (Finset.sum_congr rfl fun x _ => congrArg₂ (· * ·) (congrArg v3 (congrArg (ix2 · x) (Fin.ext (by simp only [row] <;> omega)))) (congrArg (w · x j) (Fin.ext (by rw [hn]; rfl))))

/-- The logistic function by either spelling. -/
theorem logistic_eq (x : EReal) : Ideal.logistic x = sg x := by
  rfl

/-- The reset gate. -/
theorem pay19_apply (v3 : FVec Ideal S256x256 .f32) (v102 : FVec Ideal S256x768 .f32) (v106 v110 : FVec Ideal S32x768 .f32) (v111 : FVec Ideal S32x256 .f32)
    (v112 v116 v120 v124 v128 v132 : FVec Ideal S1x256x768 .f32) (v136 : FVec Ideal S256x768 .f32) (r d : Fin 256) :
    k1_pay19 (F := Ideal) v3 v102 v106 v110 v111 v112 v116 v120 v124 v128 v132 v136 (ix2 r d) = sg (v102 (ix2 r (at' 0 (by omega) d)) + k1_pay18 (F := Ideal) v3 v106 v110 v111 v112 v116 v120 v124 v128 v132 v136 (ix2 r (at' 0 (by omega) d))) := by
  unfold k1_pay19
  generalize k1_pay18 (F := Ideal) v3 v106 v110 v111 v112 v116 v120 v124 v128 v132 v136 = Y
  pointwise []
  rw [logistic_eq]
  have e : (⟨d.val, by omega⟩ : Fin 768) = at' 0 (by omega) d := Fin.ext (by simp [at'])
  rw [e]

/-- The update gate. -/
theorem pay20_apply (v3 : FVec Ideal S256x256 .f32) (v102 : FVec Ideal S256x768 .f32) (v106 v110 : FVec Ideal S32x768 .f32) (v111 : FVec Ideal S32x256 .f32)
    (v112 v116 v120 v124 v128 v132 : FVec Ideal S1x256x768 .f32) (v136 : FVec Ideal S256x768 .f32) (r d : Fin 256) :
    k1_pay20 (F := Ideal) v3 v102 v106 v110 v111 v112 v116 v120 v124 v128 v132 v136 (ix2 r d) = sg (v102 (ix2 r (at' 256 (by omega) d)) + k1_pay18 (F := Ideal) v3 v106 v110 v111 v112 v116 v120 v124 v128 v132 v136 (ix2 r (at' 256 (by omega) d))) := by
  unfold k1_pay20
  generalize k1_pay18 (F := Ideal) v3 v106 v110 v111 v112 v116 v120 v124 v128 v132 v136 = Y
  pointwise []
  rw [logistic_eq]
  rfl

/-- The mask at an element of the state. -/
theorem pay21_apply (v55 : FVec Ideal S8x32 .f32) (n : Fin 8) (b : Fin 32) (d : Fin 256) :
    k1_pay21 (F := Ideal) v55 (ix2 (row n b) d) = v55 (ix2 n b) := by
  pointwise [k1_pay21]
  simp only [row_div, row_mod]

/-- The state after the masked update. -/
theorem pay22_apply (v3 : FVec Ideal S256x256 .f32) (v55 : FVec Ideal S8x32 .f32) (v102 v138 : FVec Ideal S256x768 .f32) (v142 v146 : FVec Ideal S256x256 .f32)
    (gx gh : Fin 8 → Fin 32 → Fin 768 → EReal) (hx : ∀ n b j, v102 (ix2 (row n b) j) = gx n b j) (hh : ∀ n b j, v138 (ix2 (row n b) j) = gh n b j)
    (hr : ∀ n b d, v142 (ix2 (row n b) d) = sg (gx n b (at' 0 (by omega) d) + gh n b (at' 0 (by omega) d)))
    (hz : ∀ n b d, v146 (ix2 (row n b) d) = sg (gx n b (at' 256 (by omega) d) + gh n b (at' 256 (by omega) d)))
    (n : Fin 8) (b : Fin 32) (d : Fin 256) :
    k1_pay22 (F := Ideal) v3 v55 v102 v138 v142 v146 (ix2 (row n b) d) = upd (fun n b => v55 (ix2 n b)) (gru gx gh (fun n b d => v3 (ix2 (row n b) d))) (fun n b d => v3 (ix2 (row n b) d)) n b d := by
  pointwise [k1_pay22, k1_pay21]
  simp only [row_div, row_mod, hr, hz, hx, hh]
  rfl

/-- The communication queries at an element. -/
theorem pay23_apply (v3 : FVec Ideal S256x256 .f32) (v55 : FVec Ideal S8x32 .f32) (v102 v138 : FVec Ideal S256x768 .f32) (v142 v146 : FVec Ideal S256x256 .f32) (w : FVec Ideal S256x128 .f32) (r : Fin 256) (e : Fin 128) :
    k1_pay23 (F := Ideal) v3 v55 v102 v138 v142 v146 w (ix2 r e) = ∑ d, k1_pay22 (F := Ideal) v3 v55 v102 v138 v142 v146 (ix2 r d) * w (ix2 d e) := by
  pointwise [k1_pay23]

/-- The communication keys at an element. -/
theorem pay24_apply (v3 : FVec Ideal S256x256 .f32) (v55 : FVec Ideal S8x32 .f32) (v102 v138 : FVec Ideal S256x768 .f32) (v142 v146 : FVec Ideal S256x256 .f32) (w : FVec Ideal S256x128 .f32) (r : Fin 256) (e : Fin 128) :
    k1_pay24 (F := Ideal) v3 v55 v102 v138 v142 v146 w (ix2 r e) = ∑ d, k1_pay22 (F := Ideal) v3 v55 v102 v138 v142 v146 (ix2 r d) * w (ix2 d e) := by
  pointwise [k1_pay24]

/-- The communication values at an element. -/
theorem pay25_apply (v3 : FVec Ideal S256x256 .f32) (v55 : FVec Ideal S8x32 .f32) (v102 v138 : FVec Ideal S256x768 .f32) (v142 v146 : FVec Ideal S256x256 .f32) (w : FVec Ideal S256x128 .f32) (r : Fin 256) (e : Fin 128) :
    k1_pay25 (F := Ideal) v3 v55 v102 v138 v142 v146 w (ix2 r e) = ∑ d, k1_pay22 (F := Ideal) v3 v55 v102 v138 v142 v146 (ix2 r d) * w (ix2 d e) := by
  pointwise [k1_pay25]

end Cert.KernelIdeal.PayMath
end
-- ==== Proof.Rim.HeadMath.lean ====
module

public import proofs.«01_k».proof.Proof.Rim.PayMath

@[expose] public section
noncomputable section

/-! # The communication heads at an index

Each head of the kernel's communication attention, and the state it stores, read at an element. -/

namespace Cert.KernelIdeal.PayMath
open Cert.KernelIdeal Cert.KernelIdeal.Gen Cert.Scan Idealize.ShloMosaic
set_option maxRecDepth 16384
set_option maxHeartbeats 1000000

/-- Column `c` of head `a`. -/
theorem feat_mk (a : Fin 4) (c : Fin 32) (e : Fin 128) (h : e.val = 32 * a.val + c.val) : e = feat a c := Fin.ext h

/-- The heads side by side, read at a head and a place in it. -/
theorem heads_feat (f : Fin 4 → Fin 32 → EReal) (a : Fin 4) (c : Fin 32) : heads f (feat a c) = f a c := by
  have h1 : (⟨(feat a c).val / 32, by omega⟩ : Fin 4) = a := Fin.ext (by simp only [feat]; omega)
  have h2 : (⟨(feat a c).val % 32, by omega⟩ : Fin 32) = c := Fin.ext (by simp only [feat]; omega)
  unfold heads
  rw [h1, h2]

/-- The heads side by side, read at a column that is a head's place. -/
theorem heads_at (f : Fin 4 → Fin 32 → EReal) (x : Fin 128) (a : Fin 4) (c : Fin 32) (h : x.val = 32 * a.val + c.val) : heads f x = f a c := by
  rw [feat_mk a c x h, heads_feat]

/-- The logits of head 0. -/
theorem pay28_apply (v3 : FVec Ideal S256x256 .f32) (v55 : FVec Ideal S8x32 .f32) (v102 v138 : FVec Ideal S256x768 .f32) (v142 v146 : FVec Ideal S256x256 .f32) (v166 v168 : FVec Ideal S256x128 .f32) (n m : Fin 8) (b : Fin 32) :
    k1_pay28 (F := Ideal) v3 v55 v102 v138 v142 v146 v166 v168 (ix3 n m b)
      = clog (fun n b e => k1_pay23 (F := Ideal) v3 v55 v102 v138 v142 v146 v166 (ix2 (row n b) e)) (fun n b e => k1_pay24 (F := Ideal) v3 v55 v102 v138 v142 v146 v168 (ix2 (row n b) e)) 0 n m b := by
  unfold k1_pay28
  generalize k1_pay23 (F := Ideal) v3 v55 v102 v138 v142 v146 v166 = q
  generalize k1_pay24 (F := Ideal) v3 v55 v102 v138 v142 v146 v168 = k
  pointwise [k1_pay26]
  unfold clog
  refine congrArg (Ideal.div · _) (Finset.sum_congr rfl fun c _ => ?_)
  exact congrArg₂ (· * ·) (congrArg (fun e => q (ix2 (row n b) e)) (feat_mk 0 c _ (by simp))) (congrArg (fun e => k (ix2 (row m b) e)) (feat_mk 0 c _ (by simp)))

/-- The values of head 0. -/
theorem pay27_apply (v3 : FVec Ideal S256x256 .f32) (v55 : FVec Ideal S8x32 .f32) (v102 v138 : FVec Ideal S256x768 .f32) (v142 v146 : FVec Ideal S256x256 .f32) (v170 : FVec Ideal S256x128 .f32) (n : Fin 8) (b c : Fin 32) :
    k1_pay27 (F := Ideal) v3 v55 v102 v138 v142 v146 v170 (ix3 n b c) = k1_pay25 (F := Ideal) v3 v55 v102 v138 v142 v146 v170 (ix2 (row n b) (feat 0 c)) := by
  unfold k1_pay27
  generalize k1_pay25 (F := Ideal) v3 v55 v102 v138 v142 v146 v170 = q
  pointwise []
  exact congrArg (fun e => q (ix2 (row n b) e)) (feat_mk 0 c _ (by simp))

/-- Head 1's weights. -/
theorem pay39_apply (v167 v169 : FVec Ideal S256x128 .f32) (n m : Fin 8) (b : Fin 32) :
    k1_pay39 (F := Ideal) (k1_pay38 v167 v169 (k1_pay26 (F := Ideal))) (ix3 n m b) = csoft (fun m => clog (fun n b e => v167 (ix2 (row n b) e)) (fun n b e => v169 (ix2 (row n b) e)) 1 n m b) m := by
  pointwise [k1_pay39, k1_pay38, k1_pay26]
  rw [neg_inf]
  rfl

/-- Head 2's weights. -/
theorem pay48_apply (v167 v169 : FVec Ideal S256x128 .f32) (n m : Fin 8) (b : Fin 32) :
    k1_pay48 (F := Ideal) v167 v169 (k1_pay26 (F := Ideal)) (ix3 n m b) = csoft (fun m => clog (fun n b e => v167 (ix2 (row n b) e)) (fun n b e => v169 (ix2 (row n b) e)) 2 n m b) m := by
  pointwise [k1_pay48, k1_pay26]
  rw [neg_inf]
  rfl

/-- Head 3's weights. -/
theorem pay59_apply (v167 v169 : FVec Ideal S256x128 .f32) (n m : Fin 8) (b : Fin 32) :
    k1_pay59 (F := Ideal) v167 v169 (k1_pay26 (F := Ideal)) (ix3 n m b) = csoft (fun m => clog (fun n b e => v167 (ix2 (row n b) e)) (fun n b e => v169 (ix2 (row n b) e)) 3 n m b) m := by
  pointwise [k1_pay59, k1_pay26]
  rw [neg_inf]
  rfl

/-- Eight values added as a balanced tree are their sum. -/
theorem tree8' (f : Fin 8 → EReal) {y0 y1 y2 y3 y4 y5 y6 y7 : EReal} (h0 : y0 = f 0) (h1 : y1 = f 1) (h2 : y2 = f 2) (h3 : y3 = f 3) (h4 : y4 = f 4) (h5 : y5 = f 5) (h6 : y6 = f 6) (h7 : y7 = f 7) :
    ((y0 + y1) + (y2 + y3)) + ((y4 + y5) + (y6 + y7)) = ∑ m, f m := by
  rw [h0, h1, h2, h3, h4, h5, h6, h7]; exact tree8 f

/-- Head 1's output. -/
theorem pay46_apply (v167 v169 v171 : FVec Ideal S256x128 .f32) (v308 : FVec Ideal S8x8x32 .f32) (h : v308 = k1_pay38 v167 v169 (k1_pay26 (F := Ideal))) (n : Fin 8) (b c : Fin 32) :
    k1_pay46 (F := Ideal) (k1_pay37 v171) (k1_pay39 v308) (k1_pay40 (k1_pay37 v171) v308) (k1_pay41 (k1_pay37 v171) v308) (k1_pay42 (k1_pay37 v171) v308) (k1_pay43 (k1_pay37 v171) v308) (k1_pay44 (k1_pay37 v171) v308) (k1_pay45 (k1_pay37 v171) v308) (ix2 (row n b) c)
      = comb (fun n b e => v167 (ix2 (row n b) e)) (fun n b e => v169 (ix2 (row n b) e)) (fun n b e => v171 (ix2 (row n b) e)) n b 1 c := by
  have hw : ∀ n m b, k1_pay39 (F := Ideal) v308 (ix3 n m b) = csoft (fun m => clog (fun n b e => v167 (ix2 (row n b) e)) (fun n b e => v169 (ix2 (row n b) e)) 1 n m b) m := fun n m b => by rw [h]; exact pay39_apply v167 v169 n m b
  pointwise [k1_pay46, k1_pay40, k1_pay41, k1_pay42, k1_pay43, k1_pay44, k1_pay45, k1_pay37]
  have hd : (n.val * 32 + b.val) / 32 = n.val := by omega
  have hm : (n.val * 32 + b.val) % 32 = b.val := by omega
  simp only [hd, hm, Fin.eta, hw]
  unfold comb
  generalize csoft (fun m => clog (fun n b e => v167 (ix2 (row n b) e)) (fun n b e => v169 (ix2 (row n b) e)) 1 n m b) = w
  refine tree8' (fun m => w m * v171 (ix2 (row m b) (feat 1 c))) ?_ ?_ ?_ ?_ ?_ ?_ ?_ ?_ <;>
    exact congrArg₂ (· * ·) rfl (congrArg₂ (fun r e => v171 (ix2 r e)) (Fin.ext (by simp [row])) (Fin.ext (by simp [feat])))

/-- Head 2's output. -/
theorem pay57_apply (v167 v169 v171 : FVec Ideal S256x128 .f32) (v425 : FVec Ideal S8x8x32 .f32) (h : v425 = k1_pay48 v167 v169 (k1_pay26 (F := Ideal))) (n : Fin 8) (b c : Fin 32) :
    k1_pay57 (F := Ideal) (k1_pay47 v171) v425 (k1_pay49 (k1_pay47 v171) v425) (k1_pay50 (k1_pay47 v171) v425) (k1_pay51 (k1_pay47 v171) v425) (k1_pay52 (k1_pay47 v171) v425) (k1_pay53 (k1_pay47 v171) v425) (k1_pay54 (k1_pay47 v171) v425) (k1_pay55 v425) (k1_pay56 (k1_pay47 v171)) (ix2 (row n b) c)
      = comb (fun n b e => v167 (ix2 (row n b) e)) (fun n b e => v169 (ix2 (row n b) e)) (fun n b e => v171 (ix2 (row n b) e)) n b 2 c := by
  have hw : ∀ n m b, v425 (ix3 n m b) = csoft (fun m => clog (fun n b e => v167 (ix2 (row n b) e)) (fun n b e => v169 (ix2 (row n b) e)) 2 n m b) m := fun n m b => by rw [h]; exact pay48_apply v167 v169 n m b
  clear h
  pointwise [k1_pay57, k1_pay49, k1_pay50, k1_pay51, k1_pay52, k1_pay53, k1_pay54, k1_pay55, k1_pay56, k1_pay47]
  have hd : (n.val * 32 + b.val) / 32 = n.val := by omega
  have hm : (n.val * 32 + b.val) % 32 = b.val := by omega
  simp only [hd, hm, Fin.eta, hw]
  unfold comb
  generalize csoft (fun m => clog (fun n b e => v167 (ix2 (row n b) e)) (fun n b e => v169 (ix2 (row n b) e)) 2 n m b) = w
  refine tree8' (fun m => w m * v171 (ix2 (row m b) (feat 2 c))) ?_ ?_ ?_ ?_ ?_ ?_ ?_ ?_ <;>
    exact congrArg₂ (· * ·) rfl (congrArg₂ (fun r e => v171 (ix2 r e)) (Fin.ext (by simp [row])) (Fin.ext (by simp [feat])))

/-- The last head's eight products added as a balanced tree are their sum. -/
theorem last_head (w : Fin 8 → EReal) (v : FVec Ideal S256x128 .f32) (b c : Fin 32) :
    w 0 * v (ix2 ⟨b.val, by omega⟩ ⟨96 + c.val, by omega⟩) + w 1 * v (ix2 ⟨32 + b.val, by omega⟩ ⟨96 + c.val, by omega⟩)
      + (w 2 * v (ix2 ⟨64 + b.val, by omega⟩ ⟨96 + c.val, by omega⟩) + w 3 * v (ix2 ⟨96 + b.val, by omega⟩ ⟨96 + c.val, by omega⟩))
      + (w 4 * v (ix2 ⟨128 + b.val, by omega⟩ ⟨96 + c.val, by omega⟩) + w 5 * v (ix2 ⟨160 + b.val, by omega⟩ ⟨96 + c.val, by omega⟩)
      + (w 6 * v (ix2 ⟨192 + b.val, by omega⟩ ⟨96 + c.val, by omega⟩) + w 7 * v (ix2 ⟨224 + b.val, by omega⟩ ⟨96 + c.val, by omega⟩)))
      = ∑ m, w m * v (ix2 (row m b) (feat 3 c)) := by
  refine tree8' (fun m => w m * v (ix2 (row m b) (feat 3 c))) ?_ ?_ ?_ ?_ ?_ ?_ ?_ ?_ <;>
    exact congrArg₂ (· * ·) rfl (congrArg₂ (fun r e => v (ix2 r e)) (Fin.ext (by simp [row])) (Fin.ext (by simp [feat])))

/-- The column of the last head. -/
def past (x : Fin 128) (h : ¬ x.val - 32 - 32 < 32) : Fin 32 := ⟨x.val - 32 - 32 - 32, by omega⟩

/-- The heads side by side, read past the third head. -/
theorem heads_past (f : Fin 4 → Fin 32 → EReal) (x : Fin 128) (h : ¬ x.val - 32 - 32 < 32) : heads f x = f 3 (past x h) :=
  heads_at f x 3 (past x h) (by show x.val = 32 * 3 + (x.val - 32 - 32 - 32); omega)

/-- A choice among four stretches of columns is one value when each branch is. -/
theorem ladder {x : ℕ} {A : x < 32 → EReal} {B : ¬ x < 32 → x - 32 < 32 → EReal} {C : ¬ x < 32 → ¬ x - 32 < 32 → x - 32 - 32 < 32 → EReal}
    {D : ¬ x < 32 → ¬ x - 32 < 32 → ¬ x - 32 - 32 < 32 → EReal} {R : EReal} (hA : ∀ h, A h = R) (hB : ∀ h0 h, B h0 h = R) (hC : ∀ h0 h1 h, C h0 h1 h = R) (hD : ∀ h0 h1 h, D h0 h1 h = R) :
    (if h : x < 32 then A h else if h1 : x - 32 < 32 then B h h1 else if h2 : x - 32 - 32 < 32 then C h h1 h2 else D h h1 h2) = R := by
  by_cases h : x < 32
  · rw [dif_pos h]; exact hA h
  rw [dif_neg h]
  by_cases h1 : x - 32 < 32
  · rw [dif_pos h1]; exact hB h h1
  rw [dif_neg h1]
  by_cases h2 : x - 32 - 32 < 32
  · rw [dif_pos h2]; exact hC h h1 h2
  rw [dif_neg h2]; exact hD h h1 h2

/-- The state after the step, from the heads, with the last head's weights left as they are. -/
theorem pay70_aux (v160 v165 : FVec Ideal S256x256 .f32) (v283 v394 v505 : FVec Ideal S256x32 .f32) (v167 v169 v171 : FVec Ideal S256x128 .f32) (v536 : FVec Ideal S8x8x32 .f32) (v618 : FVec Ideal S128x256 .f32)
    (h : v536 = k1_pay59 v167 v169 (k1_pay26 (F := Ideal))) (w : Fin 8 → Fin 8 → Fin 32 → EReal) (f : Fin 8 → Fin 32 → Fin 4 → Fin 32 → EReal)
    (hw : ∀ n m b, v536 (ix3 n m b) = w n m b)
    (h0 : ∀ n b c, v283 (ix2 (row n b) c) = f n b 0 c) (h1 : ∀ n b c, v394 (ix2 (row n b) c) = f n b 1 c) (h2 : ∀ n b c, v505 (ix2 (row n b) c) = f n b 2 c)
    (h3 : ∀ n b c, f n b 3 c = ∑ m, w n m b * v171 (ix2 (row m b) (feat 3 c)))
    (n : Fin 8) (b : Fin 32) (d : Fin 256) :
    k1_pay70 (F := Ideal) v160 v165 v283 v394 v505 (k1_pay58 v171) (k1_pay62 (k1_pay60 v167 v169 (k1_pay26 (F := Ideal))) (k1_pay61 v171)) (k1_pay63 (k1_pay58 v171) v536) (k1_pay64 (k1_pay58 v171) v536) (k1_pay65 (k1_pay58 v171) v536) (k1_pay66 (k1_pay58 v171) v536) (k1_pay67 (k1_pay58 v171) v536) (k1_pay68 (k1_pay58 v171) v536) (k1_pay69 v536) v618 (ix2 (row n b) d)
      = v165 (ix2 (row n b) d) + v160 (ix2 (row n b) d) * ∑ e, heads (f n b) e * v618 (ix2 e d) := by
  unfold k1_pay60
  rw [← h]
  clear h
  pointwise [k1_pay70, k1_pay62, k1_pay61, k1_pay63, k1_pay64, k1_pay65, k1_pay66, k1_pay67, k1_pay68, k1_pay69, k1_pay58]
  have hd : (n.val * 32 + b.val) / 32 = n.val := by omega
  have hm : (n.val * 32 + b.val) % 32 = b.val := by omega
  simp only [hd, hm, Fin.eta, hw, h0, h1, h2]
  refine congrArg (fun y => v165 (ix2 (row n b) d) + v160 (ix2 (row n b) d) * y) (Finset.sum_congr rfl fun x _ => congrArg (· * v618 (ix2 x d)) ?_)
  refine ladder ?_ ?_ ?_ ?_
  · exact fun x0 => (heads_at (f n b) x 0 ⟨x.val, x0⟩ (by show x.val = 32 * 0 + x.val; omega)).symm
  · exact fun _ x1 => (heads_at (f n b) x 1 ⟨x.val - 32, x1⟩ (by show x.val = 32 * 1 + (x.val - 32); omega)).symm
  · exact fun _ _ x2 => (heads_at (f n b) x 2 ⟨x.val - 32 - 32, x2⟩ (by show x.val = 32 * 2 + (x.val - 32 - 32); omega)).symm
  · exact fun _ _ x2 => (last_head (fun m => w n m b) v171 b (past x x2)).trans ((h3 n b (past x x2)).symm.trans (heads_past (f n b) x x2).symm)

end Cert.KernelIdeal.PayMath
end
-- ==== Proof.Rim.Chain.lean ====
module

public import proofs.«01_k».proof.Proof.Rim.HeadMath

@[expose] public section
noncomputable section

/-! # The kernel's step as one function

What a grid point computes from what it loads and the state it carries, stage by stage, and the proof that it is the step
of the scan. -/

namespace Cert.KernelIdeal.Chain
open Cert.KernelIdeal Cert.KernelIdeal.Gen Cert.KernelIdeal.PayMath Cert.Scan Idealize.ShloMosaic
set_option maxRecDepth 16384
set_option maxHeartbeats 1000000

/-- The blocks a grid point loads, apart from the state. -/
structure Ld where
  v4 : FVec Ideal S32x64 .f32
  v6 : FVec Ideal S32x64 .f32
  v8 : FVec Ideal S256x64 .f32
  wx : Fin 8 → FVec Ideal S1x64x768 .f32
  v100 : FVec Ideal S256x768 .f32
  wh : Fin 8 → FVec Ideal S1x256x768 .f32
  v136 : FVec Ideal S256x768 .f32
  v166 : FVec Ideal S256x128 .f32
  v168 : FVec Ideal S256x128 .f32
  v170 : FVec Ideal S256x128 .f32
  v618 : FVec Ideal S128x256 .f32

variable (L : Ld) (h : FVec Ideal S256x256 .f32)

/-- The scores. -/
def c29 : FVec Ideal S8x32 .f32 := k1_pay4 h L.v4 L.v8
/-- The mask. -/
def c55 : FVec Ideal S8x32 .f32 := k1_pay8 (k1_pay5 h L.v4 L.v8) (k1_pay6 h L.v4 L.v8) (k1_pay7 h L.v4 L.v8)
def c102 : FVec Ideal S256x768 .f32 := k1_pay14 (k1_pay9 (k1_pay2 L.v6) k1_pay3 (c29 L h)) (k1_pay10 (k1_pay2 L.v6) k1_pay3 (c29 L h) (L.wx 0)) (k1_pay11 (k1_pay2 L.v6) k1_pay3 (c29 L h) (L.wx 1)) (k1_pay12 (k1_pay2 L.v6) k1_pay3 (c29 L h) (L.wx 2)) (k1_pay13 (k1_pay2 L.v6) k1_pay3 (c29 L h)) (L.wx 3) (L.wx 4) (L.wx 5) (L.wx 6) (L.wx 7) L.v100
def c138 : FVec Ideal S256x768 .f32 := k1_pay18 h (k1_pay15 h (L.wh 0)) (k1_pay16 h (L.wh 1)) (k1_pay17 h) (L.wh 2) (L.wh 3) (L.wh 4) (L.wh 5) (L.wh 6) (L.wh 7) L.v136
def c142 : FVec Ideal S256x256 .f32 := k1_pay19 h (c102 L h) (k1_pay15 h (L.wh 0)) (k1_pay16 h (L.wh 1)) (k1_pay17 h) (L.wh 2) (L.wh 3) (L.wh 4) (L.wh 5) (L.wh 6) (L.wh 7) L.v136
def c146 : FVec Ideal S256x256 .f32 := k1_pay20 h (c102 L h) (k1_pay15 h (L.wh 0)) (k1_pay16 h (L.wh 1)) (k1_pay17 h) (L.wh 2) (L.wh 3) (L.wh 4) (L.wh 5) (L.wh 6) (L.wh 7) L.v136
def c160 : FVec Ideal S256x256 .f32 := k1_pay21 (c55 L h)
def c165 : FVec Ideal S256x256 .f32 := k1_pay22 h (c55 L h) (c102 L h) (c138 L h) (c142 L h) (c146 L h)
def c167 : FVec Ideal S256x128 .f32 := k1_pay23 h (c55 L h) (c102 L h) (c138 L h) (c142 L h) (c146 L h) L.v166
def c169 : FVec Ideal S256x128 .f32 := k1_pay24 h (c55 L h) (c102 L h) (c138 L h) (c142 L h) (c146 L h) L.v168
def c171 : FVec Ideal S256x128 .f32 := k1_pay25 h (c55 L h) (c102 L h) (c138 L h) (c142 L h) (c146 L h) L.v170
def c184 : FVec Ideal S8x32x32 .f32 := k1_pay27 h (c55 L h) (c102 L h) (c138 L h) (c142 L h) (c146 L h) L.v170
def c192 : FVec Ideal S8x8x32 .f32 := k1_pay28 h (c55 L h) (c102 L h) (c138 L h) (c142 L h) (c146 L h) L.v166 L.v168
def c283 : FVec Ideal S256x32 .f32 := k1_pay36 (c184 L h) (k1_pay29 (c192 L h)) (k1_pay30 (c184 L h) (c192 L h)) (k1_pay31 (c184 L h) (c192 L h)) (k1_pay32 (c184 L h) (c192 L h)) (k1_pay33 (c184 L h) (c192 L h)) (k1_pay34 (c184 L h) (c192 L h)) (k1_pay35 (c192 L h))
def c308 : FVec Ideal S8x8x32 .f32 := k1_pay38 (c167 L h) (c169 L h) (k1_pay26 (F := Ideal))
def c394 : FVec Ideal S256x32 .f32 := k1_pay46 (k1_pay37 (c171 L h)) (k1_pay39 (c308 L h)) (k1_pay40 (k1_pay37 (c171 L h)) (c308 L h)) (k1_pay41 (k1_pay37 (c171 L h)) (c308 L h)) (k1_pay42 (k1_pay37 (c171 L h)) (c308 L h)) (k1_pay43 (k1_pay37 (c171 L h)) (c308 L h)) (k1_pay44 (k1_pay37 (c171 L h)) (c308 L h)) (k1_pay45 (k1_pay37 (c171 L h)) (c308 L h))
def c425 : FVec Ideal S8x8x32 .f32 := k1_pay48 (c167 L h) (c169 L h) (k1_pay26 (F := Ideal))
def c505 : FVec Ideal S256x32 .f32 := k1_pay57 (k1_pay47 (c171 L h)) (c425 L h) (k1_pay49 (k1_pay47 (c171 L h)) (c425 L h)) (k1_pay50 (k1_pay47 (c171 L h)) (c425 L h)) (k1_pay51 (k1_pay47 (c171 L h)) (c425 L h)) (k1_pay52 (k1_pay47 (c171 L h)) (c425 L h)) (k1_pay53 (k1_pay47 (c171 L h)) (c425 L h)) (k1_pay54 (k1_pay47 (c171 L h)) (c425 L h)) (k1_pay55 (c425 L h)) (k1_pay56 (k1_pay47 (c171 L h)))
def c536 : FVec Ideal S8x8x32 .f32 := k1_pay59 (c167 L h) (c169 L h) (k1_pay26 (F := Ideal))
/-- The state after the step. -/
def next70 : FVec Ideal S256x256 .f32 := k1_pay70 (c160 L h) (c165 L h) (c283 L h) (c394 L h) (c505 L h) (k1_pay58 (c171 L h)) (k1_pay62 (k1_pay60 (c167 L h) (c169 L h) (k1_pay26 (F := Ideal))) (k1_pay61 (c171 L h))) (k1_pay63 (k1_pay58 (c171 L h)) (c536 L h)) (k1_pay64 (k1_pay58 (c171 L h)) (c536 L h)) (k1_pay65 (k1_pay58 (c171 L h)) (c536 L h)) (k1_pay66 (k1_pay58 (c171 L h)) (c536 L h)) (k1_pay67 (k1_pay58 (c171 L h)) (c536 L h)) (k1_pay68 (k1_pay58 (c171 L h)) (c536 L h)) (k1_pay69 (c536 L h)) L.v618
/-- The state after the step, as the output block holds it. -/
def next71 : FVec Ideal S1x256x256 .f32 := k1_pay71 (c160 L h) (c165 L h) (c283 L h) (c394 L h) (c505 L h) (k1_pay58 (c171 L h)) (k1_pay62 (k1_pay60 (c167 L h) (c169 L h) (k1_pay26 (F := Ideal))) (k1_pay61 (c171 L h))) (k1_pay63 (k1_pay58 (c171 L h)) (c536 L h)) (k1_pay64 (k1_pay58 (c171 L h)) (c536 L h)) (k1_pay65 (k1_pay58 (c171 L h)) (c536 L h)) (k1_pay66 (k1_pay58 (c171 L h)) (c536 L h)) (k1_pay67 (k1_pay58 (c171 L h)) (c536 L h)) (k1_pay68 (k1_pay58 (c171 L h)) (c536 L h)) (k1_pay69 (c536 L h)) L.v618
/-- The state after the step, as the scratch holds it. -/
def next73 : FVec Ideal S256x256 .f32 := k1_pay73 (c160 L h) (c165 L h) (c283 L h) (c394 L h) (c505 L h) (k1_pay58 (c171 L h)) (k1_pay62 (k1_pay60 (c167 L h) (c169 L h) (k1_pay26 (F := Ideal))) (k1_pay61 (c171 L h))) (k1_pay63 (k1_pay58 (c171 L h)) (c536 L h)) (k1_pay64 (k1_pay58 (c171 L h)) (c536 L h)) (k1_pay65 (k1_pay58 (c171 L h)) (c536 L h)) (k1_pay66 (k1_pay58 (c171 L h)) (c536 L h)) (k1_pay67 (k1_pay58 (c171 L h)) (c536 L h)) (k1_pay68 (k1_pay58 (c171 L h)) (c536 L h)) (k1_pay69 (c536 L h)) L.v618
/-- The mask, as the output block holds it. -/
def mask72 : FVec Ideal S1x8x32 .f32 := k1_pay72 (c55 L h)

/-- A state in the kernel's layout, as a function of the block, the batch row and the feature. -/
def hid : Hid := fun n b d => h (ix2 (row n b) d)

/-- The blocks a point loads hold the weights `W` and the two projections `kx` and `vx` of its input. -/
structure Holds (L : Ld) (W : Wt) (kx vx : Fin 32 → Fin 64 → EReal) : Prop where
  v4 : ∀ b k, L.v4 (ix2 b k) = kx b k
  v6 : ∀ b k, L.v6 (ix2 b k) = vx b k
  v8 : ∀ d k, L.v8 (ix2 d k) = W.wq d k
  wx : ∀ n k j, L.wx n (ix3 0 k j) = W.wx n k j
  v100 : ∀ n b j, L.v100 (ix2 (row n b) j) = W.bx n j
  wh : ∀ n k j, L.wh n (ix3 0 k j) = W.wh n k j
  v136 : ∀ n b j, L.v136 (ix2 (row n b) j) = W.bh n j
  v166 : ∀ d e, L.v166 (ix2 d e) = W.wqc d e
  v168 : ∀ d e, L.v168 (ix2 d e) = W.wkc d e
  v170 : ∀ d e, L.v170 (ix2 d e) = W.wvc d e
  v618 : ∀ e d, L.v618 (ix2 e d) = W.wo e d

variable {L h} {W : Wt} {kx vx : Fin 32 → Fin 64 → EReal} (H : Holds L W kx vx)
include H

/-- The kernel's scores are the scan's. -/
theorem c29_apply (n : Fin 8) (b : Fin 32) : c29 L h (ix2 n b) = scores W kx (hid h) n b := by
  unfold c29
  rw [pay4_apply]
  simp only [H.v4, H.v8]
  rfl

/-- The kernel's mask is the scan's. -/
theorem c55_apply (n : Fin 8) (b : Fin 32) : c55 L h (ix2 n b) = mask W kx (hid h) n b := by
  unfold c55
  rw [pay8_apply]
  exact congrArg (top4 · n) (funext fun m => c29_apply H m b)

/-- A score times the value row is what the block takes of the input. -/
theorem pay9_inp (n : Fin 8) (b : Fin 32) (k : Fin 64) : c29 L h (ix2 n b) * k1_pay2 (F := Ideal) L.v6 (ix2 b k) = inp W kx vx (hid h) n b k := by
  rw [c29_apply H]
  unfold inp
  rw [← H.v6 b k]
  congr 1
  pointwise [k1_pay2]

/-- The gates of the input are the scan's. -/
theorem c102_apply (n : Fin 8) (b : Fin 32) (j : Fin 768) : c102 L h (ix2 (row n b) j) = gate (inp W kx vx (hid h)) W.wx W.bx n b j := by
  unfold c102
  rw [pay14_apply _ _ W.wx W.bx _ _ _ _ _ _ _ _ _ (H.wx 0) (H.wx 1) (H.wx 2) (H.wx 3) (H.wx 4) (H.wx 5) (H.wx 6) (H.wx 7) H.v100]
  exact congrArg (fun x => gate x W.wx W.bx n b j) (funext fun n => funext fun b => funext fun k => pay9_inp H n b k)

/-- The gates of the state are the scan's. -/
theorem c138_apply (n : Fin 8) (b : Fin 32) (j : Fin 768) : c138 L h (ix2 (row n b) j) = gate (hid h) W.wh W.bh n b j := by
  unfold c138
  rw [pay18_apply _ W.wh W.bh _ _ _ _ _ _ _ _ _ (H.wh 0) (H.wh 1) (H.wh 2) (H.wh 3) (H.wh 4) (H.wh 5) (H.wh 6) (H.wh 7) H.v136]
  rfl

/-- The state after the update of the blocks that are on is the scan's. -/
theorem c165_apply (n : Fin 8) (b : Fin 32) (d : Fin 256) : c165 L h (ix2 (row n b) d) = hupd W kx vx (hid h) n b d := by
  unfold c165
  rw [pay22_apply _ _ _ _ _ _ _ _ (c102_apply H) (c138_apply H)
    (fun n b d => by unfold c142; rw [pay19_apply, ← c102_apply H, ← c138_apply H]; rfl)
    (fun n b d => by unfold c146; rw [pay20_apply, ← c102_apply H, ← c138_apply H]; rfl)]
  simp only [c55_apply H]
  rfl

/-- The communication queries are the scan's. -/
theorem c167_apply (n : Fin 8) (b : Fin 32) (e : Fin 128) : c167 L h (ix2 (row n b) e) = proj (hupd W kx vx (hid h)) W.wqc n b e := by
  unfold c167
  rw [pay23_apply]
  simp only [H.v166]
  exact Finset.sum_congr rfl fun d _ => congrArg (· * W.wqc d e) (c165_apply H n b d)

/-- The communication keys are the scan's. -/
theorem c169_apply (n : Fin 8) (b : Fin 32) (e : Fin 128) : c169 L h (ix2 (row n b) e) = proj (hupd W kx vx (hid h)) W.wkc n b e := by
  unfold c169
  rw [pay24_apply]
  simp only [H.v168]
  exact Finset.sum_congr rfl fun d _ => congrArg (· * W.wkc d e) (c165_apply H n b d)

/-- The communication values are the scan's. -/
theorem c171_apply (n : Fin 8) (b : Fin 32) (e : Fin 128) : c171 L h (ix2 (row n b) e) = proj (hupd W kx vx (hid h)) W.wvc n b e := by
  unfold c171
  rw [pay25_apply]
  simp only [H.v170]
  exact Finset.sum_congr rfl fun d _ => congrArg (· * W.wvc d e) (c165_apply H n b d)

/-- The four heads of the step. -/
abbrev hd (L : Ld) (h : FVec Ideal S256x256 .f32) : Fin 8 → Fin 32 → Fin 4 → Fin 32 → EReal :=
  comb (fun n b e => c167 L h (ix2 (row n b) e)) (fun n b e => c169 L h (ix2 (row n b) e)) (fun n b e => c171 L h (ix2 (row n b) e))

omit H in
/-- The first head's output. -/
theorem c283_apply (n : Fin 8) (b c : Fin 32) : c283 L h (ix2 (row n b) c) = hd L h n b 0 c := by
  unfold c283
  rw [pay36_apply]
  have h1 : ∀ m, c192 L h (ix3 n m b) = _ := fun m => pay28_apply h (c55 L h) (c102 L h) (c138 L h) (c142 L h) (c146 L h) L.v166 L.v168 n m b
  have h2 : ∀ m, c184 L h (ix3 m b c) = _ := fun m => pay27_apply h (c55 L h) (c102 L h) (c138 L h) (c142 L h) (c146 L h) L.v170 m b c
  simp only [h1, h2]
  rfl

omit H in
/-- The next state: the updated state, and on the blocks that are on the heads through the output weights. -/
theorem next70_raw (n : Fin 8) (b : Fin 32) (d : Fin 256) : next70 L h (ix2 (row n b) d)
    = c165 L h (ix2 (row n b) d) + c160 L h (ix2 (row n b) d) * ∑ e, heads (hd L h n b) e * L.v618 (ix2 e d) :=
  pay70_aux (c160 L h) (c165 L h) (c283 L h) (c394 L h) (c505 L h) (c167 L h) (c169 L h) (c171 L h) (c536 L h) L.v618 rfl _ (hd L h)
    (fun n m b => pay59_apply (c167 L h) (c169 L h) n m b) (c283_apply (L := L) (h := h)) (fun n b c => pay46_apply (c167 L h) (c169 L h) (c171 L h) (c308 L h) rfl n b c)
    (fun n b c => pay57_apply (c167 L h) (c169 L h) (c171 L h) (c425 L h) rfl n b c) (fun n b c => rfl) n b d

/-- A grid point computes the step of the scan. -/
theorem next70_apply (n : Fin 8) (b : Fin 32) (d : Fin 256) : next70 L h (ix2 (row n b) d) = next W kx vx (hid h) n b d := by
  rw [next70_raw, c165_apply H]
  have e : hd L h = comb (proj (hupd W kx vx (hid h)) W.wqc) (proj (hupd W kx vx (hid h)) W.wkc) (proj (hupd W kx vx (hid h)) W.wvc) := by
    unfold hd; simp only [c167_apply H, c169_apply H, c171_apply H]
  rw [e]
  simp only [H.v618]
  have e2 : c160 L h (ix2 (row n b) d) = mask W kx (hid h) n b := (pay21_apply (c55 L h) n b d).trans (c55_apply H n b)
  rw [e2]
  rfl

/-- The state that output 11 is given is the scan's next state. -/
theorem next71_apply (n : Fin 8) (b : Fin 32) (d : Fin 256) : next71 L h (ix3 0 (row n b) d) = next W kx vx (hid h) n b d := by
  rw [← next70_apply H]
  unfold next71 k1_pay71
  show _ = next70 L h (ix2 (row n b) d)
  unfold next70
  generalize k1_pay70 (F := Ideal) _ _ _ _ _ _ _ _ _ _ _ _ _ _ _ = Y
  pointwise []

omit H in
/-- The state that the scratch is given is the next state. -/
theorem next73_eq : next73 L h = next70 L h := by
  unfold next73 k1_pay73 next70
  generalize k1_pay70 (F := Ideal) _ _ _ _ _ _ _ _ _ _ _ _ _ _ _ = Y
  funext i
  idx_vars i
  pointwise []

/-- By block, batch and place it is the scan's next state. -/
theorem next73_hid : hid (next73 L h) = next W kx vx (hid h) := by
  rw [next73_eq]
  funext n b d
  exact next70_apply H n b d

/-- The mask that output 13 is given is the scan's. -/
theorem mask72_apply (n : Fin 8) (b : Fin 32) : mask72 L h (ix3 0 n b) = mask W kx (hid h) n b := by
  rw [← c55_apply H]
  unfold mask72
  generalize c55 L h = Y
  pointwise [k1_pay72]

end Cert.KernelIdeal.Chain
end
-- ==== Proof.Rim.Cases.lean ====
module

public import proofs.«01_k».proof.Proof.Rim.Chain
public import proofs.«01_k».proof.Proof.Rim.Frame
public import Idealize.ShloMosaic.Lib.Pipeline.ReadBack
public import Idealize.ShloMosaic.Lib.Pipeline.ValueKit

@[expose] public section
noncomputable section

/-! # What each case of the kernel's body leaves

At the first grid point, at a middle one and at the last, the buffers the body leaves hold the chain's values. -/

namespace Cert.KernelIdeal.Rim
open Cert.KernelIdeal Cert.KernelIdeal.Gen Cert.KernelIdeal.Chain Idealize.ShloMosaic
set_option maxRecDepth 16384
set_option maxHeartbeats 1000000

/-- Block `n` of the input weights. -/
def ldx (x3 : FVec Ideal S8x64x768 .f32) (n : Fin 8) : FVec Ideal S1x64x768 .f32 :=
  match n with
  | 0 => fun x => x3 ((Rect.unit (s := S8x64x768) ![0, 0, 0] S1x64x768.size inb_S8x64x768_S1x64x768_0_0_0).idx x)
  | 1 => fun x => x3 ((Rect.unit (s := S8x64x768) ![1, 0, 0] S1x64x768.size inb_S8x64x768_S1x64x768_1_0_0).idx x)
  | 2 => fun x => x3 ((Rect.unit (s := S8x64x768) ![2, 0, 0] S1x64x768.size inb_S8x64x768_S1x64x768_2_0_0).idx x)
  | 3 => fun x => x3 ((Rect.unit (s := S8x64x768) ![3, 0, 0] S1x64x768.size inb_S8x64x768_S1x64x768_3_0_0).idx x)
  | 4 => fun x => x3 ((Rect.unit (s := S8x64x768) ![4, 0, 0] S1x64x768.size inb_S8x64x768_S1x64x768_4_0_0).idx x)
  | 5 => fun x => x3 ((Rect.unit (s := S8x64x768) ![5, 0, 0] S1x64x768.size inb_S8x64x768_S1x64x768_5_0_0).idx x)
  | 6 => fun x => x3 ((Rect.unit (s := S8x64x768) ![6, 0, 0] S1x64x768.size inb_S8x64x768_S1x64x768_6_0_0).idx x)
  | 7 => fun x => x3 ((Rect.unit (s := S8x64x768) ![7, 0, 0] S1x64x768.size inb_S8x64x768_S1x64x768_7_0_0).idx x)

/-- Block `n` of the state's weights. -/
def ldh (x4 : FVec Ideal S8x256x768 .f32) (n : Fin 8) : FVec Ideal S1x256x768 .f32 :=
  match n with
  | 0 => fun x => x4 ((Rect.unit (s := S8x256x768) ![0, 0, 0] S1x256x768.size inb_S8x256x768_S1x256x768_0_0_0).idx x)
  | 1 => fun x => x4 ((Rect.unit (s := S8x256x768) ![1, 0, 0] S1x256x768.size inb_S8x256x768_S1x256x768_1_0_0).idx x)
  | 2 => fun x => x4 ((Rect.unit (s := S8x256x768) ![2, 0, 0] S1x256x768.size inb_S8x256x768_S1x256x768_2_0_0).idx x)
  | 3 => fun x => x4 ((Rect.unit (s := S8x256x768) ![3, 0, 0] S1x256x768.size inb_S8x256x768_S1x256x768_3_0_0).idx x)
  | 4 => fun x => x4 ((Rect.unit (s := S8x256x768) ![4, 0, 0] S1x256x768.size inb_S8x256x768_S1x256x768_4_0_0).idx x)
  | 5 => fun x => x4 ((Rect.unit (s := S8x256x768) ![5, 0, 0] S1x256x768.size inb_S8x256x768_S1x256x768_5_0_0).idx x)
  | 6 => fun x => x4 ((Rect.unit (s := S8x256x768) ![6, 0, 0] S1x256x768.size inb_S8x256x768_S1x256x768_6_0_0).idx x)
  | 7 => fun x => x4 ((Rect.unit (s := S8x256x768) ![7, 0, 0] S1x256x768.size inb_S8x256x768_S1x256x768_7_0_0).idx x)

/-- What a point loads of its input blocks. -/
def lds (x0 : FVec Ideal S32x128 .f32) (x2 : FVec Ideal S256x64 .f32) (x3 : FVec Ideal S8x64x768 .f32) (x4 : FVec Ideal S8x256x768 .f32) (x5 x6 : FVec Ideal S256x768 .f32) (x7 x8 x9 : FVec Ideal S256x128 .f32) (x10 : FVec Ideal S128x256 .f32) : Ld where
  v4 := fun x => x0 ((Rect.unit (s := S32x128) ![0, 0] S32x64.size inb_S32x128_S32x64_0_0).idx x)
  v6 := fun x => x0 ((Rect.unit (s := S32x128) ![0, 64] S32x64.size inb_S32x128_S32x64_0_64).idx x)
  v8 := x2
  wx := ldx x3
  v100 := x5
  wh := ldh x4
  v136 := x6
  v166 := x7
  v168 := x8
  v170 := x9
  v618 := x10

/-- At a point that is neither first nor last output 13 is left at the mask of the state carried in. -/
theorem out1_B_13_eq  (c : Dev nD) (i : grid1.Coords) (arg1 : Memref sig .tc .vmem S32x128 .f32) (harg1 : arg1.IsWhole) (arg2 : Memref sig .tc .vmem S256x256 .f32) (harg2 : arg2.IsWhole) (arg3 : Memref sig .tc .vmem S256x64 .f32) (harg3 : arg3.IsWhole) (arg4 : Memref sig .tc .vmem S8x64x768 .f32) (harg4 : arg4.IsWhole) (arg5 : Memref sig .tc .vmem S8x256x768 .f32) (harg5 : arg5.IsWhole) (arg6 : Memref sig .tc .vmem S256x768 .f32) (harg6 : arg6.IsWhole) (arg7 : Memref sig .tc .vmem S256x768 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S128x256 .f32) (harg11 : arg11.IsWhole) (arg12 : Memref sig .tc .vmem S1x256x256 .f32) (harg12 : arg12.IsWhole) (arg13 : Memref sig .tc .vmem S256x256 .f32) (harg13 : arg13.IsWhole) (arg14 : Memref sig .tc .vmem S1x8x32 .f32) (harg14 : arg14.IsWhole) (arg15 : Memref sig .tc .vmem S256x256 .f32) (harg15 : arg15.IsWhole) (hc0 : ¬cond1_0 i) (hc1 : ¬cond1_1 i)
    (x0 : FVec Ideal S32x128 .f32) (x1 : FVec Ideal S256x256 .f32) (x2 : FVec Ideal S256x64 .f32) (x3 : FVec Ideal S8x64x768 .f32) (x4 : FVec Ideal S8x256x768 .f32) (x5 : FVec Ideal S256x768 .f32) (x6 : FVec Ideal S256x768 .f32) (x7 : FVec Ideal S256x128 .f32) (x8 : FVec Ideal S256x128 .f32) (x9 : FVec Ideal S256x128 .f32) (x10 : FVec Ideal S128x256 .f32) (xs0 : FVec Ideal S256x256 .f32)  : out1_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 = mask72 (lds x0 x2 x3 x4 x5 x6 x7 x8 x9 x10) xs0 := by
  unfold out1_B_13
  frame_out
  try simp only [read_unread_whole]
  rfl

/-- At a point that is neither first nor last output 11 is left at the next state of the state carried in. -/
theorem out1_B_11_eq  (c : Dev nD) (i : grid1.Coords) (arg1 : Memref sig .tc .vmem S32x128 .f32) (harg1 : arg1.IsWhole) (arg2 : Memref sig .tc .vmem S256x256 .f32) (harg2 : arg2.IsWhole) (arg3 : Memref sig .tc .vmem S256x64 .f32) (harg3 : arg3.IsWhole) (arg4 : Memref sig .tc .vmem S8x64x768 .f32) (harg4 : arg4.IsWhole) (arg5 : Memref sig .tc .vmem S8x256x768 .f32) (harg5 : arg5.IsWhole) (arg6 : Memref sig .tc .vmem S256x768 .f32) (harg6 : arg6.IsWhole) (arg7 : Memref sig .tc .vmem S256x768 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S128x256 .f32) (harg11 : arg11.IsWhole) (arg12 : Memref sig .tc .vmem S1x256x256 .f32) (harg12 : arg12.IsWhole) (arg13 : Memref sig .tc .vmem S256x256 .f32) (harg13 : arg13.IsWhole) (arg14 : Memref sig .tc .vmem S1x8x32 .f32) (harg14 : arg14.IsWhole) (arg15 : Memref sig .tc .vmem S256x256 .f32) (harg15 : arg15.IsWhole) (hc0 : ¬cond1_0 i) (hc1 : ¬cond1_1 i)
    (x0 : FVec Ideal S32x128 .f32) (x1 : FVec Ideal S256x256 .f32) (x2 : FVec Ideal S256x64 .f32) (x3 : FVec Ideal S8x64x768 .f32) (x4 : FVec Ideal S8x256x768 .f32) (x5 : FVec Ideal S256x768 .f32) (x6 : FVec Ideal S256x768 .f32) (x7 : FVec Ideal S256x128 .f32) (x8 : FVec Ideal S256x128 .f32) (x9 : FVec Ideal S256x128 .f32) (x10 : FVec Ideal S128x256 .f32) (xs0 : FVec Ideal S256x256 .f32)  : out1_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 = next71 (lds x0 x2 x3 x4 x5 x6 x7 x8 x9 x10) xs0 := by
  unfold out1_B_11
  frame_out
  try simp only [read_unread_whole]
  rfl

/-- At a point that is neither first nor last the scratch is left at the next state of the state carried in. -/
theorem sout1_B_0_eq  (c : Dev nD) (i : grid1.Coords) (arg1 : Memref sig .tc .vmem S32x128 .f32) (harg1 : arg1.IsWhole) (arg2 : Memref sig .tc .vmem S256x256 .f32) (harg2 : arg2.IsWhole) (arg3 : Memref sig .tc .vmem S256x64 .f32) (harg3 : arg3.IsWhole) (arg4 : Memref sig .tc .vmem S8x64x768 .f32) (harg4 : arg4.IsWhole) (arg5 : Memref sig .tc .vmem S8x256x768 .f32) (harg5 : arg5.IsWhole) (arg6 : Memref sig .tc .vmem S256x768 .f32) (harg6 : arg6.IsWhole) (arg7 : Memref sig .tc .vmem S256x768 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S128x256 .f32) (harg11 : arg11.IsWhole) (arg12 : Memref sig .tc .vmem S1x256x256 .f32) (harg12 : arg12.IsWhole) (arg13 : Memref sig .tc .vmem S256x256 .f32) (harg13 : arg13.IsWhole) (arg14 : Memref sig .tc .vmem S1x8x32 .f32) (harg14 : arg14.IsWhole) (arg15 : Memref sig .tc .vmem S256x256 .f32) (harg15 : arg15.IsWhole) (hc0 : ¬cond1_0 i) (hc1 : ¬cond1_1 i)
    (x0 : FVec Ideal S32x128 .f32) (x1 : FVec Ideal S256x256 .f32) (x2 : FVec Ideal S256x64 .f32) (x3 : FVec Ideal S8x64x768 .f32) (x4 : FVec Ideal S8x256x768 .f32) (x5 : FVec Ideal S256x768 .f32) (x6 : FVec Ideal S256x768 .f32) (x7 : FVec Ideal S256x128 .f32) (x8 : FVec Ideal S256x128 .f32) (x9 : FVec Ideal S256x128 .f32) (x10 : FVec Ideal S128x256 .f32) (xs0 : FVec Ideal S256x256 .f32)  : sout1_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 = next73 (lds x0 x2 x3 x4 x5 x6 x7 x8 x9 x10) xs0 := by
  unfold sout1_B_0
  frame_out
  try simp only [read_unread_whole]
  rfl

/-- At the last point output 13 is left at the mask of the state carried in. -/
theorem out1_C_13_eq  (c : Dev nD) (i : grid1.Coords) (arg1 : Memref sig .tc .vmem S32x128 .f32) (harg1 : arg1.IsWhole) (arg2 : Memref sig .tc .vmem S256x256 .f32) (harg2 : arg2.IsWhole) (arg3 : Memref sig .tc .vmem S256x64 .f32) (harg3 : arg3.IsWhole) (arg4 : Memref sig .tc .vmem S8x64x768 .f32) (harg4 : arg4.IsWhole) (arg5 : Memref sig .tc .vmem S8x256x768 .f32) (harg5 : arg5.IsWhole) (arg6 : Memref sig .tc .vmem S256x768 .f32) (harg6 : arg6.IsWhole) (arg7 : Memref sig .tc .vmem S256x768 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S128x256 .f32) (harg11 : arg11.IsWhole) (arg12 : Memref sig .tc .vmem S1x256x256 .f32) (harg12 : arg12.IsWhole) (arg13 : Memref sig .tc .vmem S256x256 .f32) (harg13 : arg13.IsWhole) (arg14 : Memref sig .tc .vmem S1x8x32 .f32) (harg14 : arg14.IsWhole) (arg15 : Memref sig .tc .vmem S256x256 .f32) (harg15 : arg15.IsWhole) (hc0 : ¬cond1_0 i) (hc1 : cond1_1 i)
    (x0 : FVec Ideal S32x128 .f32) (x1 : FVec Ideal S256x256 .f32) (x2 : FVec Ideal S256x64 .f32) (x3 : FVec Ideal S8x64x768 .f32) (x4 : FVec Ideal S8x256x768 .f32) (x5 : FVec Ideal S256x768 .f32) (x6 : FVec Ideal S256x768 .f32) (x7 : FVec Ideal S256x128 .f32) (x8 : FVec Ideal S256x128 .f32) (x9 : FVec Ideal S256x128 .f32) (x10 : FVec Ideal S128x256 .f32) (xs0 : FVec Ideal S256x256 .f32)  : out1_C_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 = mask72 (lds x0 x2 x3 x4 x5 x6 x7 x8 x9 x10) xs0 := by
  unfold out1_C_13
  frame_out
  try simp only [read_unread_whole]
  rfl

/-- At the last point output 11 is left at the next state of the state carried in. -/
theorem out1_C_11_eq  (c : Dev nD) (i : grid1.Coords) (arg1 : Memref sig .tc .vmem S32x128 .f32) (harg1 : arg1.IsWhole) (arg2 : Memref sig .tc .vmem S256x256 .f32) (harg2 : arg2.IsWhole) (arg3 : Memref sig .tc .vmem S256x64 .f32) (harg3 : arg3.IsWhole) (arg4 : Memref sig .tc .vmem S8x64x768 .f32) (harg4 : arg4.IsWhole) (arg5 : Memref sig .tc .vmem S8x256x768 .f32) (harg5 : arg5.IsWhole) (arg6 : Memref sig .tc .vmem S256x768 .f32) (harg6 : arg6.IsWhole) (arg7 : Memref sig .tc .vmem S256x768 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S128x256 .f32) (harg11 : arg11.IsWhole) (arg12 : Memref sig .tc .vmem S1x256x256 .f32) (harg12 : arg12.IsWhole) (arg13 : Memref sig .tc .vmem S256x256 .f32) (harg13 : arg13.IsWhole) (arg14 : Memref sig .tc .vmem S1x8x32 .f32) (harg14 : arg14.IsWhole) (arg15 : Memref sig .tc .vmem S256x256 .f32) (harg15 : arg15.IsWhole) (hc0 : ¬cond1_0 i) (hc1 : cond1_1 i)
    (x0 : FVec Ideal S32x128 .f32) (x1 : FVec Ideal S256x256 .f32) (x2 : FVec Ideal S256x64 .f32) (x3 : FVec Ideal S8x64x768 .f32) (x4 : FVec Ideal S8x256x768 .f32) (x5 : FVec Ideal S256x768 .f32) (x6 : FVec Ideal S256x768 .f32) (x7 : FVec Ideal S256x128 .f32) (x8 : FVec Ideal S256x128 .f32) (x9 : FVec Ideal S256x128 .f32) (x10 : FVec Ideal S128x256 .f32) (xs0 : FVec Ideal S256x256 .f32)  : out1_C_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 = next71 (lds x0 x2 x3 x4 x5 x6 x7 x8 x9 x10) xs0 := by
  unfold out1_C_11
  frame_out
  try simp only [read_unread_whole]
  rfl

/-- At the last point the scratch is left at the next state of the state carried in. -/
theorem sout1_C_0_eq  (c : Dev nD) (i : grid1.Coords) (arg1 : Memref sig .tc .vmem S32x128 .f32) (harg1 : arg1.IsWhole) (arg2 : Memref sig .tc .vmem S256x256 .f32) (harg2 : arg2.IsWhole) (arg3 : Memref sig .tc .vmem S256x64 .f32) (harg3 : arg3.IsWhole) (arg4 : Memref sig .tc .vmem S8x64x768 .f32) (harg4 : arg4.IsWhole) (arg5 : Memref sig .tc .vmem S8x256x768 .f32) (harg5 : arg5.IsWhole) (arg6 : Memref sig .tc .vmem S256x768 .f32) (harg6 : arg6.IsWhole) (arg7 : Memref sig .tc .vmem S256x768 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S128x256 .f32) (harg11 : arg11.IsWhole) (arg12 : Memref sig .tc .vmem S1x256x256 .f32) (harg12 : arg12.IsWhole) (arg13 : Memref sig .tc .vmem S256x256 .f32) (harg13 : arg13.IsWhole) (arg14 : Memref sig .tc .vmem S1x8x32 .f32) (harg14 : arg14.IsWhole) (arg15 : Memref sig .tc .vmem S256x256 .f32) (harg15 : arg15.IsWhole) (hc0 : ¬cond1_0 i) (hc1 : cond1_1 i)
    (x0 : FVec Ideal S32x128 .f32) (x1 : FVec Ideal S256x256 .f32) (x2 : FVec Ideal S256x64 .f32) (x3 : FVec Ideal S8x64x768 .f32) (x4 : FVec Ideal S8x256x768 .f32) (x5 : FVec Ideal S256x768 .f32) (x6 : FVec Ideal S256x768 .f32) (x7 : FVec Ideal S256x128 .f32) (x8 : FVec Ideal S256x128 .f32) (x9 : FVec Ideal S256x128 .f32) (x10 : FVec Ideal S128x256 .f32) (xs0 : FVec Ideal S256x256 .f32)  : sout1_C_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 = next73 (lds x0 x2 x3 x4 x5 x6 x7 x8 x9 x10) xs0 := by
  unfold sout1_C_0
  frame_out
  try simp only [read_unread_whole]
  rfl

/-- At the last point output 12 is left at the next state of the state carried in. -/
theorem out1_C_12_eq  (c : Dev nD) (i : grid1.Coords) (arg1 : Memref sig .tc .vmem S32x128 .f32) (harg1 : arg1.IsWhole) (arg2 : Memref sig .tc .vmem S256x256 .f32) (harg2 : arg2.IsWhole) (arg3 : Memref sig .tc .vmem S256x64 .f32) (harg3 : arg3.IsWhole) (arg4 : Memref sig .tc .vmem S8x64x768 .f32) (harg4 : arg4.IsWhole) (arg5 : Memref sig .tc .vmem S8x256x768 .f32) (harg5 : arg5.IsWhole) (arg6 : Memref sig .tc .vmem S256x768 .f32) (harg6 : arg6.IsWhole) (arg7 : Memref sig .tc .vmem S256x768 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S128x256 .f32) (harg11 : arg11.IsWhole) (arg12 : Memref sig .tc .vmem S1x256x256 .f32) (harg12 : arg12.IsWhole) (arg13 : Memref sig .tc .vmem S256x256 .f32) (harg13 : arg13.IsWhole) (arg14 : Memref sig .tc .vmem S1x8x32 .f32) (harg14 : arg14.IsWhole) (arg15 : Memref sig .tc .vmem S256x256 .f32) (harg15 : arg15.IsWhole) (hc0 : ¬cond1_0 i) (hc1 : cond1_1 i)
    (x0 : FVec Ideal S32x128 .f32) (x1 : FVec Ideal S256x256 .f32) (x2 : FVec Ideal S256x64 .f32) (x3 : FVec Ideal S8x64x768 .f32) (x4 : FVec Ideal S8x256x768 .f32) (x5 : FVec Ideal S256x768 .f32) (x6 : FVec Ideal S256x768 .f32) (x7 : FVec Ideal S256x128 .f32) (x8 : FVec Ideal S256x128 .f32) (x9 : FVec Ideal S256x128 .f32) (x10 : FVec Ideal S128x256 .f32) (xs0 : FVec Ideal S256x256 .f32)  : out1_C_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 = next70 (lds x0 x2 x3 x4 x5 x6 x7 x8 x9 x10) xs0 := by
  unfold out1_C_12
  frame_out
  try simp only [read_unread_whole]
  rfl

/-- At the first point output 13 is left at the mask of the state the launch is given. -/
theorem out1_A_13_eq  (c : Dev nD) (i : grid1.Coords) (arg1 : Memref sig .tc .vmem S32x128 .f32) (harg1 : arg1.IsWhole) (arg2 : Memref sig .tc .vmem S256x256 .f32) (harg2 : arg2.IsWhole) (arg3 : Memref sig .tc .vmem S256x64 .f32) (harg3 : arg3.IsWhole) (arg4 : Memref sig .tc .vmem S8x64x768 .f32) (harg4 : arg4.IsWhole) (arg5 : Memref sig .tc .vmem S8x256x768 .f32) (harg5 : arg5.IsWhole) (arg6 : Memref sig .tc .vmem S256x768 .f32) (harg6 : arg6.IsWhole) (arg7 : Memref sig .tc .vmem S256x768 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S128x256 .f32) (harg11 : arg11.IsWhole) (arg12 : Memref sig .tc .vmem S1x256x256 .f32) (harg12 : arg12.IsWhole) (arg13 : Memref sig .tc .vmem S256x256 .f32) (harg13 : arg13.IsWhole) (arg14 : Memref sig .tc .vmem S1x8x32 .f32) (harg14 : arg14.IsWhole) (arg15 : Memref sig .tc .vmem S256x256 .f32) (harg15 : arg15.IsWhole) (hc0 : cond1_0 i) (hc1 : ¬cond1_1 i)
    (x0 : FVec Ideal S32x128 .f32) (x1 : FVec Ideal S256x256 .f32) (x2 : FVec Ideal S256x64 .f32) (x3 : FVec Ideal S8x64x768 .f32) (x4 : FVec Ideal S8x256x768 .f32) (x5 : FVec Ideal S256x768 .f32) (x6 : FVec Ideal S256x768 .f32) (x7 : FVec Ideal S256x128 .f32) (x8 : FVec Ideal S256x128 .f32) (x9 : FVec Ideal S256x128 .f32) (x10 : FVec Ideal S128x256 .f32)  : out1_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = mask72 (lds x0 x2 x3 x4 x5 x6 x7 x8 x9 x10) (k1_pay1 x1) := by
  unfold out1_A_13
  frame_out
  try simp only [read_unread_whole]
  rfl

/-- At the first point output 11 is left at the next state of the state the launch is given. -/
theorem out1_A_11_eq  (c : Dev nD) (i : grid1.Coords) (arg1 : Memref sig .tc .vmem S32x128 .f32) (harg1 : arg1.IsWhole) (arg2 : Memref sig .tc .vmem S256x256 .f32) (harg2 : arg2.IsWhole) (arg3 : Memref sig .tc .vmem S256x64 .f32) (harg3 : arg3.IsWhole) (arg4 : Memref sig .tc .vmem S8x64x768 .f32) (harg4 : arg4.IsWhole) (arg5 : Memref sig .tc .vmem S8x256x768 .f32) (harg5 : arg5.IsWhole) (arg6 : Memref sig .tc .vmem S256x768 .f32) (harg6 : arg6.IsWhole) (arg7 : Memref sig .tc .vmem S256x768 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S128x256 .f32) (harg11 : arg11.IsWhole) (arg12 : Memref sig .tc .vmem S1x256x256 .f32) (harg12 : arg12.IsWhole) (arg13 : Memref sig .tc .vmem S256x256 .f32) (harg13 : arg13.IsWhole) (arg14 : Memref sig .tc .vmem S1x8x32 .f32) (harg14 : arg14.IsWhole) (arg15 : Memref sig .tc .vmem S256x256 .f32) (harg15 : arg15.IsWhole) (hc0 : cond1_0 i) (hc1 : ¬cond1_1 i)
    (x0 : FVec Ideal S32x128 .f32) (x1 : FVec Ideal S256x256 .f32) (x2 : FVec Ideal S256x64 .f32) (x3 : FVec Ideal S8x64x768 .f32) (x4 : FVec Ideal S8x256x768 .f32) (x5 : FVec Ideal S256x768 .f32) (x6 : FVec Ideal S256x768 .f32) (x7 : FVec Ideal S256x128 .f32) (x8 : FVec Ideal S256x128 .f32) (x9 : FVec Ideal S256x128 .f32) (x10 : FVec Ideal S128x256 .f32)  : out1_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = next71 (lds x0 x2 x3 x4 x5 x6 x7 x8 x9 x10) (k1_pay1 x1) := by
  unfold out1_A_11
  frame_out
  try simp only [read_unread_whole]
  rfl

/-- At the first point the scratch is left at the next state of the state the launch is given. -/
theorem sout1_A_0_eq  (c : Dev nD) (i : grid1.Coords) (arg1 : Memref sig .tc .vmem S32x128 .f32) (harg1 : arg1.IsWhole) (arg2 : Memref sig .tc .vmem S256x256 .f32) (harg2 : arg2.IsWhole) (arg3 : Memref sig .tc .vmem S256x64 .f32) (harg3 : arg3.IsWhole) (arg4 : Memref sig .tc .vmem S8x64x768 .f32) (harg4 : arg4.IsWhole) (arg5 : Memref sig .tc .vmem S8x256x768 .f32) (harg5 : arg5.IsWhole) (arg6 : Memref sig .tc .vmem S256x768 .f32) (harg6 : arg6.IsWhole) (arg7 : Memref sig .tc .vmem S256x768 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S128x256 .f32) (harg11 : arg11.IsWhole) (arg12 : Memref sig .tc .vmem S1x256x256 .f32) (harg12 : arg12.IsWhole) (arg13 : Memref sig .tc .vmem S256x256 .f32) (harg13 : arg13.IsWhole) (arg14 : Memref sig .tc .vmem S1x8x32 .f32) (harg14 : arg14.IsWhole) (arg15 : Memref sig .tc .vmem S256x256 .f32) (harg15 : arg15.IsWhole) (hc0 : cond1_0 i) (hc1 : ¬cond1_1 i)
    (x0 : FVec Ideal S32x128 .f32) (x1 : FVec Ideal S256x256 .f32) (x2 : FVec Ideal S256x64 .f32) (x3 : FVec Ideal S8x64x768 .f32) (x4 : FVec Ideal S8x256x768 .f32) (x5 : FVec Ideal S256x768 .f32) (x6 : FVec Ideal S256x768 .f32) (x7 : FVec Ideal S256x128 .f32) (x8 : FVec Ideal S256x128 .f32) (x9 : FVec Ideal S256x128 .f32) (x10 : FVec Ideal S128x256 .f32)  : sout1_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = next73 (lds x0 x2 x3 x4 x5 x6 x7 x8 x9 x10) (k1_pay1 x1) := by
  unfold sout1_A_0
  frame_out
  try simp only [read_unread_whole]
  rfl

end Cert.KernelIdeal.Rim
end
-- ==== Proof.Rim.Value.lean ====
module

public import proofs.«01_k».proof.Proof.Rim.Frame
public import Idealize.ShloMosaic.Lib.Pipeline.Value

public import Idealize.ShloMosaic.Lib.Claim

@[expose] public section

-- membership in a rectangle of production extents (`View.cover_of_tiled`): the elaborator's structural look
-- recurses once per coordinate of the long axes
set_option maxRecDepth 16384

noncomputable section

namespace Cert.KernelIdeal.Rim

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The contents at equal points are equal. -/
theorem outs_congr (c : Dev nD) (j : ℕ) (h : j < cfg1.N) (j' : ℕ) (h' : j' < cfg1.N) (e : j = j') : outsAt1 V c j h = outsAt1 V c j' h' := by
  subst e; rfl

/-! ## Output window 11 -/

abbrev run11Of (i : S32x256x256.Idx) : ℕ := 1 * ((i 0).val / 1 - 0) + 1 * ((i 1).val / 256 - 0) + 1 * ((i 2).val / 256 - 0)
set_option backward.proofsInPublic true in
abbrev loc11Of (i : S32x256x256.Idx) : S1x256x256.Idx := fun a => match a with
  | ⟨0, _⟩ => ⟨(i 0).val % 1, Nat.mod_lt _ (by decide)⟩
  | ⟨1, _⟩ => ⟨(i 1).val % 256, Nat.mod_lt _ (by decide)⟩
  | ⟨2, _⟩ => ⟨(i 2).val % 256, Nat.mod_lt _ (by decide)⟩
abbrev pt11Of (i : S32x256x256.Idx) : ℕ := run11Of i

/-- What the array holds after the run: the contents the point that writes the index's block back left, read at its place in the block. -/
def G11 (c : Dev nD) : Buf (Elt F) ((c : Thread nD τ).loc main_v11_0) := fun i =>
  if h : pt11Of i < cfg1.N then
    (outsAt1 V c (pt11Of i) h).1 (loc11Of i)
  else V c (Pipeline.arrRef spec1 11) i

/-- The printed index map, decided over the grid: output window 11's block indices stay in the box, and the block number
    read off them is the point's (`t`). -/
theorem idx_facts11 : ∀ t : Fin cfg1.N, 0 ≤ win1_11.index t (0 : Fin 3) ∧ win1_11.index t (0 : Fin 3) ≤ 31
    ∧ 0 ≤ win1_11.index t (1 : Fin 3) ∧ win1_11.index t (1 : Fin 3) ≤ 0
    ∧ 0 ≤ win1_11.index t (2 : Fin 3) ∧ win1_11.index t (2 : Fin 3) ≤ 0
    ∧ 1 * (win1_11.index t (0 : Fin 3) - 0) + 1 * (win1_11.index t (1 : Fin 3) - 0) + 1 * (win1_11.index t (2 : Fin 3) - 0) = t.val :=
  (by decide +kernel : ∀ t : Fin grid1.N, _)

/-- Every block of the box is SOME flushing point's: `onto11Pt`, the point that writes back the block at place `q` of the box. -/
abbrev onto11Pt (q0 : Fin 32) (q1 : Fin 1) (q2 : Fin 1) : Fin grid1.N :=
  ⟨1 * q0.val + 1 * q1.val + 1 * q2.val, lt_of_lt_of_eq (by omega) N_1.symm⟩

/-- Every block of output 11 is written back by some point. -/
theorem idx_onto11 : ∀ (q0 : Fin 32) (q1 : Fin 1) (q2 : Fin 1), ∃ t : Fin cfg1.N, (cfg1.win 11).flush t = true ∧ win1_11.index t = ![q0.val + 0, q1.val + 0, q2.val + 0] :=
  fun q0 q1 q2 => ⟨onto11Pt q0 q1 q2, (by decide +kernel : ∀ (q0 : Fin 32) (q1 : Fin 1) (q2 : Fin 1), win1_11.flush (onto11Pt q0 q1 q2) = true ∧ win1_11.index (onto11Pt q0 q1 q2) = ![q0.val + 0, q1.val + 0, q2.val + 0]) q0 q1 q2⟩

/-- WHAT A FLUSHING POINT `t` WRITES BACK is block `t` of `G11`: output 11's component of the fold up to `t`. -/
theorem flushed11_eq (c : Dev nD) (t : Fin cfg1.N) (hf : (cfg1.win 11).flush t = true) :
    (dat1 V c).flushed 11 t = ((cfg1.win 11).blk t).view.read (Elt F) (G11 V c) := by
  show (cfg1.win 11).cut (grid1.coords t) ((dat1 V c).after 11 t) = _
  rw [after1_11]
  obtain ⟨e0, e1, e2, e3⟩ := idx_facts11 t
  funext y
  have hy0 : (y 0).val < 1 := (y 0).isLt
  have hy1 : (y 1).val < 256 := (y 1).isLt
  have hy2 : (y 2).val < 256 := (y 2).isLt
  have hb0 : (((cfg1.win 11).blk t).view.emb y 0).val = win1_11.index t (0 : Fin 3) * 1 + 1 * (y 0).val := rfl
  have hb1 : (((cfg1.win 11).blk t).view.emb y 1).val = win1_11.index t (1 : Fin 3) * 256 + 1 * (y 1).val := rfl
  have hb2 : (((cfg1.win 11).blk t).view.emb y 2).val = win1_11.index t (2 : Fin 3) * 256 + 1 * (y 2).val := rfl
  have hr : run11Of (((cfg1.win 11).blk t).view.emb y) = t.val := by
    show 1 * ((((cfg1.win 11).blk t).view.emb y 0).val / 1 - 0) + 1 * ((((cfg1.win 11).blk t).view.emb y 1).val / 256 - 0) + 1 * ((((cfg1.win 11).blk t).view.emb y 2).val / 256 - 0) = _
    rw [hb0, hb1, hb2]
    rw [show (win1_11.index t (0 : Fin 3) * 1 + 1 * (y 0).val) / 1 = win1_11.index t (0 : Fin 3) from by omega]; rw [show (win1_11.index t (1 : Fin 3) * 256 + 1 * (y 1).val) / 256 = win1_11.index t (1 : Fin 3) from by omega]; rw [show (win1_11.index t (2 : Fin 3) * 256 + 1 * (y 2).val) / 256 = win1_11.index t (2 : Fin 3) from by omega]
    omega
  have hl : loc11Of (((cfg1.win 11).blk t).view.emb y) = (cfg1.win 11).xinj (grid1.coords t) y := by
    funext a; apply Fin.ext
    match a with
    | ⟨0, _⟩ => show (((cfg1.win 11).blk t).view.emb y 0).val % 1 = (y 0).val; rw [hb0]; omega
    | ⟨1, _⟩ => show (((cfg1.win 11).blk t).view.emb y 1).val % 256 = (y 1).val; rw [hb1]; omega
    | ⟨2, _⟩ => show (((cfg1.win 11).blk t).view.emb y 2).val % 256 = (y 2).val; rw [hb2]; omega
  have hp : pt11Of (((cfg1.win 11).blk t).view.emb y) = t.val := by
    exact hr
  show (outsAt1 V c t.val t.isLt).1 ((cfg1.win 11).xinj (grid1.coords t) y) = G11 V c (((cfg1.win 11).blk t).view.emb y)
  unfold G11
  rw [dif_pos (by rw [hp]; exact t.isLt), hl, outs_congr V c _ _ _ _ hp.symm]

/-- An index of the array is in point `t`'s block iff each coordinate is in the block's range on its axis. -/
theorem mem_blk11 (t : Fin cfg1.N) (i : S32x256x256.Idx) :
    i ∈ ((cfg1.win 11).blk t).view.set ↔ ∀ a : Fin 3, win1_11.index t a * S1x256x256.size a ≤ (i a).val ∧ (i a).val < win1_11.index t a * S1x256x256.size a + S1x256x256.size a := by
  show i ∈ ((View.whole main_v11_0).slice (win1_11.rect t)).set ↔ _
  rw [View.set_slice_whole, Rect.mem_set_unit]
  exact Iff.rfl

/-- THE COVERED INDICES: in some flushing point's block iff inside the box those blocks fill. -/
theorem covered_iff11 (i : S32x256x256.Idx) :
    (∃ t : Fin cfg1.N, (cfg1.win 11).flush t = true ∧ i ∈ ((cfg1.win 11).blk t).view.set) ↔ 0 ≤ (i 0).val ∧ (i 0).val < 32 ∧ 0 ≤ (i 1).val ∧ (i 1).val < 256 ∧ 0 ≤ (i 2).val ∧ (i 2).val < 256 := by
  constructor
  · rintro ⟨t, -, hi⟩
    rw [mem_blk11] at hi
    have b0 : win1_11.index t (0 : Fin 3) * 1 ≤ (i 0).val ∧ (i 0).val < win1_11.index t (0 : Fin 3) * 1 + 1 := hi 0
    have b1 : win1_11.index t (1 : Fin 3) * 256 ≤ (i 1).val ∧ (i 1).val < win1_11.index t (1 : Fin 3) * 256 + 256 := hi 1
    have b2 : win1_11.index t (2 : Fin 3) * 256 ≤ (i 2).val ∧ (i 2).val < win1_11.index t (2 : Fin 3) * 256 + 256 := hi 2
    obtain ⟨e0, e1, e2, e3⟩ := idx_facts11 t
    omega
  · intro h
    have hi0 : (i 0).val < 32 := (i 0).isLt
    have hi1 : (i 1).val < 256 := (i 1).isLt
    have hi2 : (i 2).val < 256 := (i 2).isLt
    obtain ⟨t, hft, ht⟩ := idx_onto11 ⟨(i 0).val / 1 - 0, by omega⟩ ⟨(i 1).val / 256 - 0, by omega⟩ ⟨(i 2).val / 256 - 0, by omega⟩
    have q0 : win1_11.index t (0 : Fin 3) = (i 0).val / 1 - 0 + 0 := congrFun ht 0
    have q1 : win1_11.index t (1 : Fin 3) = (i 1).val / 256 - 0 + 0 := congrFun ht 1
    have q2 : win1_11.index t (2 : Fin 3) = (i 2).val / 256 - 0 + 0 := congrFun ht 2
    refine ⟨t, hft, ?_⟩
    rw [mem_blk11]
    intro a
    match a with
    | ⟨0, _⟩ => show win1_11.index t (0 : Fin 3) * 1 ≤ (i 0).val ∧ (i 0).val < win1_11.index t (0 : Fin 3) * 1 + 1; omega
    | ⟨1, _⟩ => show win1_11.index t (1 : Fin 3) * 256 ≤ (i 1).val ∧ (i 1).val < win1_11.index t (1 : Fin 3) * 256 + 256; omega
    | ⟨2, _⟩ => show win1_11.index t (2 : Fin 3) * 256 ≤ (i 2).val ∧ (i 2).val < win1_11.index t (2 : Fin 3) * 256 + 256; omega

/-- THE ARRAY after the run: `G11` (the flushing blocks tile it). -/
theorem final11 (c : Dev nD) : (dat1 V c).arrAt 11 cfg1.N = G11 V c :=
  (dat1 V c).arrAt_eq_of_cover 11 _ (fun t hf => flushed11_eq V c t hf) (fun i => (covered_iff11 i).2 (by
    have h0 : (i 0).val < 32 := (i 0).isLt; have h1 : (i 1).val < 256 := (i 1).isLt; have h2 : (i 2).val < 256 := (i 2).isLt; omega))

/-! ## Output window 12 -/

abbrev run12Of (i : S256x256.Idx) : ℕ := 1 * ((i 0).val / 256 - 0) + 1 * ((i 1).val / 256 - 0)
set_option backward.proofsInPublic true in
abbrev loc12Of (i : S256x256.Idx) : S256x256.Idx := fun a => match a with
  | ⟨0, _⟩ => ⟨(i 0).val % 256, Nat.mod_lt _ (by decide)⟩
  | ⟨1, _⟩ => ⟨(i 1).val % 256, Nat.mod_lt _ (by decide)⟩
abbrev pt12Of (i : S256x256.Idx) : ℕ := 32 * run12Of i + 31

/-- What the array holds after the run: the contents the point that writes the index's block back left, read at its place in the block. -/
def G12 (c : Dev nD) : Buf (Elt F) ((c : Thread nD τ).loc main_v11_1) := fun i =>
  if h : pt12Of i < cfg1.N then
    (outsAt1 V c (pt12Of i) h).2.1 (loc12Of i)
  else V c (Pipeline.arrRef spec1 12) i

/-- The printed index map, decided over the grid: output window 12's block indices stay in the box, and the block number
    read off them is the point's (`t / 32`). -/
theorem idx_facts12 : ∀ t : Fin cfg1.N, 0 ≤ win1_12.index t (0 : Fin 2) ∧ win1_12.index t (0 : Fin 2) ≤ 0
    ∧ 0 ≤ win1_12.index t (1 : Fin 2) ∧ win1_12.index t (1 : Fin 2) ≤ 0
    ∧ 1 * (win1_12.index t (0 : Fin 2) - 0) + 1 * (win1_12.index t (1 : Fin 2) - 0) = t.val / 32 :=
  (by decide +kernel : ∀ t : Fin grid1.N, _)

/-- Every block of the box is SOME flushing point's: `onto12Pt`, the point that writes back the block at place `q` of the box (the last point of its run). -/
abbrev onto12Pt (q0 : Fin 1) (q1 : Fin 1) : Fin grid1.N :=
  ⟨32 * (1 * q0.val + 1 * q1.val) + 31, lt_of_lt_of_eq (by omega) N_1.symm⟩

/-- Every block of output 12 is written back by some point. -/
theorem idx_onto12 : ∀ (q0 : Fin 1) (q1 : Fin 1), ∃ t : Fin cfg1.N, (cfg1.win 12).flush t = true ∧ win1_12.index t = ![q0.val + 0, q1.val + 0] :=
  fun q0 q1 => ⟨onto12Pt q0 q1, (by decide +kernel : ∀ (q0 : Fin 1) (q1 : Fin 1), win1_12.flush (onto12Pt q0 q1) = true ∧ win1_12.index (onto12Pt q0 q1) = ![q0.val + 0, q1.val + 0]) q0 q1⟩

/-- WHAT A FLUSHING POINT `t` WRITES BACK is block `t` of `G12`: output 12's component of the fold up to `t`. -/
theorem flushed12_eq (c : Dev nD) (t : Fin cfg1.N) (hf : (cfg1.win 12).flush t = true) :
    (dat1 V c).flushed 12 t = ((cfg1.win 12).blk t).view.read (Elt F) (G12 V c) := by
  show (cfg1.win 12).cut (grid1.coords t) ((dat1 V c).after 12 t) = _
  rw [after1_12]
  have hm : t.val % 32 = 31 := (flush1_12 t).mp hf
  obtain ⟨e0, e1, e2⟩ := idx_facts12 t
  funext y
  have hy0 : (y 0).val < 256 := (y 0).isLt
  have hy1 : (y 1).val < 256 := (y 1).isLt
  have hb0 : (((cfg1.win 12).blk t).view.emb y 0).val = win1_12.index t (0 : Fin 2) * 256 + 1 * (y 0).val := rfl
  have hb1 : (((cfg1.win 12).blk t).view.emb y 1).val = win1_12.index t (1 : Fin 2) * 256 + 1 * (y 1).val := rfl
  have hr : run12Of (((cfg1.win 12).blk t).view.emb y) = t.val / 32 := by
    show 1 * ((((cfg1.win 12).blk t).view.emb y 0).val / 256 - 0) + 1 * ((((cfg1.win 12).blk t).view.emb y 1).val / 256 - 0) = _
    rw [hb0, hb1]
    rw [show (win1_12.index t (0 : Fin 2) * 256 + 1 * (y 0).val) / 256 = win1_12.index t (0 : Fin 2) from by omega]; rw [show (win1_12.index t (1 : Fin 2) * 256 + 1 * (y 1).val) / 256 = win1_12.index t (1 : Fin 2) from by omega]
    omega
  have hl : loc12Of (((cfg1.win 12).blk t).view.emb y) = (cfg1.win 12).xinj (grid1.coords t) y := by
    funext a; apply Fin.ext
    match a with
    | ⟨0, _⟩ => show (((cfg1.win 12).blk t).view.emb y 0).val % 256 = (y 0).val; rw [hb0]; omega
    | ⟨1, _⟩ => show (((cfg1.win 12).blk t).view.emb y 1).val % 256 = (y 1).val; rw [hb1]; omega
  have hp : pt12Of (((cfg1.win 12).blk t).view.emb y) = t.val := by
    show 32 * run12Of (((cfg1.win 12).blk t).view.emb y) + 31 = _
    rw [hr]; have := Nat.div_add_mod t.val 32; omega
  show (outsAt1 V c t.val t.isLt).2.1 ((cfg1.win 12).xinj (grid1.coords t) y) = G12 V c (((cfg1.win 12).blk t).view.emb y)
  unfold G12
  rw [dif_pos (by rw [hp]; exact t.isLt), hl, outs_congr V c _ _ _ _ hp.symm]

/-- An index of the array is in point `t`'s block iff each coordinate is in the block's range on its axis. -/
theorem mem_blk12 (t : Fin cfg1.N) (i : S256x256.Idx) :
    i ∈ ((cfg1.win 12).blk t).view.set ↔ ∀ a : Fin 2, win1_12.index t a * S256x256.size a ≤ (i a).val ∧ (i a).val < win1_12.index t a * S256x256.size a + S256x256.size a := by
  show i ∈ ((View.whole main_v11_1).slice (win1_12.rect t)).set ↔ _
  rw [View.set_slice_whole, Rect.mem_set_unit]
  exact Iff.rfl

/-- THE COVERED INDICES: in some flushing point's block iff inside the box those blocks fill. -/
theorem covered_iff12 (i : S256x256.Idx) :
    (∃ t : Fin cfg1.N, (cfg1.win 12).flush t = true ∧ i ∈ ((cfg1.win 12).blk t).view.set) ↔ 0 ≤ (i 0).val ∧ (i 0).val < 256 ∧ 0 ≤ (i 1).val ∧ (i 1).val < 256 := by
  constructor
  · rintro ⟨t, -, hi⟩
    rw [mem_blk12] at hi
    have b0 : win1_12.index t (0 : Fin 2) * 256 ≤ (i 0).val ∧ (i 0).val < win1_12.index t (0 : Fin 2) * 256 + 256 := hi 0
    have b1 : win1_12.index t (1 : Fin 2) * 256 ≤ (i 1).val ∧ (i 1).val < win1_12.index t (1 : Fin 2) * 256 + 256 := hi 1
    obtain ⟨e0, e1, e2⟩ := idx_facts12 t
    omega
  · intro h
    have hi0 : (i 0).val < 256 := (i 0).isLt
    have hi1 : (i 1).val < 256 := (i 1).isLt
    obtain ⟨t, hft, ht⟩ := idx_onto12 ⟨(i 0).val / 256 - 0, by omega⟩ ⟨(i 1).val / 256 - 0, by omega⟩
    have q0 : win1_12.index t (0 : Fin 2) = (i 0).val / 256 - 0 + 0 := congrFun ht 0
    have q1 : win1_12.index t (1 : Fin 2) = (i 1).val / 256 - 0 + 0 := congrFun ht 1
    refine ⟨t, hft, ?_⟩
    rw [mem_blk12]
    intro a
    match a with
    | ⟨0, _⟩ => show win1_12.index t (0 : Fin 2) * 256 ≤ (i 0).val ∧ (i 0).val < win1_12.index t (0 : Fin 2) * 256 + 256; omega
    | ⟨1, _⟩ => show win1_12.index t (1 : Fin 2) * 256 ≤ (i 1).val ∧ (i 1).val < win1_12.index t (1 : Fin 2) * 256 + 256; omega

/-- THE ARRAY after the run: `G12` (the flushing blocks tile it). -/
theorem final12 (c : Dev nD) : (dat1 V c).arrAt 12 cfg1.N = G12 V c :=
  (dat1 V c).arrAt_eq_of_cover 12 _ (fun t hf => flushed12_eq V c t hf) (fun i => (covered_iff12 i).2 (by
    have h0 : (i 0).val < 256 := (i 0).isLt; have h1 : (i 1).val < 256 := (i 1).isLt; omega))

/-! ## Output window 13 -/

abbrev run13Of (i : S32x8x32.Idx) : ℕ := 1 * ((i 0).val / 1 - 0) + 1 * ((i 1).val / 8 - 0) + 1 * ((i 2).val / 32 - 0)
set_option backward.proofsInPublic true in
abbrev loc13Of (i : S32x8x32.Idx) : S1x8x32.Idx := fun a => match a with
  | ⟨0, _⟩ => ⟨(i 0).val % 1, Nat.mod_lt _ (by decide)⟩
  | ⟨1, _⟩ => ⟨(i 1).val % 8, Nat.mod_lt _ (by decide)⟩
  | ⟨2, _⟩ => ⟨(i 2).val % 32, Nat.mod_lt _ (by decide)⟩
abbrev pt13Of (i : S32x8x32.Idx) : ℕ := run13Of i

/-- What the array holds after the run: the contents the point that writes the index's block back left, read at its place in the block. -/
def G13 (c : Dev nD) : Buf (Elt F) ((c : Thread nD τ).loc main_v11_2) := fun i =>
  if h : pt13Of i < cfg1.N then
    (outsAt1 V c (pt13Of i) h).2.2.1 (loc13Of i)
  else V c (Pipeline.arrRef spec1 13) i

/-- The printed index map, decided over the grid: output window 13's block indices stay in the box, and the block number
    read off them is the point's (`t`). -/
theorem idx_facts13 : ∀ t : Fin cfg1.N, 0 ≤ win1_13.index t (0 : Fin 3) ∧ win1_13.index t (0 : Fin 3) ≤ 31
    ∧ 0 ≤ win1_13.index t (1 : Fin 3) ∧ win1_13.index t (1 : Fin 3) ≤ 0
    ∧ 0 ≤ win1_13.index t (2 : Fin 3) ∧ win1_13.index t (2 : Fin 3) ≤ 0
    ∧ 1 * (win1_13.index t (0 : Fin 3) - 0) + 1 * (win1_13.index t (1 : Fin 3) - 0) + 1 * (win1_13.index t (2 : Fin 3) - 0) = t.val :=
  (by decide +kernel : ∀ t : Fin grid1.N, _)

/-- Every block of the box is SOME flushing point's: `onto13Pt`, the point that writes back the block at place `q` of the box. -/
abbrev onto13Pt (q0 : Fin 32) (q1 : Fin 1) (q2 : Fin 1) : Fin grid1.N :=
  ⟨1 * q0.val + 1 * q1.val + 1 * q2.val, lt_of_lt_of_eq (by omega) N_1.symm⟩

/-- Every block of output 13 is written back by some point. -/
theorem idx_onto13 : ∀ (q0 : Fin 32) (q1 : Fin 1) (q2 : Fin 1), ∃ t : Fin cfg1.N, (cfg1.win 13).flush t = true ∧ win1_13.index t = ![q0.val + 0, q1.val + 0, q2.val + 0] :=
  fun q0 q1 q2 => ⟨onto13Pt q0 q1 q2, (by decide +kernel : ∀ (q0 : Fin 32) (q1 : Fin 1) (q2 : Fin 1), win1_13.flush (onto13Pt q0 q1 q2) = true ∧ win1_13.index (onto13Pt q0 q1 q2) = ![q0.val + 0, q1.val + 0, q2.val + 0]) q0 q1 q2⟩

/-- WHAT A FLUSHING POINT `t` WRITES BACK is block `t` of `G13`: output 13's component of the fold up to `t`. -/
theorem flushed13_eq (c : Dev nD) (t : Fin cfg1.N) (hf : (cfg1.win 13).flush t = true) :
    (dat1 V c).flushed 13 t = ((cfg1.win 13).blk t).view.read (Elt F) (G13 V c) := by
  show (cfg1.win 13).cut (grid1.coords t) ((dat1 V c).after 13 t) = _
  rw [after1_13]
  obtain ⟨e0, e1, e2, e3⟩ := idx_facts13 t
  funext y
  have hy0 : (y 0).val < 1 := (y 0).isLt
  have hy1 : (y 1).val < 8 := (y 1).isLt
  have hy2 : (y 2).val < 32 := (y 2).isLt
  have hb0 : (((cfg1.win 13).blk t).view.emb y 0).val = win1_13.index t (0 : Fin 3) * 1 + 1 * (y 0).val := rfl
  have hb1 : (((cfg1.win 13).blk t).view.emb y 1).val = win1_13.index t (1 : Fin 3) * 8 + 1 * (y 1).val := rfl
  have hb2 : (((cfg1.win 13).blk t).view.emb y 2).val = win1_13.index t (2 : Fin 3) * 32 + 1 * (y 2).val := rfl
  have hr : run13Of (((cfg1.win 13).blk t).view.emb y) = t.val := by
    show 1 * ((((cfg1.win 13).blk t).view.emb y 0).val / 1 - 0) + 1 * ((((cfg1.win 13).blk t).view.emb y 1).val / 8 - 0) + 1 * ((((cfg1.win 13).blk t).view.emb y 2).val / 32 - 0) = _
    rw [hb0, hb1, hb2]
    rw [show (win1_13.index t (0 : Fin 3) * 1 + 1 * (y 0).val) / 1 = win1_13.index t (0 : Fin 3) from by omega]; rw [show (win1_13.index t (1 : Fin 3) * 8 + 1 * (y 1).val) / 8 = win1_13.index t (1 : Fin 3) from by omega]; rw [show (win1_13.index t (2 : Fin 3) * 32 + 1 * (y 2).val) / 32 = win1_13.index t (2 : Fin 3) from by omega]
    omega
  have hl : loc13Of (((cfg1.win 13).blk t).view.emb y) = (cfg1.win 13).xinj (grid1.coords t) y := by
    funext a; apply Fin.ext
    match a with
    | ⟨0, _⟩ => show (((cfg1.win 13).blk t).view.emb y 0).val % 1 = (y 0).val; rw [hb0]; omega
    | ⟨1, _⟩ => show (((cfg1.win 13).blk t).view.emb y 1).val % 8 = (y 1).val; rw [hb1]; omega
    | ⟨2, _⟩ => show (((cfg1.win 13).blk t).view.emb y 2).val % 32 = (y 2).val; rw [hb2]; omega
  have hp : pt13Of (((cfg1.win 13).blk t).view.emb y) = t.val := by
    exact hr
  show (outsAt1 V c t.val t.isLt).2.2.1 ((cfg1.win 13).xinj (grid1.coords t) y) = G13 V c (((cfg1.win 13).blk t).view.emb y)
  unfold G13
  rw [dif_pos (by rw [hp]; exact t.isLt), hl, outs_congr V c _ _ _ _ hp.symm]

/-- An index of the array is in point `t`'s block iff each coordinate is in the block's range on its axis. -/
theorem mem_blk13 (t : Fin cfg1.N) (i : S32x8x32.Idx) :
    i ∈ ((cfg1.win 13).blk t).view.set ↔ ∀ a : Fin 3, win1_13.index t a * S1x8x32.size a ≤ (i a).val ∧ (i a).val < win1_13.index t a * S1x8x32.size a + S1x8x32.size a := by
  show i ∈ ((View.whole main_v11_2).slice (win1_13.rect t)).set ↔ _
  rw [View.set_slice_whole, Rect.mem_set_unit]
  exact Iff.rfl

/-- THE COVERED INDICES: in some flushing point's block iff inside the box those blocks fill. -/
theorem covered_iff13 (i : S32x8x32.Idx) :
    (∃ t : Fin cfg1.N, (cfg1.win 13).flush t = true ∧ i ∈ ((cfg1.win 13).blk t).view.set) ↔ 0 ≤ (i 0).val ∧ (i 0).val < 32 ∧ 0 ≤ (i 1).val ∧ (i 1).val < 8 ∧ 0 ≤ (i 2).val ∧ (i 2).val < 32 := by
  constructor
  · rintro ⟨t, -, hi⟩
    rw [mem_blk13] at hi
    have b0 : win1_13.index t (0 : Fin 3) * 1 ≤ (i 0).val ∧ (i 0).val < win1_13.index t (0 : Fin 3) * 1 + 1 := hi 0
    have b1 : win1_13.index t (1 : Fin 3) * 8 ≤ (i 1).val ∧ (i 1).val < win1_13.index t (1 : Fin 3) * 8 + 8 := hi 1
    have b2 : win1_13.index t (2 : Fin 3) * 32 ≤ (i 2).val ∧ (i 2).val < win1_13.index t (2 : Fin 3) * 32 + 32 := hi 2
    obtain ⟨e0, e1, e2, e3⟩ := idx_facts13 t
    omega
  · intro h
    have hi0 : (i 0).val < 32 := (i 0).isLt
    have hi1 : (i 1).val < 8 := (i 1).isLt
    have hi2 : (i 2).val < 32 := (i 2).isLt
    obtain ⟨t, hft, ht⟩ := idx_onto13 ⟨(i 0).val / 1 - 0, by omega⟩ ⟨(i 1).val / 8 - 0, by omega⟩ ⟨(i 2).val / 32 - 0, by omega⟩
    have q0 : win1_13.index t (0 : Fin 3) = (i 0).val / 1 - 0 + 0 := congrFun ht 0
    have q1 : win1_13.index t (1 : Fin 3) = (i 1).val / 8 - 0 + 0 := congrFun ht 1
    have q2 : win1_13.index t (2 : Fin 3) = (i 2).val / 32 - 0 + 0 := congrFun ht 2
    refine ⟨t, hft, ?_⟩
    rw [mem_blk13]
    intro a
    match a with
    | ⟨0, _⟩ => show win1_13.index t (0 : Fin 3) * 1 ≤ (i 0).val ∧ (i 0).val < win1_13.index t (0 : Fin 3) * 1 + 1; omega
    | ⟨1, _⟩ => show win1_13.index t (1 : Fin 3) * 8 ≤ (i 1).val ∧ (i 1).val < win1_13.index t (1 : Fin 3) * 8 + 8; omega
    | ⟨2, _⟩ => show win1_13.index t (2 : Fin 3) * 32 ≤ (i 2).val ∧ (i 2).val < win1_13.index t (2 : Fin 3) * 32 + 32; omega

/-- THE ARRAY after the run: `G13` (the flushing blocks tile it). -/
theorem final13 (c : Dev nD) : (dat1 V c).arrAt 13 cfg1.N = G13 V c :=
  (dat1 V c).arrAt_eq_of_cover 13 _ (fun t hf => flushed13_eq V c t hf) (fun i => (covered_iff13 i).2 (by
    have h0 : (i 0).val < 32 := (i 0).isLt; have h1 : (i 1).val < 8 := (i 1).isLt; have h2 : (i 2).val < 32 := (i 2).isLt; omega))

end Cert.KernelIdeal.Rim

end
-- ==== Proof.Rim.Steps.lean ====
module

public import proofs.«01_k».proof.Proof.Rim.Cases
public import proofs.«01_k».proof.Proof.Rim.Value

@[expose] public section
noncomputable section

/-! # The kernel's grid as the scan

The input blocks of a grid point are read off the arrays the region finds, and by induction over the points the carried
state is the scan's. -/

namespace Cert.KernelIdeal.Rim
open Cert.KernelIdeal Cert.KernelIdeal.Gen Cert.KernelIdeal.Chain Cert.Scan Idealize.ShloMosaic Idealize.ShloMosaic.TcCoe
set_option maxRecDepth 16384

variable (V : (c : Dev nD) → (b : Ref sig .tc) → Buf (Elt Ideal) ((c : Thread nD τ).loc b)) (c : Dev nD)

/-- Window 0's block at a point is the point's. -/
theorem idx_at0 : ∀ t : Fin cfg1.N, win1_0.index t (0 : Fin 2) = t.val ∧ win1_0.index t (1 : Fin 2) = 0 :=
  (by decide +kernel : ∀ t : Fin grid1.N, _)

/-- The block of the projected inputs at a point. -/
theorem iblk0_apply (t : Fin cfg1.N) (b : Fin 32) (e : Fin 128) (h : t.val * 32 + b.val < 1024) :
    (iblk V c 0 t : FVec Ideal S32x128 .f32) (ix2 b e) = (V c main_v3 : FVec Ideal S1024x128 .f32) (ix2 ⟨t.val * 32 + b.val, h⟩ e) := by
  obtain ⟨e0, e1⟩ := idx_at0 t
  show (V c main_v3 : FVec Ideal S1024x128 .f32) (((cfg1.win 0).blk t).view.emb (ix2 b e)) = _
  congr 1
  funext a; apply Fin.ext
  match a with
  | ⟨0, _⟩ => show win1_0.index t (0 : Fin 2) * 32 + 1 * b.val = t.val * 32 + b.val; omega
  | ⟨1, _⟩ => show win1_0.index t (1 : Fin 2) * 128 + 1 * e.val = e.val; omega

/-- Window 1's block index is zero at every point. -/
theorem idx_zero1 : ∀ t : Fin cfg1.N, win1_1.index t (0 : Fin 2) = 0 ∧ win1_1.index t (1 : Fin 2) = 0 :=
  (by decide +kernel : ∀ t : Fin grid1.N, _)

/-- Window 1's block is its whole array. -/
theorem emb1 (t : Fin cfg1.N) (j : S256x256.Idx) : ((cfg1.win 1).blk t).view.emb j = j := by
  obtain ⟨e0, e1⟩ := idx_zero1 t
  funext a; apply Fin.ext
  match a with
  | ⟨0, _⟩ => show win1_1.index t (0 : Fin 2) * 256 + 1 * (j 0).val = (j 0).val; omega
  | ⟨1, _⟩ => show win1_1.index t (1 : Fin 2) * 256 + 1 * (j 1).val = (j 1).val; omega

/-- Window 1's block is its array at every point. -/
theorem iblk1_eq (t : Fin cfg1.N) : iblk V c 1 t = V c main_v6 := by
  funext j; show V c main_v6 (((cfg1.win 1).blk t).view.emb j) = V c main_v6 j; rw [emb1]

/-- Window 2's block index is zero at every point. -/
theorem idx_zero2 : ∀ t : Fin cfg1.N, win1_2.index t (0 : Fin 2) = 0 ∧ win1_2.index t (1 : Fin 2) = 0 :=
  (by decide +kernel : ∀ t : Fin grid1.N, _)

/-- Window 2's block is its whole array. -/
theorem emb2 (t : Fin cfg1.N) (j : S256x64.Idx) : ((cfg1.win 2).blk t).view.emb j = j := by
  obtain ⟨e0, e1⟩ := idx_zero2 t
  funext a; apply Fin.ext
  match a with
  | ⟨0, _⟩ => show win1_2.index t (0 : Fin 2) * 256 + 1 * (j 0).val = (j 0).val; omega
  | ⟨1, _⟩ => show win1_2.index t (1 : Fin 2) * 64 + 1 * (j 1).val = (j 1).val; omega

/-- Window 2's block is its array at every point. -/
theorem iblk2_eq (t : Fin cfg1.N) : iblk V c 2 t = V c main_arg5 := by
  funext j; show V c main_arg5 (((cfg1.win 2).blk t).view.emb j) = V c main_arg5 j; rw [emb2]

/-- Window 3's block index is zero at every point. -/
theorem idx_zero3 : ∀ t : Fin cfg1.N, win1_3.index t (0 : Fin 3) = 0 ∧ win1_3.index t (1 : Fin 3) = 0 ∧ win1_3.index t (2 : Fin 3) = 0 :=
  (by decide +kernel : ∀ t : Fin grid1.N, _)

/-- Window 3's block is its whole array. -/
theorem emb3 (t : Fin cfg1.N) (j : S8x64x768.Idx) : ((cfg1.win 3).blk t).view.emb j = j := by
  obtain ⟨e0, e1, e2⟩ := idx_zero3 t
  funext a; apply Fin.ext
  match a with
  | ⟨0, _⟩ => show win1_3.index t (0 : Fin 3) * 8 + 1 * (j 0).val = (j 0).val; omega
  | ⟨1, _⟩ => show win1_3.index t (1 : Fin 3) * 64 + 1 * (j 1).val = (j 1).val; omega
  | ⟨2, _⟩ => show win1_3.index t (2 : Fin 3) * 768 + 1 * (j 2).val = (j 2).val; omega

/-- Window 3's block is its array at every point. -/
theorem iblk3_eq (t : Fin cfg1.N) : iblk V c 3 t = V c main_arg8 := by
  funext j; show V c main_arg8 (((cfg1.win 3).blk t).view.emb j) = V c main_arg8 j; rw [emb3]

/-- Window 4's block index is zero at every point. -/
theorem idx_zero4 : ∀ t : Fin cfg1.N, win1_4.index t (0 : Fin 3) = 0 ∧ win1_4.index t (1 : Fin 3) = 0 ∧ win1_4.index t (2 : Fin 3) = 0 :=
  (by decide +kernel : ∀ t : Fin grid1.N, _)

/-- Window 4's block is its whole array. -/
theorem emb4 (t : Fin cfg1.N) (j : S8x256x768.Idx) : ((cfg1.win 4).blk t).view.emb j = j := by
  obtain ⟨e0, e1, e2⟩ := idx_zero4 t
  funext a; apply Fin.ext
  match a with
  | ⟨0, _⟩ => show win1_4.index t (0 : Fin 3) * 8 + 1 * (j 0).val = (j 0).val; omega
  | ⟨1, _⟩ => show win1_4.index t (1 : Fin 3) * 256 + 1 * (j 1).val = (j 1).val; omega
  | ⟨2, _⟩ => show win1_4.index t (2 : Fin 3) * 768 + 1 * (j 2).val = (j 2).val; omega

/-- Window 4's block is its array at every point. -/
theorem iblk4_eq (t : Fin cfg1.N) : iblk V c 4 t = V c main_arg9 := by
  funext j; show V c main_arg9 (((cfg1.win 4).blk t).view.emb j) = V c main_arg9 j; rw [emb4]

/-- Window 5's block index is zero at every point. -/
theorem idx_zero5 : ∀ t : Fin cfg1.N, win1_5.index t (0 : Fin 2) = 0 ∧ win1_5.index t (1 : Fin 2) = 0 :=
  (by decide +kernel : ∀ t : Fin grid1.N, _)

/-- Window 5's block is its whole array. -/
theorem emb5 (t : Fin cfg1.N) (j : S256x768.Idx) : ((cfg1.win 5).blk t).view.emb j = j := by
  obtain ⟨e0, e1⟩ := idx_zero5 t
  funext a; apply Fin.ext
  match a with
  | ⟨0, _⟩ => show win1_5.index t (0 : Fin 2) * 256 + 1 * (j 0).val = (j 0).val; omega
  | ⟨1, _⟩ => show win1_5.index t (1 : Fin 2) * 768 + 1 * (j 1).val = (j 1).val; omega

/-- Window 5's block is its array at every point. -/
theorem iblk5_eq (t : Fin cfg1.N) : iblk V c 5 t = V c main_v8 := by
  funext j; show V c main_v8 (((cfg1.win 5).blk t).view.emb j) = V c main_v8 j; rw [emb5]

/-- Window 6's block index is zero at every point. -/
theorem idx_zero6 : ∀ t : Fin cfg1.N, win1_6.index t (0 : Fin 2) = 0 ∧ win1_6.index t (1 : Fin 2) = 0 :=
  (by decide +kernel : ∀ t : Fin grid1.N, _)

/-- Window 6's block is its whole array. -/
theorem emb6 (t : Fin cfg1.N) (j : S256x768.Idx) : ((cfg1.win 6).blk t).view.emb j = j := by
  obtain ⟨e0, e1⟩ := idx_zero6 t
  funext a; apply Fin.ext
  match a with
  | ⟨0, _⟩ => show win1_6.index t (0 : Fin 2) * 256 + 1 * (j 0).val = (j 0).val; omega
  | ⟨1, _⟩ => show win1_6.index t (1 : Fin 2) * 768 + 1 * (j 1).val = (j 1).val; omega

/-- Window 6's block is its array at every point. -/
theorem iblk6_eq (t : Fin cfg1.N) : iblk V c 6 t = V c main_v10 := by
  funext j; show V c main_v10 (((cfg1.win 6).blk t).view.emb j) = V c main_v10 j; rw [emb6]

/-- Window 7's block index is zero at every point. -/
theorem idx_zero7 : ∀ t : Fin cfg1.N, win1_7.index t (0 : Fin 2) = 0 ∧ win1_7.index t (1 : Fin 2) = 0 :=
  (by decide +kernel : ∀ t : Fin grid1.N, _)

/-- Window 7's block is its whole array. -/
theorem emb7 (t : Fin cfg1.N) (j : S256x128.Idx) : ((cfg1.win 7).blk t).view.emb j = j := by
  obtain ⟨e0, e1⟩ := idx_zero7 t
  funext a; apply Fin.ext
  match a with
  | ⟨0, _⟩ => show win1_7.index t (0 : Fin 2) * 256 + 1 * (j 0).val = (j 0).val; omega
  | ⟨1, _⟩ => show win1_7.index t (1 : Fin 2) * 128 + 1 * (j 1).val = (j 1).val; omega

/-- Window 7's block is its array at every point. -/
theorem iblk7_eq (t : Fin cfg1.N) : iblk V c 7 t = V c main_arg12 := by
  funext j; show V c main_arg12 (((cfg1.win 7).blk t).view.emb j) = V c main_arg12 j; rw [emb7]

/-- Window 8's block index is zero at every point. -/
theorem idx_zero8 : ∀ t : Fin cfg1.N, win1_8.index t (0 : Fin 2) = 0 ∧ win1_8.index t (1 : Fin 2) = 0 :=
  (by decide +kernel : ∀ t : Fin grid1.N, _)

/-- Window 8's block is its whole array. -/
theorem emb8 (t : Fin cfg1.N) (j : S256x128.Idx) : ((cfg1.win 8).blk t).view.emb j = j := by
  obtain ⟨e0, e1⟩ := idx_zero8 t
  funext a; apply Fin.ext
  match a with
  | ⟨0, _⟩ => show win1_8.index t (0 : Fin 2) * 256 + 1 * (j 0).val = (j 0).val; omega
  | ⟨1, _⟩ => show win1_8.index t (1 : Fin 2) * 128 + 1 * (j 1).val = (j 1).val; omega

/-- Window 8's block is its array at every point. -/
theorem iblk8_eq (t : Fin cfg1.N) : iblk V c 8 t = V c main_arg13 := by
  funext j; show V c main_arg13 (((cfg1.win 8).blk t).view.emb j) = V c main_arg13 j; rw [emb8]

/-- Window 9's block index is zero at every point. -/
theorem idx_zero9 : ∀ t : Fin cfg1.N, win1_9.index t (0 : Fin 2) = 0 ∧ win1_9.index t (1 : Fin 2) = 0 :=
  (by decide +kernel : ∀ t : Fin grid1.N, _)

/-- Window 9's block is its whole array. -/
theorem emb9 (t : Fin cfg1.N) (j : S256x128.Idx) : ((cfg1.win 9).blk t).view.emb j = j := by
  obtain ⟨e0, e1⟩ := idx_zero9 t
  funext a; apply Fin.ext
  match a with
  | ⟨0, _⟩ => show win1_9.index t (0 : Fin 2) * 256 + 1 * (j 0).val = (j 0).val; omega
  | ⟨1, _⟩ => show win1_9.index t (1 : Fin 2) * 128 + 1 * (j 1).val = (j 1).val; omega

/-- Window 9's block is its array at every point. -/
theorem iblk9_eq (t : Fin cfg1.N) : iblk V c 9 t = V c main_arg14 := by
  funext j; show V c main_arg14 (((cfg1.win 9).blk t).view.emb j) = V c main_arg14 j; rw [emb9]

/-- Window 10's block index is zero at every point. -/
theorem idx_zero10 : ∀ t : Fin cfg1.N, win1_10.index t (0 : Fin 2) = 0 ∧ win1_10.index t (1 : Fin 2) = 0 :=
  (by decide +kernel : ∀ t : Fin grid1.N, _)

/-- Window 10's block is its whole array. -/
theorem emb10 (t : Fin cfg1.N) (j : S128x256.Idx) : ((cfg1.win 10).blk t).view.emb j = j := by
  obtain ⟨e0, e1⟩ := idx_zero10 t
  funext a; apply Fin.ext
  match a with
  | ⟨0, _⟩ => show win1_10.index t (0 : Fin 2) * 128 + 1 * (j 0).val = (j 0).val; omega
  | ⟨1, _⟩ => show win1_10.index t (1 : Fin 2) * 256 + 1 * (j 1).val = (j 1).val; omega

/-- Window 10's block is its array at every point. -/
theorem iblk10_eq (t : Fin cfg1.N) : iblk V c 10 t = V c main_arg15 := by
  funext j; show V c main_arg15 (((cfg1.win 10).blk t).view.emb j) = V c main_arg15 j; rw [emb10]

/-- What point `t` loads. -/
def ldAt (t : Fin cfg1.N) : Ld :=
  lds (iblk V c 0 t) (iblk V c 2 t) (iblk V c 3 t) (iblk V c 4 t) (iblk V c 5 t) (iblk V c 6 t) (iblk V c 7 t) (iblk V c 8 t) (iblk V c 9 t) (iblk V c 10 t)

/-- The state before point `t`. -/
def st : ℕ → FVec Ideal S256x256 .f32
  | 0 => k1_pay1 (F := Ideal) (V c main_v6)
  | t + 1 => if h : t < cfg1.N then next73 (ldAt V c ⟨t, h⟩) (st t) else st t

/-- The state after a point is the next state of the one before it. -/
theorem st_succ (t : Fin cfg1.N) : st V c (t.val + 1) = next73 (ldAt V c t) (st V c t.val) := dif_pos t.isLt

/-- What each point leaves: the new state, the mask, and the state carried on. -/
theorem outs_eq : ∀ (n : ℕ) (hn : n < cfg1.N),
    (outsAt1 V c n hn).1 = next71 (ldAt V c ⟨n, hn⟩) (st V c n) ∧ (outsAt1 V c n hn).2.2.1 = mask72 (ldAt V c ⟨n, hn⟩) (st V c n)
      ∧ (outsAt1 V c n hn).2.2.2 = st V c (n + 1) ∧ (n = 31 → (outsAt1 V c n hn).2.1 = next70 (ldAt V c ⟨n, hn⟩) (st V c n)) := by
  intro n
  induction n with
  | zero =>
    intro hn
    have e := outsAt1_A V c ⟨0, hn⟩ (Nat.zero_mod 32) (by show ¬ 0 % 32 = 31; omega)
    have e' : outsAt1 V c 0 hn = _ := e
    rw [e', st_succ V c ⟨0, hn⟩]
    have h1 : st V c 0 = k1_pay1 (F := Ideal) (iblk V c 1 ⟨0, hn⟩) := by rw [iblk1_eq]; rfl
    rw [h1]
    unfold ldAt
    dsimp only
    exact ⟨by rw [out1_A_11_eq], by rw [out1_A_13_eq], by rw [sout1_A_0_eq], fun h => absurd h (by decide)⟩
  | succ n ih =>
    intro hn
    have hn' : n < cfg1.N := Nat.lt_of_succ_lt hn
    have ih := (ih hn').2.2.1
    have hN : n + 1 < 32 := lt_of_lt_of_eq hn (show cfg1.N = 32 from N_1)
    rw [st_succ V c ⟨n + 1, hn⟩]
    by_cases h1 : (n + 1) % 32 = 31
    · have e' : outsAt1 V c (n + 1) hn = _ := outsAt1_C V c ⟨n + 1, hn⟩ (by show ¬ (n + 1) % 32 = 0; omega) h1
      have ih' : (outsAt1 V c ((⟨n + 1, hn⟩ : Fin cfg1.N).val - 1) (Nat.lt_of_le_of_lt (Nat.sub_le _ _) hn)).2.2.2 = st V c (n + 1) := ih
      rw [e', ih']
      unfold ldAt
      dsimp only
      exact ⟨by rw [out1_C_11_eq], by rw [out1_C_13_eq], by rw [sout1_C_0_eq], fun _ => by rw [out1_C_12_eq]⟩
    · have e' : outsAt1 V c (n + 1) hn = _ := outsAt1_B V c ⟨n + 1, hn⟩ (by show ¬ (n + 1) % 32 = 0; omega) h1
      have ih' : (outsAt1 V c ((⟨n + 1, hn⟩ : Fin cfg1.N).val - 1) (Nat.lt_of_le_of_lt (Nat.sub_le _ _) hn)).2.2.2 = st V c (n + 1) := ih
      rw [e', ih']
      unfold ldAt
      dsimp only
      exact ⟨by rw [out1_B_11_eq], by rw [out1_B_13_eq], by rw [sout1_B_0_eq], fun h => absurd h (by omega)⟩

/-- The arrays the region finds hold the weights and the projected inputs. -/
structure Finds (W : Wt) (kx vx : ℕ → Fin 32 → Fin 64 → EReal) (h0 : Hid) : Prop where
  kx : ∀ (t : Fin 32) (b : Fin 32) (k : Fin 64), (V c main_v3 : FVec Ideal S1024x128 .f32) (ix2 ⟨t.val * 32 + b.val, by omega⟩ ⟨k.val, by omega⟩) = kx t b k
  vx : ∀ (t : Fin 32) (b : Fin 32) (k : Fin 64), (V c main_v3 : FVec Ideal S1024x128 .f32) (ix2 ⟨t.val * 32 + b.val, by omega⟩ ⟨64 + k.val, by omega⟩) = vx t b k
  h0 : hid (V c main_v6) = h0
  wq : ∀ d k, (V c main_arg5 : FVec Ideal S256x64 .f32) (ix2 d k) = W.wq d k
  wx : ∀ n k j, (V c main_arg8 : FVec Ideal S8x64x768 .f32) (ix3 n k j) = W.wx n k j
  wh : ∀ n k j, (V c main_arg9 : FVec Ideal S8x256x768 .f32) (ix3 n k j) = W.wh n k j
  bx : ∀ n b j, (V c main_v8 : FVec Ideal S256x768 .f32) (ix2 (PayMath.row n b) j) = W.bx n j
  bh : ∀ n b j, (V c main_v10 : FVec Ideal S256x768 .f32) (ix2 (PayMath.row n b) j) = W.bh n j
  wqc : ∀ d e, (V c main_arg12 : FVec Ideal S256x128 .f32) (ix2 d e) = W.wqc d e
  wkc : ∀ d e, (V c main_arg13 : FVec Ideal S256x128 .f32) (ix2 d e) = W.wkc d e
  wvc : ∀ d e, (V c main_arg14 : FVec Ideal S256x128 .f32) (ix2 d e) = W.wvc d e
  wo : ∀ e d, (V c main_arg15 : FVec Ideal S128x256 .f32) (ix2 e d) = W.wo e d

variable {V c} {W : Wt} {kx vx : ℕ → Fin 32 → Fin 64 → EReal} {h0 : Hid}

/-- What a point loads holds the weights and its own projected inputs. -/
theorem holds_at (H : Finds V c W kx vx h0) (t : Fin cfg1.N) : Holds (ldAt V c t) W (kx t.val) (vx t.val) := by
  have ht : t.val < 32 := lt_of_lt_of_eq t.isLt (show cfg1.N = 32 from N_1)
  unfold ldAt
  rw [iblk2_eq, iblk3_eq, iblk4_eq, iblk5_eq, iblk6_eq, iblk7_eq, iblk8_eq, iblk9_eq, iblk10_eq]
  refine ⟨fun b k => ?_, fun b k => ?_, H.wq, fun n k j => ?_, H.bx, fun n k j => ?_, H.bh, H.wqc, H.wkc, H.wvc, H.wo⟩
  · refine Eq.trans ?_ (H.kx ⟨t.val, ht⟩ b k)
    refine Eq.trans ?_ (iblk0_apply V c t b ⟨k.val, by omega⟩ (by omega))
    refine congrArg (iblk V c 0 t : FVec Ideal S32x128 .f32) (funext fun a => Fin.ext ?_)
    match a with
    | ⟨0, _⟩ => show 0 + 1 * b.val = b.val; omega
    | ⟨1, _⟩ => show 0 + 1 * k.val = k.val; omega
  · refine Eq.trans ?_ (H.vx ⟨t.val, ht⟩ b k)
    refine Eq.trans ?_ (iblk0_apply V c t b ⟨64 + k.val, by omega⟩ (by omega))
    refine congrArg (iblk V c 0 t : FVec Ideal S32x128 .f32) (funext fun a => Fin.ext ?_)
    match a with
    | ⟨0, _⟩ => show 0 + 1 * b.val = b.val; omega
    | ⟨1, _⟩ => show 64 + 1 * k.val = 64 + k.val; omega
  · refine Eq.trans ?_ (H.wx n k j)
    show ldx (V c main_arg8) n (ix3 0 k j) = _
    fin_cases n <;>
    · refine congrArg (V c main_arg8 : FVec Ideal S8x64x768 .f32) (funext fun a => Fin.ext ?_)
      match a with
      | ⟨0, _⟩ => rfl
      | ⟨1, _⟩ => show 0 + 1 * k.val = k.val; omega
      | ⟨2, _⟩ => show 0 + 1 * j.val = j.val; omega
  · refine Eq.trans ?_ (H.wh n k j)
    show ldh (V c main_arg9) n (ix3 0 k j) = _
    fin_cases n <;>
    · refine congrArg (V c main_arg9 : FVec Ideal S8x256x768 .f32) (funext fun a => Fin.ext ?_)
      match a with
      | ⟨0, _⟩ => rfl
      | ⟨1, _⟩ => show 0 + 1 * k.val = k.val; omega
      | ⟨2, _⟩ => show 0 + 1 * j.val = j.val; omega

/-- The state before each point is the scan's. -/
theorem hid_st (H : Finds V c W kx vx h0) (n : ℕ) (hn : n ≤ 32) : hid (st V c n) = states W kx vx h0 n := by
  induction n with
  | zero =>
    show hid (k1_pay1 (F := Ideal) (V c main_v6)) = h0
    rw [← H.h0]
    congr 1
    funext i
    idx_vars i
    pointwise [k1_pay1]
  | succ n ih =>
    have hN : n < cfg1.N := lt_of_lt_of_eq (show n < 32 by omega) (show cfg1.N = 32 from N_1).symm
    rw [st_succ V c ⟨n, hN⟩, next73_hid (holds_at H ⟨n, hN⟩), ih (by omega)]
    rfl

/-- The array of the new states. -/
theorem G11_apply (H : Finds V c W kx vx h0) (t : Fin 32) (n : Fin 8) (b : Fin 32) (d : Fin 256) :
    (G11 V c : FVec Ideal S32x256x256 .f32) (ix3 t (PayMath.row n b) d) = states W kx vx h0 (t.val + 1) n b d := by
  have hp : pt11Of (ix3 t (PayMath.row n b) d) = t.val := by
    show 1 * (t.val / 1 - 0) + 1 * ((n.val * 32 + b.val) / 256 - 0) + 1 * (d.val / 256 - 0) = t.val
    omega
  have hN : t.val < cfg1.N := lt_of_lt_of_eq t.isLt (show cfg1.N = 32 from N_1).symm
  have hl : loc11Of (ix3 t (PayMath.row n b) d) = ix3 0 (PayMath.row n b) d := by
    funext a; apply Fin.ext
    match a with
    | ⟨0, _⟩ => show t.val % 1 = 0; omega
    | ⟨1, _⟩ => show (n.val * 32 + b.val) % 256 = n.val * 32 + b.val; omega
    | ⟨2, _⟩ => show d.val % 256 = d.val; omega
  unfold G11
  rw [dif_pos (by rw [hp]; exact hN), hl, outs_congr V c _ _ t.val hN hp, (outs_eq V c t.val hN).1, next71_apply (holds_at H ⟨t.val, hN⟩), hid_st H t.val (by omega)]
  rfl

/-- The array of the last state. -/
theorem G12_apply (H : Finds V c W kx vx h0) (n : Fin 8) (b : Fin 32) (d : Fin 256) :
    (G12 V c : FVec Ideal S256x256 .f32) (ix2 (PayMath.row n b) d) = states W kx vx h0 32 n b d := by
  have hp : pt12Of (ix2 (PayMath.row n b) d) = 31 := by
    show 32 * (1 * ((n.val * 32 + b.val) / 256 - 0) + 1 * (d.val / 256 - 0)) + 31 = 31
    omega
  have hN : 31 < cfg1.N := lt_of_lt_of_eq (by decide) (show cfg1.N = 32 from N_1).symm
  have hl : loc12Of (ix2 (PayMath.row n b) d) = ix2 (PayMath.row n b) d := by
    funext a; apply Fin.ext
    match a with
    | ⟨0, _⟩ => show (n.val * 32 + b.val) % 256 = n.val * 32 + b.val; omega
    | ⟨1, _⟩ => show d.val % 256 = d.val; omega
  unfold G12
  rw [dif_pos (by rw [hp]; exact hN), hl, outs_congr V c _ _ 31 hN hp, (outs_eq V c 31 hN).2.2.2 rfl, next70_apply (holds_at H ⟨31, hN⟩), hid_st H 31 (by omega)]
  rfl

/-- The array of the masks. -/
theorem G13_apply (H : Finds V c W kx vx h0) (t : Fin 32) (n : Fin 8) (b : Fin 32) :
    (G13 V c : FVec Ideal S32x8x32 .f32) (ix3 t n b) = mask W (kx t.val) (states W kx vx h0 t.val) n b := by
  have hp : pt13Of (ix3 t n b) = t.val := by
    show 1 * (t.val / 1 - 0) + 1 * (n.val / 8 - 0) + 1 * (b.val / 32 - 0) = t.val
    omega
  have hN : t.val < cfg1.N := lt_of_lt_of_eq t.isLt (show cfg1.N = 32 from N_1).symm
  have hl : loc13Of (ix3 t n b) = ix3 0 n b := by
    funext a; apply Fin.ext
    match a with
    | ⟨0, _⟩ => show t.val % 1 = 0; omega
    | ⟨1, _⟩ => show n.val % 8 = n.val; omega
    | ⟨2, _⟩ => show b.val % 32 = b.val; omega
  unfold G13
  rw [dif_pos (by rw [hp]; exact hN), hl, outs_congr V c _ _ t.val hN hp, (outs_eq V c t.val hN).2.1, mask72_apply (holds_at H ⟨t.val, hN⟩), hid_st H t.val (by omega)]

end Cert.KernelIdeal.Rim
end
-- ==== Proof.Rim.Ends.lean ====
module

public import proofs.«01_k».proof.Proof.Rim.Steps
public import proofs.«01_k».proof.Proof.Rim.Whole
public import Idealize.ShloMosaic.Lib.StableHlo.ReadAt

@[expose] public section
noncomputable section

/-! # The kernel's results

The host operations before, between and after the two calls, read at an element: the arrays the second call finds hold the
scan's data, and the three results are the scan's states and masks. -/

namespace Cert.KernelIdeal.Ends
open Cert.KernelIdeal Cert.KernelIdeal.Gen Cert.KernelIdeal.Whole Cert.KernelIdeal.PayMath Cert.KernelIdeal.Rim Cert.Scan Idealize.ShloMosaic Idealize.ShloMosaic.TcCoe
set_option maxRecDepth 16384
set_option maxHeartbeats 1000000

variable (m : (ℓ : Loc nD τ sig) → Buf (Elt Ideal) ℓ) (c : Dev nD)

/-- Feature `d` of block `n` in a row of the reference's layout. -/
abbrev col (n : Fin 8) (d : Fin 256) : Fin 2048 := ⟨n.val * 256 + d.val, by omega⟩

/-- The kernel's arguments. -/
def args : Args where
  a0 := fun t b y => (m ((c : Thread nD τ).loc main_arg0) : FVec Ideal S32x32x1024 .f32) (ix3 t b y)
  h := fun n b d => (m ((c : Thread nD τ).loc main_arg1) : FVec Ideal S1x32x2048 .f32) (ix3 0 b (col n d))
  a3 := fun y x => (m ((c : Thread nD τ).loc main_arg3) : FVec Ideal S1024x1024 .f32) (ix2 y x)
  a4 := fun x => (m ((c : Thread nD τ).loc main_arg4) : FVec Ideal S1024 .f32) (ix1 x)
  a6 := fun x k => (m ((c : Thread nD τ).loc main_arg6) : FVec Ideal S1024x64 .f32) (ix2 x k)
  a7 := fun x k => (m ((c : Thread nD τ).loc main_arg7) : FVec Ideal S1024x64 .f32) (ix2 x k)
  W :=
    { wq := fun d k => (m ((c : Thread nD τ).loc main_arg5) : FVec Ideal S256x64 .f32) (ix2 d k)
      wx := fun n k j => (m ((c : Thread nD τ).loc main_arg8) : FVec Ideal S8x64x768 .f32) (ix3 n k j)
      bx := fun n j => (m ((c : Thread nD τ).loc main_arg10) : FVec Ideal S8x768 .f32) (ix2 n j)
      wh := fun n k j => (m ((c : Thread nD τ).loc main_arg9) : FVec Ideal S8x256x768 .f32) (ix3 n k j)
      bh := fun n j => (m ((c : Thread nD τ).loc main_arg11) : FVec Ideal S8x768 .f32) (ix2 n j)
      wqc := fun d e => (m ((c : Thread nD τ).loc main_arg12) : FVec Ideal S256x128 .f32) (ix2 d e)
      wkc := fun d e => (m ((c : Thread nD τ).loc main_arg13) : FVec Ideal S256x128 .f32) (ix2 d e)
      wvc := fun d e => (m ((c : Thread nD τ).loc main_arg14) : FVec Ideal S256x128 .f32) (ix2 d e)
      wo := fun e d => (m ((c : Thread nD τ).loc main_arg15) : FVec Ideal S128x256 .f32) (ix2 e d) }

/-- A buffer the first host operations and the first call do not write. -/
theorem U2_keeps (r : Ref sig .tc) (h0 : r ∉ hostOps0_W) (k0 : ∀ w, Pipeline.arrRef spec0 w = r → (cfg0.win w).isOut = false) :
    U2 m c (Proc.devRef .tc r) = m ((c : Thread nD τ).loc r) := by
  unfold U2; rw [Pipeline.afterRegion_keeps (D0 m c) (U1 m c) winFacts0.arr_inj (A0 m c) r k0]
  unfold U1; rw [StableHlo.after_of_writes_sub hostOps0 _ hostOps0_writes h0]

/-- A buffer that nothing before the second call writes. -/
theorem U3_keeps (r : Ref sig .tc) (h0 : r ∉ hostOps0_W) (h1 : r ∉ hostOps1_W) (k0 : ∀ w, Pipeline.arrRef spec0 w = r → (cfg0.win w).isOut = false) :
    U3 m c (Proc.devRef .tc r) = m ((c : Thread nD τ).loc r) := by
  unfold U3; rw [StableHlo.after_of_writes_sub hostOps1 _ hostOps1_writes h1]
  exact U2_keeps m c r h0 k0

/-- The projection weights: the key weights beside the value weights. -/
theorem U1_v0 (x : Fin 1024) (e : Fin 128) : (U1 m c (Proc.devRef .tc main_v0) : FVec Ideal S1024x128 .f32) (ix2 x e)
    = if h : e.val < 64 then (args m c).a6 x ⟨e.val, h⟩ else (args m c).a7 x ⟨e.val - 64, by omega⟩ := by
  unfold U1
  after_reads_at
  rfl

/-- The inputs as rows, one for each step and batch. -/
theorem U1_v1 (t b : Fin 32) (y : Fin 1024) : (U1 m c (Proc.devRef .tc main_v1) : FVec Ideal S1024x1024 .f32) (ix2 ⟨t.val * 32 + b.val, by omega⟩ y) = (args m c).a0 t b y := by
  unfold U1
  after_reads_at
  rfl

/-- The encoder's bias as a row. -/
theorem U1_v2 (x : Fin 1024) : (U1 m c (Proc.devRef .tc main_v2) : FVec Ideal S1x1024 .f32) (ix2 0 x) = (args m c).a4 x := by
  unfold U1
  after_reads_at
  rfl

/-- The encoder's weights as launched. -/
theorem U1_arg3 (y x : Fin 1024) : (U1 m c (Proc.devRef .tc main_arg3) : FVec Ideal S1024x1024 .f32) (ix2 y x) = (args m c).a3 y x := by
  unfold U1; rw [StableHlo.after_of_writes_sub hostOps0 _ hostOps0_writes (by decide)]
  rfl

/-- The projection call at an element: the encoder's product and bias, through the projection weights. -/
theorem G4_apply (a0 a1 : FVec Ideal S1024x1024 .f32) (a2 : FVec Ideal S1x1024 .f32) (a3 : FVec Ideal S1024x128 .f32) (r : Fin 1024) (e : Fin 128) :
    k0_pay1 (F := Ideal) a0 a1 a2 a3 (ix2 r e) = ∑ x, ((∑ y, a0 (ix2 r y) * a1 (ix2 y x)) + a2 (ix2 0 x)) * a3 (ix2 x e) := by
  pointwise [k0_pay1]

/-- The projected inputs. -/
theorem U3_v3 : U3 m c (Proc.devRef .tc main_v3) = k0_pay1 (F := Ideal) (U1 m c (Proc.devRef .tc main_v1)) (U1 m c (Proc.devRef .tc main_arg3)) (U1 m c (Proc.devRef .tc main_v2)) (U1 m c (Proc.devRef .tc main_v0)) := by
  unfold U3; rw [StableHlo.after_of_writes_sub hostOps1 _ hostOps1_writes (by decide)]
  exact (Pipeline.afterRegion_arr (D0 m c) (U1 m c) winFacts0.arr_inj 4).trans (Prep.final4 (fun c b => U1 m c (Proc.devRef .tc b)) c)

/-- The projected inputs at a step, a batch and a column. -/
theorem U3_v3_apply (t b : Fin 32) (e : Fin 128) : (U3 m c (Proc.devRef .tc main_v3) : FVec Ideal S1024x128 .f32) (ix2 ⟨t.val * 32 + b.val, by omega⟩ e)
    = ∑ x, emb (args m c) t b x * (if h : e.val < 64 then (args m c).a6 x ⟨e.val, h⟩ else (args m c).a7 x ⟨e.val - 64, by omega⟩) := by
  rw [U3_v3]
  refine (G4_apply _ _ _ _ _ _).trans ?_
  refine Finset.sum_congr rfl fun x _ => congrArg₂ (· * ·) (congrArg₂ (· + ·) (Finset.sum_congr rfl fun y _ => congrArg₂ (· * ·) ?_ ?_) ?_) ?_
  · exact U1_v1 m c t b y
  · exact U1_arg3 m c y x
  · exact U1_v2 m c x
  · exact U1_v0 m c x e

/-- The state before the first step, by block and batch. -/
theorem U3_v6 (n : Fin 8) (b : Fin 32) (d : Fin 256) : (U3 m c (Proc.devRef .tc main_v6) : FVec Ideal S256x256 .f32) (ix2 (row n b) d) = (args m c).h n b d := by
  have e := U2_keeps m c main_arg1 (by decide) (by decide)
  unfold U3
  generalize U2 m c = V at e ⊢
  after_reads_at
  rw [e]
  exact congrArg (m ((c : Thread nD τ).loc main_arg1) : FVec Ideal S1x32x2048 .f32) (congrArg₂ (ix3 0) (Fin.ext (show (n.val * 32 + b.val) % 32 = b.val by omega)) (Fin.ext (show (n.val * 32 + b.val) / 32 * 256 + d.val = n.val * 256 + d.val by omega)))

/-- The input gate biases, repeated for every batch. -/
theorem U3_v8 (n : Fin 8) (b : Fin 32) (j : Fin 768) : (U3 m c (Proc.devRef .tc main_v8) : FVec Ideal S256x768 .f32) (ix2 (row n b) j) = (args m c).W.bx n j := by
  have e := U2_keeps m c main_arg10 (by decide) (by decide)
  unfold U3
  generalize U2 m c = V at e ⊢
  after_reads_at
  rw [e]
  exact congrArg (m ((c : Thread nD τ).loc main_arg10) : FVec Ideal S8x768 .f32) (congrArg₂ ix2 (Fin.ext (show (n.val * 32 + b.val) / 32 = n.val by omega)) rfl)

/-- The hidden gate biases, repeated for every batch. -/
theorem U3_v10 (n : Fin 8) (b : Fin 32) (j : Fin 768) : (U3 m c (Proc.devRef .tc main_v10) : FVec Ideal S256x768 .f32) (ix2 (row n b) j) = (args m c).W.bh n j := by
  have e := U2_keeps m c main_arg11 (by decide) (by decide)
  unfold U3
  generalize U2 m c = V at e ⊢
  after_reads_at
  rw [e]
  exact congrArg (m ((c : Thread nD τ).loc main_arg11) : FVec Ideal S8x768 .f32) (congrArg₂ ix2 (Fin.ext (show (n.val * 32 + b.val) / 32 = n.val by omega)) rfl)

/-- What the recurrent call finds in its arrays, said with the scan's arguments. -/
theorem finds : Finds (fun c b => U3 m c (Proc.devRef .tc b)) c (args m c).W (through (args m c) (args m c).a6) (through (args m c) (args m c).a7) (args m c).h where
  kx t b k := by
    refine (U3_v3_apply m c t b ⟨k.val, by omega⟩).trans ?_
    simp only [through, t.isLt, k.isLt, dite_true, Fin.eta]
  vx t b k := by
    refine (U3_v3_apply m c t b ⟨64 + k.val, by omega⟩).trans ?_
    simp only [through, t.isLt, dite_true, Fin.eta, show ¬ 64 + k.val < 64 by omega, dite_false, Nat.add_sub_cancel_left]
  h0 := by
    funext n b d; exact U3_v6 m c n b d
  wq d k := congrFun (U3_keeps m c main_arg5 (by decide) (by decide) (by decide)) (ix2 d k)
  wx n k j := congrFun (U3_keeps m c main_arg8 (by decide) (by decide) (by decide)) (ix3 n k j)
  wh n k j := congrFun (U3_keeps m c main_arg9 (by decide) (by decide) (by decide)) (ix3 n k j)
  bx n b j := U3_v8 m c n b j
  bh n b j := U3_v10 m c n b j
  wqc d e := congrFun (U3_keeps m c main_arg12 (by decide) (by decide) (by decide)) (ix2 d e)
  wkc d e := congrFun (U3_keeps m c main_arg13 (by decide) (by decide) (by decide)) (ix2 d e)
  wvc d e := congrFun (U3_keeps m c main_arg14 (by decide) (by decide) (by decide)) (ix2 d e)
  wo e d := congrFun (U3_keeps m c main_arg15 (by decide) (by decide) (by decide)) (ix2 e d)

/-- Output 11's array after the recurrent call. -/
theorem U4_11 : U4 m c (Proc.devRef .tc main_v11_0) = G11 (fun c b => U3 m c (Proc.devRef .tc b)) c :=
  (Pipeline.afterRegion_arr (D1 m c) (U3 m c) winFacts1.arr_inj 11).trans (final11 (fun c b => U3 m c (Proc.devRef .tc b)) c)

/-- Output 12's array after the recurrent call. -/
theorem U4_12 : U4 m c (Proc.devRef .tc main_v11_1) = G12 (fun c b => U3 m c (Proc.devRef .tc b)) c :=
  (Pipeline.afterRegion_arr (D1 m c) (U3 m c) winFacts1.arr_inj 12).trans (final12 (fun c b => U3 m c (Proc.devRef .tc b)) c)

/-- Output 13's array after the recurrent call. -/
theorem U4_13 : U4 m c (Proc.devRef .tc main_v11_2) = G13 (fun c b => U3 m c (Proc.devRef .tc b)) c :=
  (Pipeline.afterRegion_arr (D1 m c) (U3 m c) winFacts1.arr_inj 13).trans (final13 (fun c b => U3 m c (Proc.devRef .tc b)) c)

/-- The first result: the state after each step. -/
theorem U5_v14 (t : Fin 32) (b : Fin 32) (n : Fin 8) (d : Fin 256) :
    (U5 m c (Proc.devRef .tc main_v14) : FVec Ideal S32x32x2048 .f32) (ix3 t b (col n d)) = stateAt (args m c) (t.val + 1) n b d := by
  refine Eq.trans ?_ (G11_apply (finds m c) t n b d)
  have hG := U4_11 m c
  generalize G11 (fun c b => U3 m c (Proc.devRef .tc b)) c = G at hG ⊢
  unfold U5
  generalize U4 m c = V at hG ⊢
  after_reads_at
  rw [hG]
  exact congrArg (G : FVec Ideal S32x256x256 .f32) (congrArg₂ (ix3 t) (Fin.ext (show (n.val * 256 + d.val) / 256 * 32 + b.val = n.val * 32 + b.val by omega)) (Fin.ext (show (n.val * 256 + d.val) % 256 = d.val by omega)))

/-- The second result: the state after the last step. -/
theorem U5_v17 (b : Fin 32) (n : Fin 8) (d : Fin 256) :
    (U5 m c (Proc.devRef .tc main_v17) : FVec Ideal S1x32x2048 .f32) (ix3 0 b (col n d)) = stateAt (args m c) 32 n b d := by
  refine Eq.trans ?_ (G12_apply (finds m c) n b d)
  have hG := U4_12 m c
  generalize G12 (fun c b => U3 m c (Proc.devRef .tc b)) c = G at hG ⊢
  unfold U5
  generalize U4 m c = V at hG ⊢
  after_reads_at
  rw [hG]
  exact congrArg (G : FVec Ideal S256x256 .f32) (congrArg₂ ix2 (Fin.ext (show (n.val * 256 + d.val) / 256 * 32 + b.val = n.val * 32 + b.val by omega)) (Fin.ext (show (n.val * 256 + d.val) % 256 = d.val by omega)))

/-- The third result: the mask of each step. -/
theorem U5_v18 (t : Fin 32) (b : Fin 32) (n : Fin 8) :
    (U5 m c (Proc.devRef .tc main_v18) : FVec Ideal S32x32x8 .f32) (ix3 t b n) = maskAt (args m c) t.val n b := by
  refine Eq.trans ?_ (G13_apply (finds m c) t n b)
  have hG := U4_13 m c
  generalize G13 (fun c b => U3 m c (Proc.devRef .tc b)) c = G at hG ⊢
  unfold U5
  generalize U4 m c = V at hG ⊢
  after_reads_at
  rw [hG]

end Cert.KernelIdeal.Ends
end
-- ==== Proof.Ref.Top.lean ====
module

public import proofs.«01_k».proof.Proof.Scan
public import proofs.«01_k».proof.Proof.Gen.ReferenceIdeal.Step
public import Idealize.ShloMosaic.Lib.SortPrefix
public import Idealize.ShloMosaic.Lib.Routing.OpsSet
public import Idealize.ShloMosaic.Lib.Routing.OpsPair
public import Idealize.ShloMosaic.Lib.Pointwise.IndexBridge

@[expose] public section
noncomputable section

/-! # The reference's mask

The reference sorts a row of eight scores, greater first and equal scores in index order, keeps the first four positions and
writes ones there: the mask is one exactly on the blocks that fewer than four others come before. -/

namespace Cert.ReferenceIdeal.Top
open Cert.ReferenceIdeal Cert.ReferenceIdeal.Gen Cert.ReferenceIdeal.Step Cert.Scan Idealize.ShloMosaic

/-- The comparison the reference sorts by. -/
def Rb (x : Fin 8 → EReal) (k k' : Fin 8) : Bool := FloatOps.cmpfTotal (F := Ideal) (φ := .f32) .gt (x k) (x k') == 1#1

open Classical in
/-- The ranking, as a test. -/
def Bb (x : Fin 8 → EReal) (k k' : Fin 8) : Bool := decide (Before x k k')

/-- The comparison the sort is given says that the first score is the larger. -/
theorem Rb_iff (x : Fin 8 → EReal) (k k' : Fin 8) : Rb x k k' = true ↔ x k' < x k := by
  unfold Rb
  rw [show FloatOps.cmpfTotal (F := Ideal) (φ := .f32) .gt (x k) (x k') = Ideal.cmp CmpDirection.gt.ordered (x k) (x k') from rfl]
  simp only [Ideal.cmp, CmpDirection.ordered]
  by_cases h : x k' < x k <;> simp [h]

/-- The comparison of the mask by rank, as a proposition. -/
theorem Bb_iff (x : Fin 8 → EReal) (k k' : Fin 8) : Bb x k k' = true ↔ Before x k k' := by
  unfold Bb; simp

/-- The two relations agree where the first position is the later one, which is how the sort compares. -/
theorem Rb_eq (x : Fin 8 → EReal) (k k' : Fin 8) (h : k' < k) : Rb x k k' = Bb x k k' := by
  rw [Bool.eq_iff_iff, Rb_iff, Bb_iff]
  unfold Before
  refine ⟨Or.inl, fun q => q.elim id fun q => absurd q.2 (not_lt.2 h.le)⟩

/-- A stable sort of an increasing list by the score alone is the sort by the score and then the number. -/
theorem sort_eq (x : Fin 8 → EReal) (l : List (Fin 8)) (hl : l.Pairwise (· < ·)) : stableSort (Rb x) l = stableSort (Bb x) l := by
  induction l with
  | nil => rfl
  | cons a l ih =>
    rw [List.pairwise_cons] at hl
    unfold stableSort
    rw [ih hl.2]
    exact insertBefore_congr _ _ a _ fun b hb => Rb_eq x b a (hl.1 b ((perm_stableSort _ l).mem_iff.mp hb))

/-- So the two orders place the same block at each place. -/
theorem from_eq (x : Fin 8 → EReal) : sortedFrom (Rb x) = sortedFrom (Bb x) := by
  funext k
  unfold sortedFrom
  rw [List.get_of_eq (show sortPositions 8 (Rb x) = sortPositions 8 (Bb x) from sort_eq x _ (List.pairwise_lt_finRange 8))]
  rfl

/-- The score and then the number order the blocks strictly and totally. -/
theorem strict (x : Fin 8 → EReal) : StrictTotalBefore (Bb x) where
  irrefl a := by
    rw [Bool.eq_false_iff, Ne, Bb_iff]; unfold Before; simp
  trans a b c hab hbc := by
    rw [Bb_iff] at hab hbc ⊢
    rcases hab with hab | ⟨e, hab⟩ <;> rcases hbc with hbc | ⟨e', hbc⟩
    · exact Or.inl (hbc.trans hab)
    · exact Or.inl (e' ▸ hab)
    · exact Or.inl (e ▸ hbc)
    · exact Or.inr ⟨e'.trans e, hab.trans hbc⟩
  total a b hne := by
    rw [Bb_iff, Bb_iff]
    rcases lt_trichotomy (x a) (x b) with h | h | h
    · exact Or.inr (Or.inl h)
    · rcases lt_or_gt_of_ne hne with q | q
      · exact Or.inl (Or.inr ⟨h.symm, q⟩)
      · exact Or.inr (Or.inr ⟨h, q⟩)
    · exact Or.inl (Or.inl h)

open Classical in
/-- As many blocks come before the one at position `k` as positions do. -/
theorem rank (x : Fin 8 → EReal) (k : Fin 8) : (Finset.univ.filter fun m => Before x m (sortedFrom (Rb x) k)).card = k.val := by
  rw [from_eq]
  have hB := strict x
  have hno := sortedFrom_noInversion (Bb x) (Bb x) (fun a b h => hB.asymm a b h) (fun _ _ h => h) hB.negTrans
  have hinj := sortedFrom_injective (Bb x)
  have hb : ∀ i j : Fin 8, Before x (sortedFrom (Bb x) i) (sortedFrom (Bb x) j) ↔ i < j := by
    intro i j
    rw [← Bb_iff]
    constructor
    · intro h
      rcases lt_trichotomy i j with q | q | q
      · exact q
      · subst q; rw [hB.irrefl] at h; exact absurd h (by decide)
      · have := hno j i q; rw [h] at this; exact absurd this (by decide)
    · intro h
      rcases hB.total _ _ (fun e => h.ne (hinj e)) with q | q
      · exact q
      · have := hno i j h; rw [q] at this; exact absurd this (by decide)
  have e : (Finset.univ.filter fun m => Before x m (sortedFrom (Bb x) k)) = (Finset.Iio k).image (sortedFrom (Bb x)) := by
    ext m
    obtain ⟨i, rfl⟩ := sortedFrom_surjective (Bb x) m
    simp only [Finset.mem_filter, Finset.mem_univ, true_and, Finset.mem_image, Finset.mem_Iio, hb]
    exact ⟨fun h => ⟨i, h, rfl⟩, fun ⟨i', h, e⟩ => hinj e ▸ h⟩
  rw [e, Finset.card_image_of_injective _ hinj, Fin.card_Iio]

/-- A block is at one of the first four positions exactly when the ranking marks it. -/
theorem top4_eq (x : Fin 8 → EReal) (k : Fin 8) : top4 x (sortedFrom (Rb x) k) = if k.val < 4 then 1 else 0 := by
  unfold top4; rw [rank]

variable (j : ℕ) (s : State Ideal)

/-- The row of scores the reference sorts. -/
abbrev row (b : Fin 32) : Fin 8 → EReal := fun n => (b38 j s : FVec Ideal S32x8 .f32) (ix2 b n)

/-- An index moved along its second axis. -/
theorem along_eq (b : Fin 32) (q : Fin 8) (k : Fin 8) : (ix2 b q : S32x8.Idx).along 1 k = ix2 b k := by
  funext a
  match a with
  | ⟨0, _⟩ => rfl
  | ⟨1, _⟩ => rfl

/-- The place of a block in its row's order does not depend on how its index is written. -/
theorem topK_core (x : S32x8.Idx → EReal) (b : Fin 32) (q : Fin 8) (J : S32x8.Idx) (hJ : J = ix2 b q) :
    BitVec.ofNat 32 (sortedFrom (n := 8) (fun k k' => FloatOps.cmpfTotal (F := Ideal) (φ := .f32) .gt (x (J.along 1 k)) (x (J.along 1 k')) == 1#1) (J 1)).val
      = BitVec.ofNat 32 (sortedFrom (Rb (fun n => x (ix2 b n))) q).val := by
  subst hJ
  have e : (fun k k' : Fin 8 => FloatOps.cmpfTotal (F := Ideal) (φ := .f32) .gt (x ((ix2 b q : S32x8.Idx).along 1 k)) (x ((ix2 b q : S32x8.Idx).along 1 k')) == 1#1)
      = Rb (fun n => x (ix2 b n)) := by
    funext k k'
    rw [along_eq, along_eq]; rfl
  exact congrArg (fun r => BitVec.ofNat 32 (sortedFrom r q).val) e

/-- The positions the reference keeps are the first four of the sorted row. -/
theorem topK_at (x : S32x8.Idx → EReal) (b : Fin 32) (q : Fin 4) :
    (Host.topK S32x4 1 (FloatOps.cmpfTotal (F := Ideal) (φ := .f32) .gt) x sliceFits_S32x8_S32x4).2 (ix2 b q)
      = BitVec.ofNat 32 (sortedFrom (Rb (fun n => x (ix2 b n))) ⟨q.val, by omega⟩).val := by
  refine Eq.trans ?_ (topK_core x b ⟨q.val, by omega⟩ (fun a => ⟨(fun _ => 0) a + ((ix2 b q : S32x4.Idx) (a.cast rfl)).val, ?_⟩) (funext fun a => ?_))
  rotate_left
  · match a with
    | ⟨0, _⟩ => exact lt_of_eq_of_lt (Nat.zero_add _) b.isLt
    | ⟨1, _⟩ => exact lt_of_eq_of_lt (Nat.zero_add _) (show q.val < 8 by omega)
  · match a with
    | ⟨0, _⟩ => exact Fin.ext (Nat.zero_add _)
    | ⟨1, _⟩ => exact Fin.ext (Nat.zero_add _)
  · rfl

/-- The blocks that `top_k` chooses are the first four of the row's order. -/
theorem b40_apply (b : Fin 32) (q : Fin 4) : (b40 j s : IVec S32x4 32) (ix2 b q) = BitVec.ofNat 32 (sortedFrom (Rb (row j s b)) ⟨q.val, by omega⟩).val :=
  topK_at (b38 j s) b q

/-- A number that is not negative is not wrapped. -/
theorem wrap_small (n : ℕ) (hn : n < 32) (a : BitVec 32) : Scalar.select (IntOp.cmpi .slt (BitVec.ofNat 32 n) 0#32) a (BitVec.ofNat 32 n) = BitVec.ofNat 32 n :=
  Routing.wrap_of_lt _ _ (by rw [BitVec.toNat_ofNat]; omega)

/-- The chosen blocks after the wrapping of negative numbers. -/
theorem b58_apply (b : Fin 32) (q : Fin 4) : (b58 j s : IVec S32x4 32) (ix2 b q) = BitVec.ofNat 32 (sortedFrom (Rb (row j s b)) ⟨q.val, by omega⟩).val := by
  pointwise [b58, b54, b57, b53, b56, b52, b55]
  rw [b40_apply]
  exact wrap_small _ (by omega) _

/-- The first coordinate the scatter writes at is the batch. -/
theorem b62_0 (b : Fin 32) (q : Fin 4) : (b62 j s : IVec S32x4x2 32) (ix3 b q 0) = BitVec.ofNat 32 b.val := by
  pointwise [b62, b60, b61, b59, b51, b47, b50, b44, b46, b49, b43, b45, b48]
  exact wrap_small _ b.isLt _

/-- The second coordinate the scatter writes at is the chosen block. -/
theorem b62_1 (b : Fin 32) (q : Fin 4) : (b62 j s : IVec S32x4x2 32) (ix3 b q 1) = (b58 j s : IVec S32x4 32) (ix2 b q) := by
  pointwise [b62, b60, b61]

/-- A small number as a word reads back as itself. -/
theorem int_small (n m : ℕ) (hn : n < 32) : (BitVec.ofNat 32 n).toInt = (m : Int) ↔ n = m := by
  rw [BitVec.toInt_eq_toNat_of_lt (by rw [BitVec.toNat_ofNat]; omega), BitVec.toNat_ofNat, Nat.mod_eq_of_lt (by omega)]
  omega

/-- The scatter starts from zeros. -/
theorem b42_apply (b : Fin 32) (n : Fin 8) : (b42 j s : FVec Ideal S32x8 .f32) (ix2 b n) = 0 := by
  pointwise [b42, b41]

/-- The scatter writes ones. -/
theorem b64_apply (b : Fin 32) (q : Fin 4) : (b64 j s : FVec Ideal S32x4 .f32) (ix2 b q) = 1 := by
  pointwise [b64, b63]

/-- Where an update lands: in its own batch, at the block it chooses. -/
theorem lands (b b' : Fin 32) (q : Fin 4) (n : Fin 8) :
    (scatter_S32x8_S32x4x2_S32x4_n_01_01_2).resultIdx? (ix2 b q) (b62 j s) = some (ix2 b' n)
      ↔ b = b' ∧ sortedFrom (Rb (row j s b)) ⟨q.val, by omega⟩ = n := by
  rw [ix2_eq_valueIdx, ix2_eq_valueIdx]
  refine (Routing.scatter_lands2 _ rfl rfl rfl _ b q b' n).trans ?_
  rw [← ix3_eq_valueIdx, ← ix3_eq_valueIdx, b62_0, b62_1, b58_apply, int_small _ _ b.isLt, int_small _ _ (by omega), Fin.ext_iff, Fin.ext_iff]

/-- The reference's mask is the ranking's. -/
theorem b65_apply (b : Fin 32) (n : Fin 8) : (b65 j s : FVec Ideal S32x8 .f32) (ix2 b n) = top4 (row j s b) n := by
  obtain ⟨k, rfl⟩ := sortedFrom_surjective (Rb (row j s b)) n
  rw [top4_eq]
  by_cases hk : k.val < 4
  · rw [if_pos hk]
    refine Routing.scatter_set_hit _ _ _ _ _ _ (fun i _ => ?_) (ix2 b ⟨k.val, hk⟩) ((lands j s b b ⟨k.val, hk⟩ _).2 ⟨rfl, rfl⟩)
    rw [eq_ix2 i]; exact b64_apply j s _ _
  · rw [if_neg hk]
    refine (Routing.scatter_set_miss _ _ _ _ _ fun i hi => ?_).trans (b42_apply j s b _)
    rw [eq_ix2 i] at hi
    obtain ⟨e, q⟩ := (lands j s _ b _ _).1 hi
    have e' : i 0 = b := e
    rw [e'] at q
    have := sortedFrom_injective _ q
    have hlt : (i 1).val < 4 := (i 1).isLt
    exact hk (by rw [← this]; exact hlt)

end Cert.ReferenceIdeal.Top
end
-- ==== Proof.Ref.Math.lean ====
module

public import proofs.«01_k».proof.Proof.Scan
public import proofs.«01_k».proof.Proof.Ref.Top

@[expose] public section
noncomputable section

/-! # The reference's step at an element

Every stage of the reference's step, read at an element, is the stage of the scan at the same block, batch row and feature. -/

namespace Cert.ReferenceIdeal.Math
open Cert.ReferenceIdeal Cert.ReferenceIdeal.Gen Cert.ReferenceIdeal.Step Cert.Scan Idealize.ShloMosaic
set_option maxRecDepth 16384

/-- Feature `d` of block `n` in a row of the state. -/
abbrev col (n : Fin 8) (d : Fin 256) : Fin 2048 := ⟨n.val * 256 + d.val, by omega⟩

/-- The square root of sixty-four is eight, as the words name them. -/
theorem eight : Ideal.sqrt (Ideal.ofBits .f32 0x42800000#32) = Ideal.ofBits .f32 0x41000000#32 := by
  have h1 : Ideal.ofBits .f32 0x42800000#32 = ((64 : ℝ) : EReal) := by
    simp [Ideal.ofBits, Ideal.ieee, -EReal.coe_mul]; norm_num
  have h2 : Ideal.ofBits .f32 0x41000000#32 = ((8 : ℝ) : EReal) := by
    simp [Ideal.ofBits, Ideal.ieee, -EReal.coe_mul]; norm_num
  rw [h1, h2]
  show (if (64 : ℝ) < 0 then (⊥ : EReal) else ((Real.sqrt 64 : ℝ) : EReal)) = ((8 : ℝ) : EReal)
  rw [if_neg (by norm_num), show (64 : ℝ) = 8 * 8 by norm_num, Real.sqrt_mul_self (by norm_num)]

/-- The word of minus infinity is the bottom of the extended reals. -/
theorem neg_inf : Ideal.ofBits .f32 0xFF800000#32 = ⊥ := by
  simp [Ideal.ofBits, Ideal.ieee]

/-- Zero over eight is zero. -/
theorem zero_div8 : Ideal.div 0 (Ideal.ofBits .f32 0x41000000#32) = 0 := by
  have h2 : Ideal.ofBits .f32 0x41000000#32 = ((8 : ℝ) : EReal) := by
    simp [Ideal.ofBits, Ideal.ieee, -EReal.coe_mul]; norm_num
  rw [h2]
  simp [Ideal.div]

/-- The start of a step's slice on the first axis is the step's number. -/
theorem start0 (N j : ℕ) (hj : j < 32) (st : Fin 3 → Int) (h : st 0 = (BitVec.ofNat 32 j).toInt) :
    Host.clampedStart ⟨3, ![32, 32, N]⟩ ⟨3, ![1, 32, N]⟩ rfl st 0 = j := by
  unfold Host.clampedStart
  rw [h, BitVec.toInt_eq_toNat_of_lt (by rw [BitVec.toNat_ofNat]; omega), BitVec.toNat_ofNat, Nat.mod_eq_of_lt (by omega)]
  show (min (max (j : Int) 0) ((32 - 1 : ℕ) : Int)).toNat = j
  omega

/-- The start of a step's slice on the second axis is zero. -/
theorem start1 (N : ℕ) (st : Fin 3 → Int) : Host.clampedStart ⟨3, ![32, 32, N]⟩ ⟨3, ![1, 32, N]⟩ rfl st 1 = 0 := by
  unfold Host.clampedStart
  show (min (max _ 0) ((32 - 32 : ℕ) : Int)).toNat = 0
  omega

/-- The start of a step's slice on the third axis is zero. -/
theorem start2 (N : ℕ) (st : Fin 3 → Int) : Host.clampedStart ⟨3, ![32, 32, N]⟩ ⟨3, ![1, 32, N]⟩ rfl st 2 = 0 := by
  unfold Host.clampedStart
  show (min (max _ 0) ((N - N : ℕ) : Int)).toNat = 0
  omega

/-- A step's slice is the array's row of that step. -/
theorem slice_at {N j : ℕ} (hj : j < 32) (x : FVec Ideal ⟨3, ![32, 32, N]⟩ .f32) (st : Fin 3 → Int) (hs : st 0 = (BitVec.ofNat 32 j).toInt)
    (h : (⟨3, ![32, 32, N]⟩ : Shape).Slices (fun _ => 0) ⟨3, ![1, 32, N]⟩) (b : Fin 32) (i : Fin N) :
    Host.dynamicSlice ⟨3, ![1, 32, N]⟩ x st h (ix3 0 b i) = x (ix3 ⟨j, hj⟩ b i) := by
  rw [Host.dynamicSlice_apply]
  refine congrArg x (funext fun a => ?_)
  unfold Shape.Idx.norm
  match a with
  | ⟨0, _⟩ => exact Fin.ext ((Nat.add_zero _).trans (start0 N j hj st hs))
  | ⟨1, _⟩ => exact Fin.ext ((congrArg (· + b.val) (start1 N st)).trans (Nat.zero_add _))
  | ⟨2, _⟩ => exact Fin.ext ((congrArg (· + i.val) (start2 N st)).trans (Nat.zero_add _))

variable (j : ℕ) (s : State Ideal)

/-- The step's inputs are the embedded inputs of its number. -/
theorem b3_apply (hj : j < 32) (b : Fin 32) (x : Fin 1024) : (b3 j s : FVec Ideal S32x1024 .f32) (ix2 b x) = (s.main_v7_0 : FVec Ideal S32x32x1024 .f32) (ix3 ⟨j, hj⟩ b x) := by
  pointwise [b3]
  unfold b2
  exact slice_at hj _ _ rfl _ b x

/-- The step's masks are the masks of its number. -/
theorem b7_apply (hj : j < 32) (b : Fin 32) (x : Fin 2048) : (b7 j s : FVec Ideal S32x2048 .f32) (ix2 b x) = (s.main_v7_1 : FVec Ideal S32x32x2048 .f32) (ix3 ⟨j, hj⟩ b x) := by
  pointwise [b7]
  unfold b6
  exact slice_at hj _ _ rfl _ b x

/-- A step's update of an array: the step's own row is the update, every other row is kept. -/
theorem update_at {N j : ℕ} (hj : j < 32) (x : FVec Ideal ⟨3, ![32, 32, N]⟩ .f32) (u : FVec Ideal ⟨3, ![1, 32, N]⟩ .f32) (st : Fin 3 → Int)
    (hs : st 0 = (BitVec.ofNat 32 j).toInt) (h : (⟨3, ![32, 32, N]⟩ : Shape).Slices (fun _ => 0) ⟨3, ![1, 32, N]⟩) (t b : Fin 32) (i : Fin N) :
    Host.dynamicUpdateSlice x u st h (ix3 t b i) = if t.val = j then u (ix3 0 b i) else x (ix3 t b i) := by
  have e0 := start0 N j hj st hs
  have e1 := start1 N st
  have e2 := start2 N st
  rw [Host.dynamicUpdateSlice_apply]
  by_cases ht : t.val = j
  · rw [if_pos ht, dif_pos]
    · refine congrArg u (funext fun a => ?_)
      unfold Shape.Idx.norm
      match a with
      | ⟨0, _⟩ => exact Fin.ext (show t.val - Host.clampedStart ⟨3, ![32, 32, N]⟩ ⟨3, ![1, 32, N]⟩ rfl st 0 = 0 by omega)
      | ⟨1, _⟩ => exact Fin.ext ((congrArg (b.val - ·) e1).trans (Nat.sub_zero _))
      | ⟨2, _⟩ => exact Fin.ext ((congrArg (i.val - ·) e2).trans (Nat.sub_zero _))
    · intro a
      match a with
      | ⟨0, _⟩ => exact (show Host.clampedStart ⟨3, ![32, 32, N]⟩ ⟨3, ![1, 32, N]⟩ rfl st 0 ≤ t.val ∧ t.val < Host.clampedStart ⟨3, ![32, 32, N]⟩ ⟨3, ![1, 32, N]⟩ rfl st 0 + 1 by omega)
      | ⟨1, _⟩ => exact (show Host.clampedStart ⟨3, ![32, 32, N]⟩ ⟨3, ![1, 32, N]⟩ rfl st 1 ≤ b.val ∧ b.val < Host.clampedStart ⟨3, ![32, 32, N]⟩ ⟨3, ![1, 32, N]⟩ rfl st 1 + 32 by omega)
      | ⟨2, _⟩ => exact (show Host.clampedStart ⟨3, ![32, 32, N]⟩ ⟨3, ![1, 32, N]⟩ rfl st 2 ≤ i.val ∧ i.val < Host.clampedStart ⟨3, ![32, 32, N]⟩ ⟨3, ![1, 32, N]⟩ rfl st 2 + N by omega)
  · rw [if_neg ht, dif_neg]
    intro q
    have q0 : Host.clampedStart ⟨3, ![32, 32, N]⟩ ⟨3, ![1, 32, N]⟩ rfl st 0 ≤ t.val ∧ t.val < Host.clampedStart ⟨3, ![32, 32, N]⟩ ⟨3, ![1, 32, N]⟩ rfl st 0 + 1 := q 0
    omega

/-- The outputs after a step: its own row written, the others kept. -/
theorem b157_apply (hj : j < 32) (t b : Fin 32) (i : Fin 2048) : (b157 j s : FVec Ideal S32x32x2048 .f32) (ix3 t b i)
    = if t.val = j then (b153 j s : FVec Ideal S32x2048 .f32) (ix2 b i) else (s.main_v7_15 : FVec Ideal S32x32x2048 .f32) (ix3 t b i) := by
  have e : (b154 j s : FVec Ideal S1x32x2048 .f32) (ix3 0 b i) = (b153 j s : FVec Ideal S32x2048 .f32) (ix2 b i) := by
    pointwise [b154]
  rw [← e]
  unfold b157
  exact update_at hj _ _ _ rfl _ t b i

/-- The block masks after a step: its own row written, the others kept. -/
theorem b161_apply (hj : j < 32) (t b : Fin 32) (n : Fin 8) : (b161 j s : FVec Ideal S32x32x8 .f32) (ix3 t b n)
    = if t.val = j then (b65 j s : FVec Ideal S32x8 .f32) (ix2 b n) else (s.main_v7_16 : FVec Ideal S32x32x8 .f32) (ix3 t b n) := by
  have e : (b158 j s : FVec Ideal S1x32x8 .f32) (ix3 0 b n) = (b65 j s : FVec Ideal S32x8 .f32) (ix2 b n) := by
    pointwise [b158]
  rw [← e]
  unfold b161
  exact update_at hj _ _ _ rfl _ t b n

/-- The step's state is the state by blocks times the masks. -/
theorem b153_eq (b : Fin 32) (n : Fin 8) (d : Fin 256) : (b153 j s : FVec Ideal S32x2048 .f32) (ix2 b (col n d))
    = (b151 j s : FVec Ideal S32x8x256 .f32) (ix3 b ⟨(n.val * 256 + d.val) / 256, by omega⟩ ⟨(n.val * 256 + d.val) % 256, by omega⟩) * (b7 j s : FVec Ideal S32x2048 .f32) (ix2 b (col n d)) := by
  pointwise [b153, b152]

/-- The state by blocks at an element. -/
theorem b8_apply (b : Fin 32) (n : Fin 8) (d : Fin 256) : (b8 j s : FVec Ideal S32x8x256 .f32) (ix3 b n d) = (s.main_v7_14 : FVec Ideal S32x2048 .f32) (ix2 b (col n d)) := by
  pointwise [b8]

/-- The first row that the input attention reads is the step's input. -/
theorem b13_0 (b : Fin 32) (x : Fin 1024) : (b13 j s : FVec Ideal S32x2x1024 .f32) (ix3 b 0 x) = (b3 j s : FVec Ideal S32x1024 .f32) (ix2 b x) := by
  pointwise [b13, b11, b12, b10, b9]

/-- The second row that the input attention reads is zero. -/
theorem b13_1 (b : Fin 32) (x : Fin 1024) : (b13 j s : FVec Ideal S32x2x1024 .f32) (ix3 b 1 x) = 0 := by
  pointwise [b13, b11, b12, b10, b9]

/-- What a step reads and carries, as the scan's data: the step's encoded inputs `e`, the state `h`, masks of ones and the weights. -/
structure Reads (e : Fin 32 → Fin 1024 → EReal) (wk wv : Fin 1024 → Fin 64 → EReal) (W : Wt) (h : Hid) : Prop where
  e : ∀ b x, (b3 j s : FVec Ideal S32x1024 .f32) (ix2 b x) = e b x
  h : ∀ n b d, (s.main_v7_14 : FVec Ideal S32x2048 .f32) (ix2 b (col n d)) = h n b d
  one : ∀ b x, (b7 j s : FVec Ideal S32x2048 .f32) (ix2 b x) = 1
  wk : ∀ x k, (s.main_v7_3 : FVec Ideal S1024x64 .f32) (ix2 x k) = wk x k
  wv : ∀ x k, (s.main_v7_4 : FVec Ideal S1024x64 .f32) (ix2 x k) = wv x k
  wq : ∀ d k, (s.main_v7_2 : FVec Ideal S256x64 .f32) (ix2 d k) = W.wq d k
  wx : ∀ n k i, (s.main_v7_5 : FVec Ideal S8x64x768 .f32) (ix3 n k i) = W.wx n k i
  bx : ∀ n i, (s.main_v7_6 : FVec Ideal S8x768 .f32) (ix2 n i) = W.bx n i
  wh : ∀ n k i, (s.main_v7_7 : FVec Ideal S8x256x768 .f32) (ix3 n k i) = W.wh n k i
  bh : ∀ n i, (s.main_v7_8 : FVec Ideal S8x768 .f32) (ix2 n i) = W.bh n i
  wqc : ∀ d i, (s.main_v7_9 : FVec Ideal S256x128 .f32) (ix2 d i) = W.wqc d i
  wkc : ∀ d i, (s.main_v7_10 : FVec Ideal S256x128 .f32) (ix2 d i) = W.wkc d i
  wvc : ∀ d i, (s.main_v7_11 : FVec Ideal S256x128 .f32) (ix2 d i) = W.wvc d i
  wo : ∀ i d, (s.main_v7_12 : FVec Ideal S128x256 .f32) (ix2 i d) = W.wo i d

/-- Encoded inputs through a matrix. -/
def thr (e : Fin 32 → Fin 1024 → EReal) (w : Fin 1024 → Fin 64 → EReal) (b : Fin 32) (k : Fin 64) : EReal := ∑ x, e b x * w x k

variable {j s} {e : Fin 32 → Fin 1024 → EReal} {wk wv : Fin 1024 → Fin 64 → EReal} {W : Wt} {h : Hid} (H : Reads j s e wk wv W h)
include H

/-- The products of the queries with the first key. -/
theorem b17_0 (b : Fin 32) (n : Fin 8) : (b17 j s : FVec Ideal S32x8x2 .f32) (ix3 b n 0) = ∑ k, (∑ d, h n b d * W.wq d k) * thr e wk b k := by
  pointwise [b17, b14, b15]
  simp only [b13_0, H.e, H.wk, H.wq, b8_apply, H.h, thr]

/-- The products of the queries with the second key are zero. -/
theorem b17_1 (b : Fin 32) (n : Fin 8) : (b17 j s : FVec Ideal S32x8x2 .f32) (ix3 b n 1) = 0 := by
  pointwise [b17, b14, b15]
  simp only [b13_1, zero_mul, Finset.sum_const_zero, mul_zero]

/-- The first logit is the scan's. -/
theorem b21_0 (b : Fin 32) (n : Fin 8) : (b21 j s : FVec Ideal S32x8x2 .f32) (ix3 b n 0) = logit W (thr e wk) h n b := by
  pointwise [b21, b20, b19, b18]
  rw [b17_0 H, eight]; rfl

/-- The second logit is zero. -/
theorem b21_1 (b : Fin 32) (n : Fin 8) : (b21 j s : FVec Ideal S32x8x2 .f32) (ix3 b n 1) = 0 := by
  pointwise [b21, b20, b19, b18]
  rw [b17_1 H, eight, zero_div8]

/-- The larger of the two logits. -/
theorem b26_apply (b : Fin 32) (n : Fin 8) : (b26 j s : FVec Ideal S32x8 .f32) (ix2 b n) = max (logit W (thr e wk) h n b) 0 := by
  pointwise [b26, b25, b24, b23, b22]
  rw [neg_inf, show (Finset.univ : Finset (Fin 2)) = {0, 1} from rfl]
  rw [Finset.fold_insert (by simp), Finset.fold_singleton, b21_0 H, b21_1 H]
  simp

/-- The softmax at the first row is the scan's score. -/
theorem b35_0 (b : Fin 32) (n : Fin 8) : (b35 j s : FVec Ideal S32x8x2 .f32) (ix3 b n 0) = scores W (thr e wk) h n b := by
  pointwise [b35, b34, b33, b32, b31, b30, b29, b28, b27]
  rw [Fin.sum_univ_two, b21_0 H, b21_1 H, b26_apply H]; rfl

/-- The scores are the scan's. -/
theorem b38_apply (b : Fin 32) (n : Fin 8) : (b38 j s : FVec Ideal S32x8 .f32) (ix2 b n) = scores W (thr e wk) h n b := by
  pointwise [b38, b37]
  exact b35_0 H b n

/-- The step's mask is the scan's. -/
theorem b65_apply (b : Fin 32) (n : Fin 8) : (b65 j s : FVec Ideal S32x8 .f32) (ix2 b n) = mask W (thr e wk) h n b := by
  rw [Top.b65_apply]
  exact congrArg (fun f => top4 f n) (funext fun m => b38_apply H b m)

/-- What each block takes of the input is the scan's. -/
theorem b36_apply (b : Fin 32) (n : Fin 8) (k : Fin 64) : (b36 j s : FVec Ideal S32x8x64 .f32) (ix3 b n k) = inp W (thr e wk) (thr e wv) h n b k := by
  pointwise [b36, b16]
  rw [Fin.sum_univ_two, b35_0 H]
  simp only [b13_0, b13_1, H.e, H.wv, zero_mul, Finset.sum_const_zero, mul_zero, add_zero]
  rfl

/-- The gates of the input are the scan's. -/
theorem b70_apply (b : Fin 32) (n : Fin 8) (i : Fin 768) : (b70 j s : FVec Ideal S32x8x768 .f32) (ix3 b n i) = gate (inp W (thr e wk) (thr e wv) h) W.wx W.bx n b i := by
  pointwise [b70, b69, b68, b67, b66]
  simp only [b36_apply H, H.wx, H.bx, gate, mul_comm]

/-- The gates of the state are the scan's. -/
theorem b75_apply (b : Fin 32) (n : Fin 8) (i : Fin 768) : (b75 j s : FVec Ideal S32x8x768 .f32) (ix3 b n i) = gate h W.wh W.bh n b i := by
  pointwise [b75, b74, b73, b72, b71]
  simp only [b8_apply, H.h, H.wh, H.bh, gate, mul_comm]

/-- The gated update is the scan's. -/
theorem b108_apply (b : Fin 32) (n : Fin 8) (d : Fin 256) : (b108 j s : FVec Ideal S32x8x256 .f32) (ix3 b n d)
    = gru (gate (inp W (thr e wk) (thr e wv) h) W.wx W.bx) (gate h W.wh W.bh) h n b d := by
  pointwise [b108, b107, b106, b105, b104, b103, b102, b101, b100, b99, b98, b97, b96, b95, b94, b93, b92, b91, b90, b89, b88, b87, b86, b85, b84, b83, b82, b81, b80, b79, b78, b77, b76]
  simp only [b8_apply, H.h, b70_apply H, b75_apply H, gru, sg, at', Nat.zero_add]

/-- The state after the update of the blocks that are on is the scan's. -/
theorem b118_apply (b : Fin 32) (n : Fin 8) (d : Fin 256) : (b118 j s : FVec Ideal S32x8x256 .f32) (ix3 b n d) = hupd W (thr e wk) (thr e wv) h n b d := by
  pointwise [b118, b117, b116, b115, b114, b113, b112, b111, b110, b109]
  rw [b65_apply H, b108_apply H, b8_apply, H.h]; rfl

/-- The communication logits are the scan's. -/
theorem b129_apply (b : Fin 32) (a : Fin 4) (n m : Fin 8) : (b129 j s : FVec Ideal S32x4x8x8 .f32) (ix4 b a n m)
    = clog (proj (hupd W (thr e wk) (thr e wv) h) W.wqc) (proj (hupd W (thr e wk) (thr e wv) h) W.wkc) a n m b := by
  pointwise [b129, b128, b127, b126, b125, b122, b121, b120, b119]
  simp only [b118_apply H, H.wqc, H.wkc, clog, proj, feat, Nat.mul_comm 32]

/-- The largest communication logit of a row. -/
theorem b134_apply (b : Fin 32) (a : Fin 4) (n : Fin 8) : (b134 j s : FVec Ideal S32x4x8 .f32) (ix3 b a n)
    = Finset.univ.fold max ⊥ (fun m => (b129 j s : FVec Ideal S32x4x8x8 .f32) (ix4 b a n m)) := by
  pointwise [b134, b133, b132, b131, b130]
  rw [neg_inf]; exact max_eq_right bot_le

/-- The communication softmax is the scan's. -/
theorem b143_apply (b : Fin 32) (a : Fin 4) (n m : Fin 8) : (b143 j s : FVec Ideal S32x4x8x8 .f32) (ix4 b a n m)
    = csoft (fun m => clog (proj (hupd W (thr e wk) (thr e wv) h) W.wqc) (proj (hupd W (thr e wk) (thr e wv) h) W.wkc) a n m b) m := by
  pointwise [b143, b142, b141, b140, b139, b138, b137, b136, b135]
  simp only [b134_apply H, b129_apply H]
  rfl

/-- The heads' outputs side by side are the scan's. -/
theorem b146_apply (b : Fin 32) (n : Fin 8) (i : Fin 128) : (b146 j s : FVec Ideal S32x8x128 .f32) (ix3 b n i)
    = heads (comb (proj (hupd W (thr e wk) (thr e wv) h) W.wqc) (proj (hupd W (thr e wk) (thr e wv) h) W.wkc) (proj (hupd W (thr e wk) (thr e wv) h) W.wvc) n b) i := by
  pointwise [b146, b145, b144, b124, b123]
  have hi : feat ⟨i.val / 32, by omega⟩ ⟨i.val % 32, by omega⟩ = i := Fin.ext (Nat.div_add_mod i.val 32)
  simp only [heads, comb, b143_apply H, b118_apply H, H.wvc, hi]
  exact Finset.sum_congr rfl fun m _ => mul_comm _ _

/-- The state after the communication is the scan's next state. -/
theorem b151_apply (b : Fin 32) (n : Fin 8) (d : Fin 256) : (b151 j s : FVec Ideal S32x8x256 .f32) (ix3 b n d) = next W (thr e wk) (thr e wv) h n b d := by
  pointwise [b151, b150, b149, b148, b147]
  simp only [b118_apply H, b65_apply H, b146_apply H, H.wo]
  rfl

/-- The state a step leaves. -/
theorem b153_apply (b : Fin 32) (n : Fin 8) (d : Fin 256) : (b153 j s : FVec Ideal S32x2048 .f32) (ix2 b (col n d)) = next W (thr e wk) (thr e wv) h n b d := by
  rw [b153_eq, H.one, mul_one, b151_apply H]
  exact congrArg₂ (fun n d => next W (thr e wk) (thr e wv) h n b d) (Fin.ext (show (n.val * 256 + d.val) / 256 = n.val by omega)) (Fin.ext (show (n.val * 256 + d.val) % 256 = d.val by omega))

end Cert.ReferenceIdeal.Math
end
-- ==== Proof.Ref.Ends.lean ====
module

public import proofs.«01_k».proof.Proof.Ref.Math
public import proofs.«01_k».proof.Proof.ScanRun

@[expose] public section
noncomputable section

/-! # The reference's results

Over the thirty-two steps the reference's state is the scan's, so its three results are the scan's states and masks. -/

namespace Cert.ReferenceIdeal.Ends
open Cert.ReferenceIdeal Cert.ReferenceIdeal.Gen Cert.ReferenceIdeal.Step Cert.ReferenceIdeal.Math Cert.Scan Idealize.ShloMosaic Idealize.ShloMosaic.TcCoe
set_option maxRecDepth 1024

variable (m : (ℓ : Loc nD τ sig) → Buf (Elt Ideal) ℓ) (c : Dev nD)

/-- The reference's arguments. -/
def args : Args where
  a0 := fun t b y => (m ((c : Thread nD τ).loc main_arg0) : FVec Ideal S32x32x1024 .f32) (ix3 t b y)
  h := fun n b d => (m ((c : Thread nD τ).loc main_arg1) : FVec Ideal S1x32x2048 .f32) (ix3 0 b (col n d))
  a3 := fun y x => (m ((c : Thread nD τ).loc main_arg3) : FVec Ideal S1024x1024 .f32) (ix2 y x)
  a4 := fun x => (m ((c : Thread nD τ).loc main_arg4) : FVec Ideal S1024 .f32) (ix1 x)
  a6 := fun x k => (m ((c : Thread nD τ).loc main_arg6) : FVec Ideal S1024x64 .f32) (ix2 x k)
  a7 := fun x k => (m ((c : Thread nD τ).loc main_arg7) : FVec Ideal S1024x64 .f32) (ix2 x k)
  W :=
    { wq := fun d k => (m ((c : Thread nD τ).loc main_arg5) : FVec Ideal S256x64 .f32) (ix2 d k)
      wx := fun n k j => (m ((c : Thread nD τ).loc main_arg8) : FVec Ideal S8x64x768 .f32) (ix3 n k j)
      bx := fun n j => (m ((c : Thread nD τ).loc main_arg10) : FVec Ideal S8x768 .f32) (ix2 n j)
      wh := fun n k j => (m ((c : Thread nD τ).loc main_arg9) : FVec Ideal S8x256x768 .f32) (ix3 n k j)
      bh := fun n j => (m ((c : Thread nD τ).loc main_arg11) : FVec Ideal S8x768 .f32) (ix2 n j)
      wqc := fun d e => (m ((c : Thread nD τ).loc main_arg12) : FVec Ideal S256x128 .f32) (ix2 d e)
      wkc := fun d e => (m ((c : Thread nD τ).loc main_arg13) : FVec Ideal S256x128 .f32) (ix2 d e)
      wvc := fun d e => (m ((c : Thread nD τ).loc main_arg14) : FVec Ideal S256x128 .f32) (ix2 d e)
      wo := fun e d => (m ((c : Thread nD τ).loc main_arg15) : FVec Ideal S128x256 .f32) (ix2 e d) }

/-- The reference's states. -/
def it : ℕ → State Ideal
  | 0 => ScanRun.initState m c
  | n + 1 => step n (it n)

/-- A step keeps the embedded inputs. -/
theorem step_0 (j : ℕ) (s : State Ideal) : (step j s).main_v7_0 = s.main_v7_0 := by unfold step; rfl

/-- A step keeps the masks. -/
theorem step_1 (j : ℕ) (s : State Ideal) : (step j s).main_v7_1 = s.main_v7_1 := by unfold step; rfl

/-- A step keeps the query weights of the input attention. -/
theorem step_2 (j : ℕ) (s : State Ideal) : (step j s).main_v7_2 = s.main_v7_2 := by unfold step; rfl

/-- A step keeps the key weights of the input attention. -/
theorem step_3 (j : ℕ) (s : State Ideal) : (step j s).main_v7_3 = s.main_v7_3 := by unfold step; rfl

/-- A step keeps the value weights of the input attention. -/
theorem step_4 (j : ℕ) (s : State Ideal) : (step j s).main_v7_4 = s.main_v7_4 := by unfold step; rfl

/-- A step keeps the input gate weights. -/
theorem step_5 (j : ℕ) (s : State Ideal) : (step j s).main_v7_5 = s.main_v7_5 := by unfold step; rfl

/-- A step keeps the input gate biases. -/
theorem step_6 (j : ℕ) (s : State Ideal) : (step j s).main_v7_6 = s.main_v7_6 := by unfold step; rfl

/-- A step keeps the hidden gate weights. -/
theorem step_7 (j : ℕ) (s : State Ideal) : (step j s).main_v7_7 = s.main_v7_7 := by unfold step; rfl

/-- A step keeps the hidden gate biases. -/
theorem step_8 (j : ℕ) (s : State Ideal) : (step j s).main_v7_8 = s.main_v7_8 := by unfold step; rfl

/-- A step keeps the query weights of the communication. -/
theorem step_9 (j : ℕ) (s : State Ideal) : (step j s).main_v7_9 = s.main_v7_9 := by unfold step; rfl

/-- A step keeps the key weights of the communication. -/
theorem step_10 (j : ℕ) (s : State Ideal) : (step j s).main_v7_10 = s.main_v7_10 := by unfold step; rfl

/-- A step keeps the value weights of the communication. -/
theorem step_11 (j : ℕ) (s : State Ideal) : (step j s).main_v7_11 = s.main_v7_11 := by unfold step; rfl

/-- A step keeps the output weights of the communication. -/
theorem step_12 (j : ℕ) (s : State Ideal) : (step j s).main_v7_12 = s.main_v7_12 := by unfold step; rfl

/-- What no step changes is what it was at the start. -/
theorem keep {α : Type} (f : State Ideal → α) (hf : ∀ j s, f (step j s) = f s) (n : ℕ) : f (it m c n) = f (ScanRun.initState m c) := by
  induction n with
  | zero => rfl
  | succ n ih => exact (hf n _).trans ih

/-- The encoder at an element: the product of the inputs with the weights, and the bias. -/
theorem A3_apply (a0 : FVec Ideal S32x32x1024 .f32) (a1 : FVec Ideal S1x32x2048 .f32) (a3 : FVec Ideal S1024x1024 .f32) (a4 : FVec Ideal S1024 .f32) (t b : Fin 32) (x : Fin 1024) :
    (A_main_v3 (F := Ideal) a0 a1 a3 a4 : FVec Ideal S32x32x1024 .f32) (ix3 t b x) = (∑ y, a0 (ix3 t b y) * a3 (ix2 y x)) + a4 (ix1 x) := by
  pointwise [A_main_v3, A_main_v2, A_main_v1, A_main_v0]

/-- The state before the first step at an element: the argument's. -/
theorem A4_apply (a0 : FVec Ideal S32x32x1024 .f32) (a1 : FVec Ideal S1x32x2048 .f32) (a3 : FVec Ideal S1024x1024 .f32) (a4 : FVec Ideal S1024 .f32) (b : Fin 32) (x : Fin 2048) :
    (A_main_v4 (F := Ideal) a0 a1 a3 a4 : FVec Ideal S32x2048 .f32) (ix2 b x) = a1 (ix3 0 b x) := by
  pointwise [A_main_v4]

/-- The hidden result at an element: the state after the last step. -/
theorem R8_apply (s : State Ideal) (b : Fin 32) (x : Fin 2048) : (R_main_v8 s : FVec Ideal S1x32x2048 .f32) (ix3 0 b x) = (s.main_v7_14 : FVec Ideal S32x2048 .f32) (ix2 b x) := by
  pointwise [R_main_v8]

/-- The embedding of step `n` carried through a weight, by either spelling. -/
theorem thr_eq (w : Fin 1024 → Fin 64 → EReal) (n : ℕ) (hn : n < 32) : thr (emb (args m c) ⟨n, hn⟩) w = through (args m c) w n := by
  funext b k
  unfold through thr
  rw [dif_pos hn]

/-- Before every step the key weights of the input attention are the argument's. -/
theorem wk_at (n : ℕ) : (it m c n).main_v7_3 = m ((c.tc : Thread nD τ).loc main_arg6) :=
  (keep m c State.main_v7_3 step_3 n).trans rfl

/-- Before every step the value weights of the input attention are the argument's. -/
theorem wv_at (n : ℕ) : (it m c n).main_v7_4 = m ((c.tc : Thread nD τ).loc main_arg7) :=
  (keep m c State.main_v7_4 step_4 n).trans rfl

/-- Before every step the query weights of the input attention are the argument's. -/
theorem wq_at (n : ℕ) : (it m c n).main_v7_2 = m ((c.tc : Thread nD τ).loc main_arg5) :=
  (keep m c State.main_v7_2 step_2 n).trans rfl

/-- Before every step the input gate weights are the argument's. -/
theorem wx_at (n : ℕ) : (it m c n).main_v7_5 = m ((c.tc : Thread nD τ).loc main_arg8) :=
  (keep m c State.main_v7_5 step_5 n).trans rfl

/-- Before every step the input gate biases are the argument's. -/
theorem bx_at (n : ℕ) : (it m c n).main_v7_6 = m ((c.tc : Thread nD τ).loc main_arg10) :=
  (keep m c State.main_v7_6 step_6 n).trans rfl

/-- Before every step the hidden gate weights are the argument's. -/
theorem wh_at (n : ℕ) : (it m c n).main_v7_7 = m ((c.tc : Thread nD τ).loc main_arg9) :=
  (keep m c State.main_v7_7 step_7 n).trans rfl

/-- Before every step the hidden gate biases are the argument's. -/
theorem bh_at (n : ℕ) : (it m c n).main_v7_8 = m ((c.tc : Thread nD τ).loc main_arg11) :=
  (keep m c State.main_v7_8 step_8 n).trans rfl

/-- Before every step the query weights of the communication are the argument's. -/
theorem wqc_at (n : ℕ) : (it m c n).main_v7_9 = m ((c.tc : Thread nD τ).loc main_arg12) :=
  (keep m c State.main_v7_9 step_9 n).trans rfl

/-- Before every step the key weights of the communication are the argument's. -/
theorem wkc_at (n : ℕ) : (it m c n).main_v7_10 = m ((c.tc : Thread nD τ).loc main_arg13) :=
  (keep m c State.main_v7_10 step_10 n).trans rfl

/-- Before every step the value weights of the communication are the argument's. -/
theorem wvc_at (n : ℕ) : (it m c n).main_v7_11 = m ((c.tc : Thread nD τ).loc main_arg14) :=
  (keep m c State.main_v7_11 step_11 n).trans rfl

/-- Before every step the output weights of the communication are the argument's. -/
theorem wo_at (n : ℕ) : (it m c n).main_v7_12 = m ((c.tc : Thread nD τ).loc main_arg15) :=
  (keep m c State.main_v7_12 step_12 n).trans rfl

/-- Before every step the embedded inputs are the scan's. -/
theorem emb_at (n : ℕ) (t b : Fin 32) (x : Fin 1024) : ((it m c n).main_v7_0 : FVec Ideal S32x32x1024 .f32) (ix3 t b x) = emb (args m c) t b x :=
  (congrFun (keep m c State.main_v7_0 step_0 n) (ix3 t b x)).trans
    (A3_apply (m ((c : Thread nD τ).loc main_arg0) : FVec Ideal S32x32x1024 .f32) (m ((c : Thread nD τ).loc main_arg1) : FVec Ideal S1x32x2048 .f32) (m ((c : Thread nD τ).loc main_arg3) : FVec Ideal S1024x1024 .f32) (m ((c : Thread nD τ).loc main_arg4) : FVec Ideal S1024 .f32) t b x)

/-- Before every step the masks are the argument's. -/
theorem mask_at (n : ℕ) : (it m c n).main_v7_1 = m ((c.tc : Thread nD τ).loc main_arg2) :=
  (keep m c State.main_v7_1 step_1 n).trans rfl

variable {m c} (one : ∀ t b x, (m ((c : Thread nD τ).loc main_arg2) : FVec Ideal S32x32x2048 .f32) (ix3 t b x) = (1 : EReal))
include one

/-- What step `n` reads, when the state before it is the scan's. -/
theorem reads (n : ℕ) (hn : n < 32) (hh : ∀ n' b d, ((it m c n).main_v7_14 : FVec Ideal S32x2048 .f32) (ix2 b (col n' d)) = stateAt (args m c) n n' b d) :
    Reads n (it m c n) (emb (args m c) ⟨n, hn⟩) (args m c).a6 (args m c).a7 (args m c).W (stateAt (args m c) n) where
  e b x := (b3_apply n _ hn b x).trans (emb_at m c n ⟨n, hn⟩ b x)
  h := hh
  one b x := (b7_apply n _ hn b x).trans ((congrFun (mask_at m c n) (ix3 ⟨n, hn⟩ b x)).trans (one ⟨n, hn⟩ b x))
  wk x y := congrFun (wk_at m c n) (ix2 x y)
  wv x y := congrFun (wv_at m c n) (ix2 x y)
  wq x y := congrFun (wq_at m c n) (ix2 x y)
  wx x y z := congrFun (wx_at m c n) (ix3 x y z)
  bx x y := congrFun (bx_at m c n) (ix2 x y)
  wh x y z := congrFun (wh_at m c n) (ix3 x y z)
  bh x y := congrFun (bh_at m c n) (ix2 x y)
  wqc x y := congrFun (wqc_at m c n) (ix2 x y)
  wkc x y := congrFun (wkc_at m c n) (ix2 x y)
  wvc x y := congrFun (wvc_at m c n) (ix2 x y)
  wo x y := congrFun (wo_at m c n) (ix2 x y)

/-- Before step `n`, for `n` up to thirty-two, the reference's state is the scan's. -/
theorem state_at (n : ℕ) (hn : n ≤ 32) : ∀ n' b d, ((it m c n).main_v7_14 : FVec Ideal S32x2048 .f32) (ix2 b (col n' d)) = stateAt (args m c) n n' b d := by
  induction n with
  | zero => exact fun n' b d => A4_apply (m ((c : Thread nD τ).loc main_arg0) : FVec Ideal S32x32x1024 .f32) (m ((c : Thread nD τ).loc main_arg1) : FVec Ideal S1x32x2048 .f32) (m ((c : Thread nD τ).loc main_arg3) : FVec Ideal S1024x1024 .f32) (m ((c : Thread nD τ).loc main_arg4) : FVec Ideal S1024 .f32) b (col n' d)
  | succ n ih =>
    intro n' b d
    refine (b153_apply (reads one n hn (ih (Nat.le_of_succ_le hn))) b n' d).trans ?_
    rw [thr_eq, thr_eq]; rfl

/-- After `n` steps the outputs written so far are the scan's states. -/
theorem outs_at (n : ℕ) (hn : n ≤ 32) : ∀ (t : Fin 32), t.val < n → ∀ (b : Fin 32) (n' : Fin 8) (d : Fin 256),
    ((it m c n).main_v7_15 : FVec Ideal S32x32x2048 .f32) (ix3 t b (col n' d)) = stateAt (args m c) (t.val + 1) n' b d := by
  induction n with
  | zero => exact fun t ht => absurd ht (Nat.not_lt_zero _)
  | succ n ih =>
    intro t ht b n' d
    refine (b157_apply n (it m c n) hn t b (col n' d)).trans ?_
    by_cases e : t.val = n
    · rw [if_pos e, e]
      exact state_at one (n + 1) hn n' b d
    · rw [if_neg e]
      exact ih (Nat.le_of_succ_le hn) t (by omega) b n' d

/-- After `n` steps the block masks written so far are the scan's masks. -/
theorem masks_at (n : ℕ) (hn : n ≤ 32) : ∀ (t : Fin 32), t.val < n → ∀ (b : Fin 32) (n' : Fin 8),
    ((it m c n).main_v7_16 : FVec Ideal S32x32x8 .f32) (ix3 t b n') = maskAt (args m c) t.val n' b := by
  induction n with
  | zero => exact fun t ht => absurd ht (Nat.not_lt_zero _)
  | succ n ih =>
    intro t ht b n'
    refine (b161_apply n (it m c n) hn t b n').trans ?_
    by_cases e : t.val = n
    · rw [if_pos e, e, b65_apply (reads one n hn (state_at one n (Nat.le_of_succ_le hn))), thr_eq]; rfl
    · rw [if_neg e]
      exact ih (Nat.le_of_succ_le hn) t (by omega) b n'

end Cert.ReferenceIdeal.Ends
end
-- ==== Proof.Algebraic.lean ====
module

public import proofs.«01_k».proof.Defs
public import proofs.«01_k».proof.Proof.Frames
public import proofs.«01_k».proof.Proof.Rim.Ends
public import proofs.«01_k».proof.Proof.Ref.Ends

@[expose] public section
noncomputable section

/-! # The kernel's results are the reference's

Both are the scan's states and masks, at arguments that agree. -/

namespace Cert.Algebraic
open Cert.Scan Idealize.ShloMosaic Idealize.ShloMosaic.TcCoe

/-- The precondition's side condition. -/
theorem pre_facts : Cert.Pre_masks_one.Facts := ⟨by decide⟩

attribute [local instance] pre_facts

/-- Two lists of the scan's arguments are equal when their parts are. -/
theorem args_ext {A B : Args} (a0 : A.a0 = B.a0) (h : A.h = B.h) (a3 : A.a3 = B.a3) (a4 : A.a4 = B.a4) (a6 : A.a6 = B.a6) (a7 : A.a7 = B.a7) (W : A.W = B.W) : A = B := by
  obtain ⟨_, _, _, _, _, _, _⟩ := A
  obtain ⟨_, _, _, _, _, _, _⟩ := B
  cases a0; cases h; cases a3; cases a4; cases a6; cases a7; cases W
  rfl

/-- Two lists of the scan's weights are equal when their parts are. -/
theorem wt_ext {A B : Wt} (wq : A.wq = B.wq) (wx : A.wx = B.wx) (bx : A.bx = B.bx) (wh : A.wh = B.wh) (bh : A.bh = B.bh) (wqc : A.wqc = B.wqc) (wkc : A.wkc = B.wkc) (wvc : A.wvc = B.wvc) (wo : A.wo = B.wo) : A = B := by
  obtain ⟨_, _, _, _, _, _, _, _, _⟩ := A
  obtain ⟨_, _, _, _, _, _, _, _, _⟩ := B
  cases wq; cases wx; cases bx; cases wh; cases bh; cases wqc; cases wkc; cases wvc; cases wo
  rfl

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ} {c : Dev Cert.KernelIdeal.nD}

/-- What the claim assumes of the two programs' arguments: they are the same. -/
abbrev Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)

/-- The scan's arguments are the same for both programs. -/
theorem args_eq (H : Agree m m' c) : Cert.ReferenceIdeal.Ends.args m' c = Cert.KernelIdeal.Ends.args m c := by
  obtain ⟨h0, h1, h2, h3, h4, h5, h6, h7, h8, h9, h10, h11, h12, h13, h14, h15⟩ := H
  exact args_ext (funext fun x => funext fun y => funext fun z => congrFun h0 (ix3 x y z)) (funext fun x => funext fun y => funext fun z => congrFun h1 (ix3 0 y (Cert.KernelIdeal.Ends.col x z)))
    (funext fun x => funext fun y => congrFun h3 (ix2 x y)) (funext fun x => congrFun h4 (ix1 x)) (funext fun x => funext fun y => congrFun h6 (ix2 x y)) (funext fun x => funext fun y => congrFun h7 (ix2 x y))
    (wt_ext (funext fun x => funext fun y => congrFun h5 (ix2 x y)) (funext fun x => funext fun y => funext fun z => congrFun h8 (ix3 x y z)) (funext fun x => funext fun y => congrFun h10 (ix2 x y)) (funext fun x => funext fun y => funext fun z => congrFun h9 (ix3 x y z)) (funext fun x => funext fun y => congrFun h11 (ix2 x y)) (funext fun x => funext fun y => congrFun h12 (ix2 x y)) (funext fun x => funext fun y => congrFun h13 (ix2 x y)) (funext fun x => funext fun y => congrFun h14 (ix2 x y)) (funext fun x => funext fun y => congrFun h15 (ix2 x y)))

/-- An ordered comparison that says yes compares equal values. -/
theorem eq_of_oeq {s : Shape} {x y : FVec Ideal s .f32} (h : cmpf (F := Ideal) .oeq x y = fun _ => 1#1) (i : s.Idx) : x i = y i := by
  have h' : FloatOps.cmpf (F := Ideal) .oeq (x i) (y i) = 1#1 := congrFun h i
  have h2 : BitVec.ofBool (decide ((x i : EReal) = y i)) = 1#1 := h'
  by_contra hne
  rw [decide_eq_false hne] at h2
  exact absurd h2 (by decide)

/-- The precondition says that every entry of `masks` is one. -/
theorem masks_one (pre : Pre_KernelIdeal_masks_one m) (t b : Fin 32) (x : Fin 2048) :
    (m ((c.tc : Thread Cert.KernelIdeal.nD Cert.KernelIdeal.τ).loc Cert.KernelIdeal.main_arg2) : FVec Ideal Cert.KernelIdeal.S32x32x2048 .f32) (ix3 t b x) = (1 : EReal) :=
  (eq_of_oeq (pre c) (ix3 t b x)).trans Idealize.ShloMosaic.Ideal.ofBits_one_f32

/-- Every column is the column of a block and a place in it. -/
theorem col_eq (x : Fin 2048) : x = Cert.KernelIdeal.Ends.col ⟨x.val / 256, by omega⟩ ⟨x.val % 256, by omega⟩ :=
  Fin.ext (by show x.val = x.val / 256 * 256 + x.val % 256; omega)

/-- Two arrays of three axes, the last of the state's width, are equal when they are equal at every block and place. -/
theorem ext_col {a : ℕ} {f g : FVec Ideal ⟨3, ![a, 32, 2048]⟩ .f32}
    (h : ∀ t b n d, f (ix3 t b (Cert.KernelIdeal.Ends.col n d)) = g (ix3 t b (Cert.KernelIdeal.Ends.col n d))) : f = g := by
  funext i
  rw [eq_ix3 i, col_eq (i 2)]
  exact h _ _ _ _

/-- Two arrays of three axes are equal when they are equal everywhere. -/
theorem ext_ix3 {a b e : ℕ} {f g : FVec Ideal ⟨3, ![a, b, e]⟩ .f32} (h : ∀ x y z, f (ix3 x y z) = g (ix3 x y z)) : f = g := by
  funext i
  rw [eq_ix3 i]
  exact h _ _ _

section
variable (pre : Pre_KernelIdeal_masks_one m) (H : Agree m m' c)
include pre H

/-- So the reference's `masks` is one everywhere too. -/
theorem one_ref (t b : Fin 32) (x : Fin 2048) :
    (m' ((c : Thread Cert.ReferenceIdeal.nD Cert.ReferenceIdeal.τ).loc Cert.ReferenceIdeal.main_arg2) : FVec Ideal Cert.ReferenceIdeal.S32x32x2048 .f32) (ix3 t b x) = (1 : EReal) :=
  (congrFun H.2.2.1 (ix3 t b x)).trans (masks_one pre t b x)

/-- The outputs of all steps. -/
theorem outs_eq : ((Cert.ReferenceIdeal.Ends.it m' c 32).main_v7_15 : FVec Ideal ⟨3, ![32, 32, 2048]⟩ .f32)
    = (Cert.KernelIdeal.Whole.U5 m c (Proc.devRef .tc Cert.KernelIdeal.main_v14) : FVec Ideal ⟨3, ![32, 32, 2048]⟩ .f32) :=
  ext_col fun t b n d => (Cert.ReferenceIdeal.Ends.outs_at (one_ref pre H) 32 le_rfl t t.isLt b n d).trans
    ((congrArg (fun A => stateAt A (t.val + 1) n b d) (args_eq H)).trans (Cert.KernelIdeal.Ends.U5_v14 m c t b n d).symm)

/-- The state after the last step. -/
theorem hidden_eq : (Cert.ReferenceIdeal.Step.R_main_v8 (Cert.ReferenceIdeal.Ends.it m' c 32) : FVec Ideal ⟨3, ![1, 32, 2048]⟩ .f32)
    = (Cert.KernelIdeal.Whole.U5 m c (Proc.devRef .tc Cert.KernelIdeal.main_v17) : FVec Ideal ⟨3, ![1, 32, 2048]⟩ .f32) :=
  ext_col fun t b n d => by
    obtain rfl : t = 0 := Subsingleton.elim _ _
    exact (Cert.ReferenceIdeal.Ends.R8_apply _ b _).trans ((Cert.ReferenceIdeal.Ends.state_at (one_ref pre H) 32 le_rfl n b d).trans
      ((congrArg (fun A => stateAt A 32 n b d) (args_eq H)).trans (Cert.KernelIdeal.Ends.U5_v17 m c b n d).symm))

/-- The block masks of all steps. -/
theorem masks_eq : ((Cert.ReferenceIdeal.Ends.it m' c 32).main_v7_16 : FVec Ideal ⟨3, ![32, 32, 8]⟩ .f32)
    = (Cert.KernelIdeal.Whole.U5 m c (Proc.devRef .tc Cert.KernelIdeal.main_v18) : FVec Ideal ⟨3, ![32, 32, 8]⟩ .f32) :=
  ext_ix3 fun t b n => (Cert.ReferenceIdeal.Ends.masks_at (one_ref pre H) 32 le_rfl t t.isLt b n).trans
    ((congrArg (fun A => maskAt A t.val n b) (args_eq H)).trans (Cert.KernelIdeal.Ends.U5_v18 m c t b n).symm)

end

/-- Where `masks` is one everywhere, the kernel and the reference end with the same three results. -/
theorem algebraic : @algebraic_KernelIdeal_ReferenceIdeal_pre_masks_one Cert.KernelIdeal.Gen.facts Cert.ReferenceIdeal.Gen.facts pre_facts :=
  fun m g m' g' pre H =>
    ⟨fun c => Cert.KernelIdeal.Whole.U5 m c (Proc.devRef .tc Cert.KernelIdeal.main_v14),
      fun c => Cert.KernelIdeal.Whole.U5 m c (Proc.devRef .tc Cert.KernelIdeal.main_v17),
      fun c => Cert.KernelIdeal.Whole.U5 m c (Proc.devRef .tc Cert.KernelIdeal.main_v18),
      (θ_run _ _ _).mono (fun r h c => ⟨(h.1 c).1.1, (h.1 c).1.2.1, (h.1 c).1.2.2, (h.1 c).2⟩) (Cert.Frames.kernel_run m g),
      (θ_run _ _ _).mono (fun r h c => ⟨(h c).1.trans (outs_eq pre (H c)), (h c).2.1.trans (hidden_eq pre (H c)), (h c).2.2.1.trans (masks_eq pre (H c)), (h c).2.2.2⟩)
        (Cert.ReferenceIdeal.ScanRun.run_iter m' g' (fun c n => Cert.ReferenceIdeal.Ends.it m' c n) (fun _ => rfl) (fun _ _ => rfl))⟩

end Cert.Algebraic
end
-- ==== Proof.lean ====
module

public import proofs.«01_k».proof.Defs
public import proofs.«01_k».proof.Proof.Frames
public import proofs.«01_k».proof.Proof.Algebraic
public import proofs.«01_k».proof.Proof.Gen.ReferenceIdeal

@[expose] public section

noncomputable section

namespace Cert.Proof

/-- The three programs end with their arguments unchanged, the idealization rewrites nothing, and where `masks` is one everywhere the
    kernel's three results are the reference's. -/
theorem claim : Cert.Claim := ⟨Cert.Kernel.Gen.facts, Cert.KernelIdeal.Gen.facts, Cert.ReferenceIdeal.Gen.facts, Cert.Algebraic.pre_facts,
  fun m g _ => Cert.Frames.kernel m g, fun m g _ => Cert.Frames.kernel_ideal m g, fun m g _ => Cert.Frames.kernel_ideal m g,
  fun m g _ => Cert.Frames.reference m g, fun m g _ => Cert.Frames.reference m g, trivial, Cert.Algebraic.algebraic⟩

end Cert.Proof

end
